-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_ColumnsIdeal (m : (ℓ : Loc Cert.ColumnsIdeal.nD Cert.ColumnsIdeal.τ Cert.ColumnsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_ColumnsIdeal [hColumnsIdeal : Cert.ColumnsIdeal.Facts] : Prop :=
  ∀ (m : (ℓ : Loc Cert.ColumnsIdeal.nD Cert.ColumnsIdeal.τ Cert.ColumnsIdeal.sig) → Buf (Elt Ideal) ℓ) (g : Dev Cert.ColumnsIdeal.nD → PrngReg), Pre_ColumnsIdeal m →
    θ_run (Cert.ColumnsIdeal.defs (F := Ideal)) (onTc (τ := Cert.ColumnsIdeal.τ) (Cert.ColumnsIdeal.main (F := Ideal))) ⟨m, fun _ => 0, g⟩ (fun r => (∀ c : Dev Cert.ColumnsIdeal.nD,
      r.2.mem ((c.tc : Thread Cert.ColumnsIdeal.nD Cert.ColumnsIdeal.τ).loc Cert.ColumnsIdeal.main_arg0) = m ((c.tc : Thread Cert.ColumnsIdeal.nD Cert.ColumnsIdeal.τ).loc Cert.ColumnsIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 3072]⟩ ⟨2, ![32768, 3072]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![2048, 8192]⟩ ⟨2, ![16384, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_Gather_GatherIdeal : Prop :=
  True

def algebraic_GatherIdeal_ColumnsIdeal [hGatherIdeal : Cert.GatherIdeal.Facts] [hColumnsIdeal : Cert.ColumnsIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.ColumnsIdeal.nD Cert.ColumnsIdeal.τ Cert.ColumnsIdeal.sig) → Buf (Elt Ideal) ℓ) (g' : Dev Cert.ColumnsIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![4096, 4096]⟩ ⟨2, ![8192, 4096]⟩ (Layout.meshBlock [2, 2, 2] ![[1], []] c) (m' (((0 : Dev Cert.ColumnsIdeal.nD).tc : Thread Cert.ColumnsIdeal.nD Cert.ColumnsIdeal.τ).loc Cert.ColumnsIdeal.main_arg0))) →
    ∃ (v0 : Buf (Elt Ideal) (((0 : Dev Cert.ColumnsIdeal.nD).tc : Thread Cert.ColumnsIdeal.nD Cert.ColumnsIdeal.τ).loc Cert.ColumnsIdeal.main_v58)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v52) = Layout.block ⟨2, ![4096, 3072]⟩ ⟨2, ![32768, 3072]⟩ 0 8 c v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.ColumnsIdeal.defs (F := Ideal)) (onTc (τ := Cert.ColumnsIdeal.τ) (Cert.ColumnsIdeal.main (F := Ideal))) ⟨m', fun _ => 0, g'⟩ (fun r =>
          r.2.mem (((0 : Dev Cert.ColumnsIdeal.nD).tc : Thread Cert.ColumnsIdeal.nD Cert.ColumnsIdeal.τ).loc Cert.ColumnsIdeal.main_v58) = v0
          ∧ r.2.mem (((0 : Dev Cert.ColumnsIdeal.nD).tc : Thread Cert.ColumnsIdeal.nD Cert.ColumnsIdeal.τ).loc Cert.ColumnsIdeal.main_arg0) = m' (((0 : Dev Cert.ColumnsIdeal.nD).tc : Thread Cert.ColumnsIdeal.nD Cert.ColumnsIdeal.τ).loc Cert.ColumnsIdeal.main_arg0))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hColumnsIdeal : Cert.ColumnsIdeal.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather)
    ∧ quiescent_GatherIdeal (hGatherIdeal := hGatherIdeal)
    ∧ quiescent_ColumnsIdeal (hColumnsIdeal := hColumnsIdeal)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_ColumnsIdeal (hGatherIdeal := hGatherIdeal) (hColumnsIdeal := hColumnsIdeal)
-- ==== Kernel.lean ====
abbrev S4096x3072 : Shape := ⟨2, ![4096, 3072]⟩
abbrev S4096x8192 : Shape := ⟨2, ![4096, 8192]⟩
abbrev S2048x8192 : Shape := ⟨2, ![2048, 8192]⟩
abbrev S512x1024 : Shape := ⟨2, ![512, 1024]⟩
abbrev S2048x1024 : Shape := ⟨2, ![2048, 1024]⟩
abbrev S3072x1024 : Shape := ⟨2, ![3072, 1024]⟩
abbrev S2x2x512x1024 : Shape := ⟨4, ![2, 2, 512, 1024]⟩
abbrev S2x8 : Shape := ⟨2, ![2, 8]⟩
abbrev S512x3072 : Shape := ⟨2, ![512, 3072]⟩
abbrev S1x1 : Shape := ⟨2, ![1, 1]⟩
abbrev S_ : Shape := ⟨0, ![]⟩
abbrev S1x1x512x1024 : Shape := ⟨4, ![1, 1, 512, 1024]⟩
abbrev S128x8192 : Shape := ⟨2, ![128, 8192]⟩

abbrev nBuf : Space → Nat
  | .hbm => 5
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S4096x8192, .bf16⟩
  | .hbm, ⟨2, _⟩ => ⟨S2048x8192, .bf16⟩
  | .hbm, ⟨3, _⟩ => ⟨S2048x8192, .bf16⟩
  | .hbm, ⟨4, _⟩ => ⟨S2048x8192, .f32⟩
  | .local _ .vmem, ⟨0, _⟩ => ⟨S4096x3072, .bf16⟩
  | .local _ .vmem, ⟨1, _⟩ => ⟨S512x1024, .bf16⟩
  | .local _ .vmem, ⟨2, _⟩ => ⟨S512x1024, .bf16⟩
  | .local _ .vmem, ⟨3, _⟩ => ⟨S2048x1024, .bf16⟩
  | .local _ .vmem, ⟨4, _⟩ => ⟨S2048x1024, .bf16⟩
  | .local _ .vmem, ⟨5, _⟩ => ⟨S3072x1024, .f32⟩
  | .local _ .vmem, ⟨6, _⟩ => ⟨S2x2x512x1024, .bf16⟩
  | .local _ .vmem, ⟨7, _⟩ => ⟨S128x8192, .bf16⟩
  | .local _ .vmem, ⟨8, _⟩ => ⟨S128x8192, .bf16⟩
  | .local _ .vmem, ⟨9, _⟩ => ⟨S128x8192, .bf16⟩
  | .local _ .vmem, ⟨10, _⟩ => ⟨S128x8192, .bf16⟩
  | .local _ .vmem, ⟨11, _⟩ => ⟨S128x8192, .f32⟩
  | .local _ .vmem, ⟨12, _⟩ => ⟨S128x8192, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 69
abbrev cc1_sem0_1 : DmaSem sig := 70
abbrev cc1_sem1_0 : DmaSem sig := 71
abbrev cc1_sem1_1 : DmaSem sig := 72
abbrev cc1_sem2_0 : DmaSem sig := 73
abbrev cc1_sem2_1 : DmaSem sig := 74

abbrev nD : Nat := 8
abbrev τ : Topo := Topo.v7x

variable {F : FTy → Type} [FloatOps F]

abbrev grid0 : Pipeline.Grid := ⟨2, ![8, 8], ![false, false]⟩

def k0_off1 (i : grid0.Coords) : Fin 2 → Nat :=
  let arg1 : BitVec 32 := BitVec.ofNat 32 (i 1).val
  let c512_i32 : BitVec 32 := 512#32
  let v69 : BitVec 32 := Scalar.muli arg1 c512_i32
  let v70 : Index := Scalar.indexCast v69
  let c0_38 : Index := 0#32
  ![v70.toNat, 0]
def k0_cond2 (i : grid0.Coords) : BitVec 1 :=
  let arg1 : BitVec 32 := BitVec.ofNat 32 (i 1).val
  let c7_i32 : BitVec 32 := 7#32
  let v80 : BitVec 1 := Scalar.cmpi .eq arg1 c7_i32
  let v81 : BitVec 32 := Scalar.extui v80
  let c0_i32_43 : BitVec 32 := 0#32
  let v82 : BitVec 1 := Scalar.cmpi .ne v81 c0_i32_43
  v82

def k0_cond3 (i : grid0.Coords) : BitVec 1 :=
  let arg0 : BitVec 32 := BitVec.ofNat 32 (i 0).val
  let c2_i32_53 : BitVec 32 := 2#32
  let v96 : BitVec 1 := Scalar.cmpi .sge arg0 c2_i32_53
  let v97 : BitVec 32 := Scalar.extui v96
  let c0_i32_54 : BitVec 32 := 0#32
  let v98 : BitVec 1 := Scalar.cmpi .ne v97 c0_i32_54
  v98

def k0_off2 (i : grid0.Coords) : Fin 2 → Nat :=
  let c0_i32_118 : BitVec 32 := 0#32
  let arg0 : BitVec 32 := BitVec.ofNat 32 (i 0).val
  let c2_i32_108 : BitVec 32 := 2#32
  let v181 : BitVec 32 := Scalar.subi arg0 c2_i32_108
  ![0, v181.toNat]
def k0_off3 (i : grid0.Coords) : Fin 4 → Nat :=
  let c0_i32_117 : BitVec 32 := 0#32
  let arg0 : BitVec 32 := BitVec.ofNat 32 (i 0).val
  let c2_i32_108 : BitVec 32 := 2#32
  let v181 : BitVec 32 := Scalar.subi arg0 c2_i32_108
  let c2_i32_109 : BitVec 32 := 2#32
  let c0_i32_110 : BitVec 32 := 0#32
  let v182 : BitVec 1 := Scalar.cmpi .eq c2_i32_109 c0_i32_110
  let c1_i32_111 : BitVec 32 := 1#32
  let v183 : BitVec 32 := Scalar.select v182 c1_i32_111 c2_i32_109
  let v184 : BitVec 32 := Scalar.remsi v181 v183
  let c0_i32_113 : BitVec 32 := 0#32
  let v186 : BitVec 1 := Scalar.cmpi .slt v184 c0_i32_113
  let c0_i32_114 : BitVec 32 := 0#32
  let v187 : BitVec 1 := Scalar.cmpi .slt v183 c0_i32_114
  let v188 : BitVec 1 := Scalar.xori v186 v187
  let c0_i32_112 : BitVec 32 := 0#32
  let v185 : BitVec 1 := Scalar.cmpi .ne v184 c0_i32_112
  let v189 : BitVec 1 := Scalar.andi v188 v185
  let v190 : BitVec 32 := Scalar.addi v184 v183
  let v191 : BitVec 32 := Scalar.select v189 v190 v184
  let c0_i32_121 : BitVec 32 := 0#32
  let c0_i32_122 : BitVec 32 := 0#32
  ![0, v191.toNat, 0, 0]
def k0_off4 (i : grid0.Coords) (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c512_i32_115 : BitVec 32 := 512#32
  let v192 : BitVec 32 := Scalar.muli v12 c512_i32_115
  let arg0 : BitVec 32 := BitVec.ofNat 32 (i 0).val
  let c2_i32_108 : BitVec 32 := 2#32
  let v181 : BitVec 32 := Scalar.subi arg0 c2_i32_108
  let c1024_i32_116 : BitVec 32 := 1024#32
  let v193 : BitVec 32 := Scalar.muli v181 c1024_i32_116
  ![v192.toNat, v193.toNat]
def k0_off5 (i : grid0.Coords) : Fin 2 → Nat :=
  let c1_i32_133 : BitVec 32 := 1#32
  let arg0 : BitVec 32 := BitVec.ofNat 32 (i 0).val
  let c2_i32_123 : BitVec 32 := 2#32
  let v199 : BitVec 32 := Scalar.subi arg0 c2_i32_123
  ![1, v199.toNat]
def k0_off6 (i : grid0.Coords) : Fin 4 → Nat :=
  let c1_i32_132 : BitVec 32 := 1#32
  let arg0 : BitVec 32 := BitVec.ofNat 32 (i 0).val
  let c2_i32_123 : BitVec 32 := 2#32
  let v199 : BitVec 32 := Scalar.subi arg0 c2_i32_123
  let c2_i32_124 : BitVec 32 := 2#32
  let c0_i32_125 : BitVec 32 := 0#32
  let v200 : BitVec 1 := Scalar.cmpi .eq c2_i32_124 c0_i32_125
  let c1_i32_126 : BitVec 32 := 1#32
  let v201 : BitVec 32 := Scalar.select v200 c1_i32_126 c2_i32_124
  let v202 : BitVec 32 := Scalar.remsi v199 v201
  let c0_i32_128 : BitVec 32 := 0#32
  let v204 : BitVec 1 := Scalar.cmpi .slt v202 c0_i32_128
  let c0_i32_129 : BitVec 32 := 0#32
  let v205 : BitVec 1 := Scalar.cmpi .slt v201 c0_i32_129
  let v206 : BitVec 1 := Scalar.xori v204 v205
  let c0_i32_127 : BitVec 32 := 0#32
  let v203 : BitVec 1 := Scalar.cmpi .ne v202 c0_i32_127
  let v207 : BitVec 1 := Scalar.andi v206 v203
  let v208 : BitVec 32 := Scalar.addi v202 v201
  let v209 : BitVec 32 := Scalar.select v207 v208 v202
  let c0_i32_136 : BitVec 32 := 0#32
  let c0_i32_137 : BitVec 32 := 0#32
  ![1, v209.toNat, 0, 0]
def k0_off7 (i : grid0.Coords) (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c2_i32_5 : BitVec 32 := 2#32
  let v13 : BitVec 32 := Scalar.addi v12 c2_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c512_i32_130 : BitVec 32 := 512#32
  let v210 : BitVec 32 := Scalar.muli v23 c512_i32_130
  let arg0 : BitVec 32 := BitVec.ofNat 32 (i 0).val
  let c2_i32_123 : BitVec 32 := 2#32
  let v199 : BitVec 32 := Scalar.subi arg0 c2_i32_123
  let c1024_i32_131 : BitVec 32 := 1024#32
  let v211 : BitVec 32 := Scalar.muli v199 c1024_i32_131
  ![v210.toNat, v211.toNat]
def k0_off8 (i : grid0.Coords) : Fin 4 → Nat :=
  let c0_63 : Index := 0#32
  let arg0 : BitVec 32 := BitVec.ofNat 32 (i 0).val
  let c2_i32_57 : BitVec 32 := 2#32
  let c0_i32_58 : BitVec 32 := 0#32
  let v101 : BitVec 1 := Scalar.cmpi .eq c2_i32_57 c0_i32_58
  let c1_i32_59 : BitVec 32 := 1#32
  let v102 : BitVec 32 := Scalar.select v101 c1_i32_59 c2_i32_57
  let v103 : BitVec 32 := Scalar.remsi arg0 v102
  let c0_i32_61 : BitVec 32 := 0#32
  let v105 : BitVec 1 := Scalar.cmpi .slt v103 c0_i32_61
  let c0_i32_62 : BitVec 32 := 0#32
  let v106 : BitVec 1 := Scalar.cmpi .slt v102 c0_i32_62
  let v107 : BitVec 1 := Scalar.xori v105 v106
  let c0_i32_60 : BitVec 32 := 0#32
  let v104 : BitVec 1 := Scalar.cmpi .ne v103 c0_i32_60
  let v108 : BitVec 1 := Scalar.andi v107 v104
  let v109 : BitVec 32 := Scalar.addi v103 v102
  let v110 : BitVec 32 := Scalar.select v108 v109 v103
  let v111 : Index := Scalar.indexCast v110
  let c0_64 : Index := 0#32
  let c0_65 : Index := 0#32
  ![0, v111.toNat, 0, 0]
def k0_off9 (i : grid0.Coords) : Fin 4 → Nat :=
  let c1 : Index := 1#32
  let arg0 : BitVec 32 := BitVec.ofNat 32 (i 0).val
  let c2_i32_67 : BitVec 32 := 2#32
  let c0_i32_68 : BitVec 32 := 0#32
  let v117 : BitVec 1 := Scalar.cmpi .eq c2_i32_67 c0_i32_68
  let c1_i32_69 : BitVec 32 := 1#32
  let v118 : BitVec 32 := Scalar.select v117 c1_i32_69 c2_i32_67
  let v119 : BitVec 32 := Scalar.remsi arg0 v118
  let c0_i32_71 : BitVec 32 := 0#32
  let v121 : BitVec 1 := Scalar.cmpi .slt v119 c0_i32_71
  let c0_i32_72 : BitVec 32 := 0#32
  let v122 : BitVec 1 := Scalar.cmpi .slt v118 c0_i32_72
  let v123 : BitVec 1 := Scalar.xori v121 v122
  let c0_i32_70 : BitVec 32 := 0#32
  let v120 : BitVec 1 := Scalar.cmpi .ne v119 c0_i32_70
  let v124 : BitVec 1 := Scalar.andi v123 v120
  let v125 : BitVec 32 := Scalar.addi v119 v118
  let v126 : BitVec 32 := Scalar.select v124 v125 v119
  let v127 : Index := Scalar.indexCast v126
  let c0_73 : Index := 0#32
  let c0_74 : Index := 0#32
  ![1, v127.toNat, 0, 0]
def k0_off10 (i : grid0.Coords) : Fin 2 → Nat :=
  let c0_i32_84 : BitVec 32 := 0#32
  let arg0 : BitVec 32 := BitVec.ofNat 32 (i 0).val
  ![0, arg0.toNat]
def k0_off11 (i : grid0.Coords) (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c512_i32_81 : BitVec 32 := 512#32
  let v141 : BitVec 32 := Scalar.muli v12 c512_i32_81
  let arg0 : BitVec 32 := BitVec.ofNat 32 (i 0).val
  let c1024_i32 : BitVec 32 := 1024#32
  let v142 : BitVec 32 := Scalar.muli arg0 c1024_i32
  ![v141.toNat, v142.toNat]
def k0_off12 (i : grid0.Coords) : Fin 4 → Nat :=
  let c0_i32_82 : BitVec 32 := 0#32
  let arg0 : BitVec 32 := BitVec.ofNat 32 (i 0).val
  let c2_i32_75 : BitVec 32 := 2#32
  let c0_i32_76 : BitVec 32 := 0#32
  let v131 : BitVec 1 := Scalar.cmpi .eq c2_i32_75 c0_i32_76
  let c1_i32_77 : BitVec 32 := 1#32
  let v132 : BitVec 32 := Scalar.select v131 c1_i32_77 c2_i32_75
  let v133 : BitVec 32 := Scalar.remsi arg0 v132
  let c0_i32_79 : BitVec 32 := 0#32
  let v135 : BitVec 1 := Scalar.cmpi .slt v133 c0_i32_79
  let c0_i32_80 : BitVec 32 := 0#32
  let v136 : BitVec 1 := Scalar.cmpi .slt v132 c0_i32_80
  let v137 : BitVec 1 := Scalar.xori v135 v136
  let c0_i32_78 : BitVec 32 := 0#32
  let v134 : BitVec 1 := Scalar.cmpi .ne v133 c0_i32_78
  let v138 : BitVec 1 := Scalar.andi v137 v134
  let v139 : BitVec 32 := Scalar.addi v133 v132
  let v140 : BitVec 32 := Scalar.select v138 v139 v133
  let c0_i32_89 : BitVec 32 := 0#32
  let c0_i32_90 : BitVec 32 := 0#32
  ![0, v140.toNat, 0, 0]
def k0_dev1 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v143 : BitVec 32 := Scalar.muli v2 c4_i32_85
  let v144 : BitVec 32 := Scalar.addi c0_i32_86 v143
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_87 : BitVec 32 := 2#32
  let v145 : BitVec 32 := Scalar.muli v9 c2_i32_87
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v147 : BitVec 32 := Scalar.muli v8 c1_i32_88
  let v148 : BitVec 32 := Scalar.addi v146 v147
  v148.toNat
def k0_off13 (i : grid0.Coords) : Fin 2 → Nat :=
  let c1_i32_101 : BitVec 32 := 1#32
  let arg0 : BitVec 32 := BitVec.ofNat 32 (i 0).val
  ![1, arg0.toNat]
def k0_off14 (i : grid0.Coords) (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c2_i32_5 : BitVec 32 := 2#32
  let v13 : BitVec 32 := Scalar.addi v12 c2_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c512_i32_97 : BitVec 32 := 512#32
  let v166 : BitVec 32 := Scalar.muli v23 c512_i32_97
  let arg0 : BitVec 32 := BitVec.ofNat 32 (i 0).val
  let c1024_i32_98 : BitVec 32 := 1024#32
  let v167 : BitVec 32 := Scalar.muli arg0 c1024_i32_98
  ![v166.toNat, v167.toNat]
def k0_off15 (i : grid0.Coords) : Fin 4 → Nat :=
  let c1_i32_99 : BitVec 32 := 1#32
  let arg0 : BitVec 32 := BitVec.ofNat 32 (i 0).val
  let c2_i32_91 : BitVec 32 := 2#32
  let c0_i32_92 : BitVec 32 := 0#32
  let v156 : BitVec 1 := Scalar.cmpi .eq c2_i32_91 c0_i32_92
  let c1_i32_93 : BitVec 32 := 1#32
  let v157 : BitVec 32 := Scalar.select v156 c1_i32_93 c2_i32_91
  let v158 : BitVec 32 := Scalar.remsi arg0 v157
  let c0_i32_95 : BitVec 32 := 0#32
  let v160 : BitVec 1 := Scalar.cmpi .slt v158 c0_i32_95
  let c0_i32_96 : BitVec 32 := 0#32
  let v161 : BitVec 1 := Scalar.cmpi .slt v157 c0_i32_96
  let v162 : BitVec 1 := Scalar.xori v160 v161
  let c0_i32_94 : BitVec 32 := 0#32
  let v159 : BitVec 1 := Scalar.cmpi .ne v158 c0_i32_94
  let v163 : BitVec 1 := Scalar.andi v162 v159
  let v164 : BitVec 32 := Scalar.addi v158 v157
  let v165 : BitVec 32 := Scalar.select v163 v164 v158
  let c0_i32_106 : BitVec 32 := 0#32
  let c0_i32_107 : BitVec 32 := 0#32
  ![1, v165.toNat, 0, 0]
def k0_dev2 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v168 : BitVec 32 := Scalar.muli v2 c4_i32_102
  let v169 : BitVec 32 := Scalar.addi c0_i32_103 v168
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_104 : BitVec 32 := 2#32
  let v170 : BitVec 32 := Scalar.muli v9 c2_i32_104
  let v171 : BitVec 32 := Scalar.addi v169 v170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v172 : BitVec 32 := Scalar.muli v8 c1_i32_105
  let v173 : BitVec 32 := Scalar.addi v171 v172
  v173.toNat
def k0_cond4 (i : grid0.Coords) : BitVec 1 :=
  let arg0 : BitVec 32 := BitVec.ofNat 32 (i 0).val
  let c0_i32_44 : BitVec 32 := 0#32
  let v83 : BitVec 1 := Scalar.cmpi .sgt arg0 c0_i32_44
  let arg1 : BitVec 32 := BitVec.ofNat 32 (i 1).val
  let c4_i32_45 : BitVec 32 := 4#32
  let v84 : BitVec 1 := Scalar.cmpi .eq arg1 c4_i32_45
  let v85 : BitVec 1 := Scalar.andi v83 v84
  let v86 : BitVec 32 := Scalar.extui v85
  let c0_i32_46 : BitVec 32 := 0#32
  let v87 : BitVec 1 := Scalar.cmpi .ne v86 c0_i32_46
  v87

def k0_off16 (i : grid0.Coords) : Fin 2 → Nat :=
  let c0_i32_59 : BitVec 32 := 0#32
  let arg0 : BitVec 32 := BitVec.ofNat 32 (i 0).val
  let c1_i32_50 : BitVec 32 := 1#32
  let v93 : BitVec 32 := Scalar.subi arg0 c1_i32_50
  ![0, v93.toNat]
def k0_off17 (i : grid0.Coords) (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c512_i32_57 : BitVec 32 := 512#32
  let v104 : BitVec 32 := Scalar.muli v12 c512_i32_57
  let arg0 : BitVec 32 := BitVec.ofNat 32 (i 0).val
  let c1_i32_50 : BitVec 32 := 1#32
  let v93 : BitVec 32 := Scalar.subi arg0 c1_i32_50
  let c1024_i32 : BitVec 32 := 1024#32
  let v105 : BitVec 32 := Scalar.muli v93 c1024_i32
  ![v104.toNat, v105.toNat]
def k0_off18 (i : grid0.Coords) : Fin 4 → Nat :=
  let c0_i32_58 : BitVec 32 := 0#32
  let arg0 : BitVec 32 := BitVec.ofNat 32 (i 0).val
  let c1_i32_50 : BitVec 32 := 1#32
  let v93 : BitVec 32 := Scalar.subi arg0 c1_i32_50
  let c2_i32_51 : BitVec 32 := 2#32
  let c0_i32_52 : BitVec 32 := 0#32
  let v94 : BitVec 1 := Scalar.cmpi .eq c2_i32_51 c0_i32_52
  let c1_i32_53 : BitVec 32 := 1#32
  let v95 : BitVec 32 := Scalar.select v94 c1_i32_53 c2_i32_51
  let v96 : BitVec 32 := Scalar.remsi v93 v95
  let c0_i32_55 : BitVec 32 := 0#32
  let v98 : BitVec 1 := Scalar.cmpi .slt v96 c0_i32_55
  let c0_i32_56 : BitVec 32 := 0#32
  let v99 : BitVec 1 := Scalar.cmpi .slt v95 c0_i32_56
  let v100 : BitVec 1 := Scalar.xori v98 v99
  let c0_i32_54 : BitVec 32 := 0#32
  let v97 : BitVec 1 := Scalar.cmpi .ne v96 c0_i32_54
  let v101 : BitVec 1 := Scalar.andi v100 v97
  let v102 : BitVec 32 := Scalar.addi v96 v95
  let v103 : BitVec 32 := Scalar.select v101 v102 v96
  let c0_i32_65 : BitVec 32 := 0#32
  let c0_i32_66 : BitVec 32 := 0#32
  ![0, v103.toNat, 0, 0]
def k0_dev3 (d0 : Dev nD) : Nat :=
  let c0_i32_74 : BitVec 32 := 0#32
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c2_i32_24 : BitVec 32 := 2#32
  let c0_i32_25 : BitVec 32 := 0#32
  let v46 : BitVec 1 := Scalar.cmpi .eq c2_i32_24 c0_i32_25
  let c1_i32_26 : BitVec 32 := 1#32
  let v47 : BitVec 32 := Scalar.select v46 c1_i32_26 c2_i32_24
  let v48 : BitVec 32 := Scalar.remsi v12 v47
  let c0_i32_28 : BitVec 32 := 0#32
  let v50 : BitVec 1 := Scalar.cmpi .slt v48 c0_i32_28
  let c0_i32_29 : BitVec 32 := 0#32
  let v51 : BitVec 1 := Scalar.cmpi .slt v47 c0_i32_29
  let v52 : BitVec 1 := Scalar.xori v50 v51
  let c0_i32_27 : BitVec 32 := 0#32
  let v49 : BitVec 1 := Scalar.cmpi .ne v48 c0_i32_27
  let v53 : BitVec 1 := Scalar.andi v52 v49
  let v54 : BitVec 32 := Scalar.addi v48 v47
  let v55 : BitVec 32 := Scalar.select v53 v54 v48
  let c0_i32_30 : BitVec 32 := 0#32
  let v56 : BitVec 1 := Scalar.cmpi .eq v55 c0_i32_30
  let c1_i32_31 : BitVec 32 := 1#32
  let v57 : BitVec 32 := Scalar.subi c1_i32_31 v2
  let v58 : BitVec 32 := Scalar.select v56 v2 v57
  let c4_i32_73 : BitVec 32 := 4#32
  let v121 : BitVec 32 := Scalar.muli v58 c4_i32_73
  let v122 : BitVec 32 := Scalar.addi c0_i32_74 v121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v123 : BitVec 32 := Scalar.muli v5 c2_i32_75
  let v124 : BitVec 32 := Scalar.addi v122 v123
  let c1_i32_32 : BitVec 32 := 1#32
  let v59 : BitVec 32 := Scalar.subi c1_i32_32 v8
  let v60 : BitVec 32 := Scalar.select v56 v59 v8
  let c1_i32_76 : BitVec 32 := 1#32
  let v125 : BitVec 32 := Scalar.muli v60 c1_i32_76
  let v126 : BitVec 32 := Scalar.addi v124 v125
  v126.toNat
def k0_off19 (i : grid0.Coords) : Fin 2 → Nat :=
  let c1_i32_82 : BitVec 32 := 1#32
  let arg0 : BitVec 32 := BitVec.ofNat 32 (i 0).val
  let c1_i32_50 : BitVec 32 := 1#32
  let v93 : BitVec 32 := Scalar.subi arg0 c1_i32_50
  ![1, v93.toNat]
def k0_dev4 (d0 : Dev nD) : Nat :=
  let c0_i32_84 : BitVec 32 := 0#32
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c2_i32_24 : BitVec 32 := 2#32
  let c0_i32_25 : BitVec 32 := 0#32
  let v46 : BitVec 1 := Scalar.cmpi .eq c2_i32_24 c0_i32_25
  let c1_i32_26 : BitVec 32 := 1#32
  let v47 : BitVec 32 := Scalar.select v46 c1_i32_26 c2_i32_24
  let v48 : BitVec 32 := Scalar.remsi v12 v47
  let c0_i32_28 : BitVec 32 := 0#32
  let v50 : BitVec 1 := Scalar.cmpi .slt v48 c0_i32_28
  let c0_i32_29 : BitVec 32 := 0#32
  let v51 : BitVec 1 := Scalar.cmpi .slt v47 c0_i32_29
  let v52 : BitVec 1 := Scalar.xori v50 v51
  let c0_i32_27 : BitVec 32 := 0#32
  let v49 : BitVec 1 := Scalar.cmpi .ne v48 c0_i32_27
  let v53 : BitVec 1 := Scalar.andi v52 v49
  let v54 : BitVec 32 := Scalar.addi v48 v47
  let v55 : BitVec 32 := Scalar.select v53 v54 v48
  let c0_i32_30 : BitVec 32 := 0#32
  let v56 : BitVec 1 := Scalar.cmpi .eq v55 c0_i32_30
  let c1_i32_33 : BitVec 32 := 1#32
  let v61 : BitVec 32 := Scalar.subi c1_i32_33 v2
  let v62 : BitVec 32 := Scalar.select v56 v61 v2
  let c4_i32_83 : BitVec 32 := 4#32
  let v137 : BitVec 32 := Scalar.muli v62 c4_i32_83
  let v138 : BitVec 32 := Scalar.addi c0_i32_84 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v139 : BitVec 32 := Scalar.muli v5 c2_i32_85
  let v140 : BitVec 32 := Scalar.addi v138 v139
  let c1_i32_34 : BitVec 32 := 1#32
  let v63 : BitVec 32 := Scalar.subi c1_i32_34 v8
  let v64 : BitVec 32 := Scalar.select v56 v8 v63
  let c1_i32_86 : BitVec 32 := 1#32
  let v141 : BitVec 32 := Scalar.muli v64 c1_i32_86
  let v142 : BitVec 32 := Scalar.addi v140 v141
  v142.toNat
def k0_cond5 (i : grid0.Coords) : BitVec 1 :=
  let arg0 : BitVec 32 := BitVec.ofNat 32 (i 0).val
  let c7_i32_47 : BitVec 32 := 7#32
  let v88 : BitVec 1 := Scalar.cmpi .eq arg0 c7_i32_47
  let arg1 : BitVec 32 := BitVec.ofNat 32 (i 1).val
  let c7_i32_48 : BitVec 32 := 7#32
  let v89 : BitVec 1 := Scalar.cmpi .eq arg1 c7_i32_48
  let v90 : BitVec 1 := Scalar.andi v88 v89
  let v91 : BitVec 32 := Scalar.extui v90
  let c0_i32_49 : BitVec 32 := 0#32
  let v92 : BitVec 1 := Scalar.cmpi .ne v91 c0_i32_49
  v92

def k0_off20 (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c512_i32_50 : BitVec 32 := 512#32
  let v93 : BitVec 32 := Scalar.muli v12 c512_i32_50
  let c7168_i32 : BitVec 32 := 7168#32
  ![v93.toNat, 7168]
def k0_dev5 (d0 : Dev nD) : Nat :=
  let c0_i32_70 : BitVec 32 := 0#32
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c2_i32_24 : BitVec 32 := 2#32
  let c0_i32_25 : BitVec 32 := 0#32
  let v46 : BitVec 1 := Scalar.cmpi .eq c2_i32_24 c0_i32_25
  let c1_i32_26 : BitVec 32 := 1#32
  let v47 : BitVec 32 := Scalar.select v46 c1_i32_26 c2_i32_24
  let v48 : BitVec 32 := Scalar.remsi v12 v47
  let c0_i32_28 : BitVec 32 := 0#32
  let v50 : BitVec 1 := Scalar.cmpi .slt v48 c0_i32_28
  let c0_i32_29 : BitVec 32 := 0#32
  let v51 : BitVec 1 := Scalar.cmpi .slt v47 c0_i32_29
  let v52 : BitVec 1 := Scalar.xori v50 v51
  let c0_i32_27 : BitVec 32 := 0#32
  let v49 : BitVec 1 := Scalar.cmpi .ne v48 c0_i32_27
  let v53 : BitVec 1 := Scalar.andi v52 v49
  let v54 : BitVec 32 := Scalar.addi v48 v47
  let v55 : BitVec 32 := Scalar.select v53 v54 v48
  let c0_i32_30 : BitVec 32 := 0#32
  let v56 : BitVec 1 := Scalar.cmpi .eq v55 c0_i32_30
  let c1_i32_31 : BitVec 32 := 1#32
  let v57 : BitVec 32 := Scalar.subi c1_i32_31 v2
  let v58 : BitVec 32 := Scalar.select v56 v2 v57
  let c4_i32_69 : BitVec 32 := 4#32
  let v107 : BitVec 32 := Scalar.muli v58 c4_i32_69
  let v108 : BitVec 32 := Scalar.addi c0_i32_70 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v109 : BitVec 32 := Scalar.muli v5 c2_i32_71
  let v110 : BitVec 32 := Scalar.addi v108 v109
  let c1_i32_32 : BitVec 32 := 1#32
  let v59 : BitVec 32 := Scalar.subi c1_i32_32 v8
  let v60 : BitVec 32 := Scalar.select v56 v59 v8
  let c1_i32_72 : BitVec 32 := 1#32
  let v111 : BitVec 32 := Scalar.muli v60 c1_i32_72
  let v112 : BitVec 32 := Scalar.addi v110 v111
  v112.toNat
def k0_dev6 (d0 : Dev nD) : Nat :=
  let c0_i32_82 : BitVec 32 := 0#32
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c2_i32_24 : BitVec 32 := 2#32
  let c0_i32_25 : BitVec 32 := 0#32
  let v46 : BitVec 1 := Scalar.cmpi .eq c2_i32_24 c0_i32_25
  let c1_i32_26 : BitVec 32 := 1#32
  let v47 : BitVec 32 := Scalar.select v46 c1_i32_26 c2_i32_24
  let v48 : BitVec 32 := Scalar.remsi v12 v47
  let c0_i32_28 : BitVec 32 := 0#32
  let v50 : BitVec 1 := Scalar.cmpi .slt v48 c0_i32_28
  let c0_i32_29 : BitVec 32 := 0#32
  let v51 : BitVec 1 := Scalar.cmpi .slt v47 c0_i32_29
  let v52 : BitVec 1 := Scalar.xori v50 v51
  let c0_i32_27 : BitVec 32 := 0#32
  let v49 : BitVec 1 := Scalar.cmpi .ne v48 c0_i32_27
  let v53 : BitVec 1 := Scalar.andi v52 v49
  let v54 : BitVec 32 := Scalar.addi v48 v47
  let v55 : BitVec 32 := Scalar.select v53 v54 v48
  let c0_i32_30 : BitVec 32 := 0#32
  let v56 : BitVec 1 := Scalar.cmpi .eq v55 c0_i32_30
  let c1_i32_33 : BitVec 32 := 1#32
  let v61 : BitVec 32 := Scalar.subi c1_i32_33 v2
  let v62 : BitVec 32 := Scalar.select v56 v61 v2
  let c4_i32_81 : BitVec 32 := 4#32
  let v121 : BitVec 32 := Scalar.muli v62 c4_i32_81
  let v122 : BitVec 32 := Scalar.addi c0_i32_82 v121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v123 : BitVec 32 := Scalar.muli v5 c2_i32_83
  let v124 : BitVec 32 := Scalar.addi v122 v123
  let c1_i32_34 : BitVec 32 := 1#32
  let v63 : BitVec 32 := Scalar.subi c1_i32_34 v8
  let v64 : BitVec 32 := Scalar.select v56 v8 v63
  let c1_i32_84 : BitVec 32 := 1#32
  let v125 : BitVec 32 := Scalar.muli v64 c1_i32_84
  let v126 : BitVec 32 := Scalar.addi v124 v125
  v126.toNat
def k0_off21 (d0 : Dev nD) (c2_i32_5 : BitVec 32) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let v13 : BitVec 32 := Scalar.addi v12 c2_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c512_i32_87 : BitVec 32 := 512#32
  let v133 : BitVec 32 := Scalar.muli v23 c512_i32_87
  let c0_i32_98 : BitVec 32 := 0#32
  ![v133.toNat, 0]
def k0_off22 (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c512_i32_101 : BitVec 32 := 512#32
  let v145 : BitVec 32 := Scalar.muli v12 c512_i32_101
  let c0_i32_112 : BitVec 32 := 0#32
  ![v145.toNat, 0]
def k0_off23 (d0 : Dev nD) (c2_i32_5 : BitVec 32) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let v13 : BitVec 32 := Scalar.addi v12 c2_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c512_i32_143 : BitVec 32 := 512#32
  let v181 : BitVec 32 := Scalar.muli v23 c512_i32_143
  let c1024_i32 : BitVec 32 := 1024#32
  ![v181.toNat, 1024]
def k0_off24 (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c512_i32_156 : BitVec 32 := 512#32
  let v193 : BitVec 32 := Scalar.muli v12 c512_i32_156
  let c1024_i32_167 : BitVec 32 := 1024#32
  ![v193.toNat, 1024]
def k0_off25 (d0 : Dev nD) (c2_i32_5 : BitVec 32) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let v13 : BitVec 32 := Scalar.addi v12 c2_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c512_i32_198 : BitVec 32 := 512#32
  let v229 : BitVec 32 := Scalar.muli v23 c512_i32_198
  let c2048_i32 : BitVec 32 := 2048#32
  ![v229.toNat, 2048]
def k0_off26 (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c512_i32_211 : BitVec 32 := 512#32
  let v241 : BitVec 32 := Scalar.muli v12 c512_i32_211
  let c2048_i32_222 : BitVec 32 := 2048#32
  ![v241.toNat, 2048]
def k0_off27 (d0 : Dev nD) (c2_i32_5 : BitVec 32) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let v13 : BitVec 32 := Scalar.addi v12 c2_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c512_i32_253 : BitVec 32 := 512#32
  let v277 : BitVec 32 := Scalar.muli v23 c512_i32_253
  let c3072_i32 : BitVec 32 := 3072#32
  ![v277.toNat, 3072]
def k0_off28 (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c512_i32_266 : BitVec 32 := 512#32
  let v289 : BitVec 32 := Scalar.muli v12 c512_i32_266
  let c3072_i32_277 : BitVec 32 := 3072#32
  ![v289.toNat, 3072]
def k0_off29 (d0 : Dev nD) (c2_i32_5 : BitVec 32) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let v13 : BitVec 32 := Scalar.addi v12 c2_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c512_i32_308 : BitVec 32 := 512#32
  let v325 : BitVec 32 := Scalar.muli v23 c512_i32_308
  let c4096_i32 : BitVec 32 := 4096#32
  ![v325.toNat, 4096]
def k0_off30 (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c512_i32_321 : BitVec 32 := 512#32
  let v337 : BitVec 32 := Scalar.muli v12 c512_i32_321
  let c4096_i32_332 : BitVec 32 := 4096#32
  ![v337.toNat, 4096]
def k0_off31 (d0 : Dev nD) (c2_i32_5 : BitVec 32) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let v13 : BitVec 32 := Scalar.addi v12 c2_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c512_i32_363 : BitVec 32 := 512#32
  let v373 : BitVec 32 := Scalar.muli v23 c512_i32_363
  let c5120_i32 : BitVec 32 := 5120#32
  ![v373.toNat, 5120]
def k0_off32 (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c512_i32_375 : BitVec 32 := 512#32
  let v385 : BitVec 32 := Scalar.muli v12 c512_i32_375
  let c5120_i32_386 : BitVec 32 := 5120#32
  ![v385.toNat, 5120]
def k0_off33 (d0 : Dev nD) (c2_i32_5 : BitVec 32) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let v13 : BitVec 32 := Scalar.addi v12 c2_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c512_i32_417 : BitVec 32 := 512#32
  let v421 : BitVec 32 := Scalar.muli v23 c512_i32_417
  let c6144_i32 : BitVec 32 := 6144#32
  ![v421.toNat, 6144]
def k0_off34 (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let c512_i32_429 : BitVec 32 := 512#32
  let v433 : BitVec 32 := Scalar.muli v12 c512_i32_429
  let c6144_i32_440 : BitVec 32 := 6144#32
  ![v433.toNat, 6144]
def k0_off35 (d0 : Dev nD) (c2_i32_5 : BitVec 32) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.xori v8 v2
  let v12 : BitVec 32 := Scalar.addi v10 v11
  let v13 : BitVec 32 := Scalar.addi v12 c2_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c512_i32_471 : BitVec 32 := 512#32
  let v469 : BitVec 32 := Scalar.muli v23 c512_i32_471
  let c7168_i32_482 : BitVec 32 := 7168#32
  ![v469.toNat, 7168]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S32768x3072 : Shape := ⟨2, ![32768, 3072]⟩
abbrev S8192x8192 : Shape := ⟨2, ![8192, 8192]⟩
abbrev S4096x8192 : Shape := ⟨2, ![4096, 8192]⟩
abbrev S4096x3072 : Shape := ⟨2, ![4096, 3072]⟩
abbrev S3072x8192 : Shape := ⟨2, ![3072, 8192]⟩
abbrev S512x8192 : Shape := ⟨2, ![512, 8192]⟩
abbrev S2048x8192 : Shape := ⟨2, ![2048, 8192]⟩
abbrev S16384x8192 : Shape := ⟨2, ![16384, 8192]⟩

abbrev nBuf : Space → Nat
  | .hbm => 51
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S8192x8192, .bf16⟩
  | .hbm, ⟨2, _⟩ => ⟨S32768x3072, .f32⟩
  | .hbm, ⟨3, _⟩ => ⟨S8192x8192, .f32⟩
  | .hbm, ⟨4, _⟩ => ⟨S4096x8192, .f32⟩
  | .hbm, ⟨5, _⟩ => ⟨S4096x8192, .f32⟩
  | .hbm, ⟨6, _⟩ => ⟨S4096x3072, .f32⟩
  | .hbm, ⟨7, _⟩ => ⟨S3072x8192, .f32⟩
  | .hbm, ⟨8, _⟩ => ⟨S4096x3072, .f32⟩
  | .hbm, ⟨9, _⟩ => ⟨S3072x8192, .f32⟩
  | .hbm, ⟨10, _⟩ => ⟨S4096x3072, .f32⟩
  | .hbm, ⟨11, _⟩ => ⟨S3072x8192, .f32⟩
  | .hbm, ⟨12, _⟩ => ⟨S4096x3072, .f32⟩
  | .hbm, ⟨13, _⟩ => ⟨S3072x8192, .f32⟩
  | .hbm, ⟨14, _⟩ => ⟨S4096x3072, .f32⟩
  | .hbm, ⟨15, _⟩ => ⟨S3072x8192, .f32⟩
  | .hbm, ⟨16, _⟩ => ⟨S4096x3072, .f32⟩
  | .hbm, ⟨17, _⟩ => ⟨S3072x8192, .f32⟩
  | .hbm, ⟨18, _⟩ => ⟨S4096x3072, .f32⟩
  | .hbm, ⟨19, _⟩ => ⟨S3072x8192, .f32⟩
  | .hbm, ⟨20, _⟩ => ⟨S4096x3072, .f32⟩
  | .hbm, ⟨21, _⟩ => ⟨S3072x8192, .f32⟩
  | .hbm, ⟨22, _⟩ => ⟨S512x8192, .f32⟩
  | .hbm, ⟨23, _⟩ => ⟨S512x8192, .f32⟩
  | .hbm, ⟨24, _⟩ => ⟨S512x8192, .f32⟩
  | .hbm, ⟨25, _⟩ => ⟨S512x8192, .f32⟩
  | .hbm, ⟨26, _⟩ => ⟨S512x8192, .f32⟩
  | .hbm, ⟨27, _⟩ => ⟨S512x8192, .f32⟩
  | .hbm, ⟨28, _⟩ => ⟨S512x8192, .f32⟩
  | .hbm, ⟨29, _⟩ => ⟨S512x8192, .f32⟩
  | .hbm, ⟨30, _⟩ => ⟨S512x8192, .f32⟩
  | .hbm, ⟨31, _⟩ => ⟨S512x8192, .f32⟩
  | .hbm, ⟨32, _⟩ => ⟨S512x8192, .f32⟩
  | .hbm, ⟨33, _⟩ => ⟨S512x8192, .f32⟩
  | .hbm, ⟨34, _⟩ => ⟨S512x8192, .f32⟩
  | .hbm, ⟨35, _⟩ => ⟨S512x8192, .f32⟩
  | .hbm, ⟨36, _⟩ => ⟨S512x8192, .f32⟩
  | .hbm, ⟨37, _⟩ => ⟨S512x8192, .f32⟩
  | .hbm, ⟨38, _⟩ => ⟨S2048x8192, .f32⟩
  | .hbm, ⟨39, _⟩ => ⟨S2048x8192, .f32⟩
  | .hbm, ⟨40, _⟩ => ⟨S2048x8192, .f32⟩
  | .hbm, ⟨41, _⟩ => ⟨S2048x8192, .f32⟩
  | .hbm, ⟨42, _⟩ => ⟨S2048x8192, .f32⟩
  | .hbm, ⟨43, _⟩ => ⟨S2048x8192, .f32⟩
  | .hbm, ⟨44, _⟩ => ⟨S2048x8192, .f32⟩
  | .hbm, ⟨45, _⟩ => ⟨S2048x8192, .f32⟩
  | .hbm, ⟨46, _⟩ => ⟨S16384x8192, .f32⟩
  | .hbm, ⟨47, _⟩ => ⟨S8192x8192, .f32⟩
  | .hbm, ⟨48, _⟩ => ⟨S8192x8192, .f32⟩
  | .hbm, ⟨49, _⟩ => ⟨S16384x8192, .f32⟩
  | .hbm, ⟨50, _⟩ => ⟨S16384x8192, .f32⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩

abbrev nD : Nat := 1
abbrev τ : Topo := Topo.v7x

variable {F : FTy → Type} [FloatOps F]
-- ==== Gather.lean ====
abbrev S4096x4096 : Shape := ⟨2, ![4096, 4096]⟩
abbrev S_ : Shape := ⟨0, ![]⟩
abbrev S1 : Shape := ⟨1, ![1]⟩
abbrev S6 : Shape := ⟨1, ![6]⟩
abbrev S4096x3072 : Shape := ⟨2, ![4096, 3072]⟩
abbrev S512x512 : Shape := ⟨2, ![512, 512]⟩

abbrev nBuf : Space → Nat
  | .hbm => 142
  | .vmem => 4
  | .smem => 1
  | _ => 0

abbrev hbmTy0_0 (i : Nat) : BufTy := match i % 128 with
  | 0 => ⟨S4096x4096, .bf16⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i1⟩
  | 38 => ⟨S_, .i32⟩
  | 39 => ⟨S_, .i1⟩
  | 40 => ⟨S_, .i1⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i1⟩
  | 57 => ⟨S_, .i32⟩
  | 58 => ⟨S_, .i1⟩
  | 59 => ⟨S_, .i1⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i1⟩
  | 76 => ⟨S_, .i32⟩
  | 77 => ⟨S_, .i1⟩
  | 78 => ⟨S_, .i1⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i1⟩
  | 93 => ⟨S_, .i32⟩
  | 94 => ⟨S_, .i1⟩
  | 95 => ⟨S_, .i1⟩
  | 96 => ⟨S_, .i1⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S4096x4096, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S1, .i32⟩
  | 8 => ⟨S1, .i32⟩
  | 9 => ⟨S1, .i32⟩
  | 10 => ⟨S1, .i32⟩
  | 11 => ⟨S1, .i32⟩
  | 12 => ⟨S1, .i32⟩
  | 13 => ⟨S4096x3072, .bf16⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .smem, ⟨0, _⟩ => ⟨S6, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_1 : Ref sig .tc := ⟨.hbm, 7, rfl⟩
abbrev main_c_2 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_3 : Ref sig .tc := ⟨.hbm, 13, rfl⟩
abbrev main_c_4 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_5 : Ref sig .tc := ⟨.hbm, 19, rfl⟩
abbrev main_v13 : Ref sig .tc := ⟨.hbm, 20, rfl⟩
abbrev main_c_6 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_7 : Ref sig .tc := ⟨.hbm, 25, rfl⟩
abbrev main_v17 : Ref sig .tc := ⟨.hbm, 26, rfl⟩
abbrev main_c_8 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_c_1 : Ref sig .tc := ⟨.hbm, 34, rfl⟩
abbrev main_call0_v4 : Ref sig .tc := ⟨.hbm, 35, rfl⟩
abbrev main_call0_c_2 : Ref sig .tc := ⟨.hbm, 36, rfl⟩
abbrev main_call0_v5 : Ref sig .tc := ⟨.hbm, 37, rfl⟩
abbrev main_call0_c_3 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_v18 : Ref sig .tc := ⟨.hbm, 43, rfl⟩
abbrev main_c_9 : Ref sig .tc := ⟨.hbm, 44, rfl⟩
abbrev main_v19 : Ref sig .tc := ⟨.hbm, 45, rfl⟩
abbrev main_c_10 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_c_1 : Ref sig .tc := ⟨.hbm, 53, rfl⟩
abbrev main_call1_v4 : Ref sig .tc := ⟨.hbm, 54, rfl⟩
abbrev main_call1_c_2 : Ref sig .tc := ⟨.hbm, 55, rfl⟩
abbrev main_call1_v5 : Ref sig .tc := ⟨.hbm, 56, rfl⟩
abbrev main_call1_c_3 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_v20 : Ref sig .tc := ⟨.hbm, 62, rfl⟩
abbrev main_c_11 : Ref sig .tc := ⟨.hbm, 63, rfl⟩
abbrev main_v21 : Ref sig .tc := ⟨.hbm, 64, rfl⟩
abbrev main_c_12 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_c_1 : Ref sig .tc := ⟨.hbm, 72, rfl⟩
abbrev main_call2_v4 : Ref sig .tc := ⟨.hbm, 73, rfl⟩
abbrev main_call2_c_2 : Ref sig .tc := ⟨.hbm, 74, rfl⟩
abbrev main_call2_v5 : Ref sig .tc := ⟨.hbm, 75, rfl⟩
abbrev main_call2_c_3 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_v22 : Ref sig .tc := ⟨.hbm, 81, rfl⟩
abbrev main_c_13 : Ref sig .tc := ⟨.hbm, 82, rfl⟩
abbrev main_call3_v0 : Ref sig .tc := ⟨.hbm, 83, rfl⟩
abbrev main_call3_c : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_c_1 : Ref sig .tc := ⟨.hbm, 89, rfl⟩
abbrev main_call3_v4 : Ref sig .tc := ⟨.hbm, 90, rfl⟩
abbrev main_call3_c_2 : Ref sig .tc := ⟨.hbm, 91, rfl⟩
abbrev main_call3_v5 : Ref sig .tc := ⟨.hbm, 92, rfl⟩
abbrev main_call3_c_3 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_v23 : Ref sig .tc := ⟨.hbm, 98, rfl⟩
abbrev main_c_14 : Ref sig .tc := ⟨.hbm, 99, rfl⟩
abbrev main_v24 : Ref sig .tc := ⟨.hbm, 100, rfl⟩
abbrev main_c_15 : Ref sig .tc := ⟨.hbm, 101, rfl⟩
abbrev main_v25 : Ref sig .tc := ⟨.hbm, 102, rfl⟩
abbrev main_v26 : Ref sig .tc := ⟨.hbm, 103, rfl⟩
abbrev main_c_16 : Ref sig .tc := ⟨.hbm, 104, rfl⟩
abbrev main_v27 : Ref sig .tc := ⟨.hbm, 105, rfl⟩
abbrev main_v28 : Ref sig .tc := ⟨.hbm, 106, rfl⟩
abbrev main_c_17 : Ref sig .tc := ⟨.hbm, 107, rfl⟩
abbrev main_v29 : Ref sig .tc := ⟨.hbm, 108, rfl⟩
abbrev main_v30 : Ref sig .tc := ⟨.hbm, 109, rfl⟩
abbrev main_c_18 : Ref sig .tc := ⟨.hbm, 110, rfl⟩
abbrev main_v31 : Ref sig .tc := ⟨.hbm, 111, rfl⟩
abbrev main_v32 : Ref sig .tc := ⟨.hbm, 112, rfl⟩
abbrev main_c_19 : Ref sig .tc := ⟨.hbm, 113, rfl⟩
abbrev main_v33 : Ref sig .tc := ⟨.hbm, 114, rfl⟩
abbrev main_v34 : Ref sig .tc := ⟨.hbm, 115, rfl⟩
abbrev main_c_20 : Ref sig .tc := ⟨.hbm, 116, rfl⟩
abbrev main_v35 : Ref sig .tc := ⟨.hbm, 117, rfl⟩
abbrev main_v36 : Ref sig .tc := ⟨.hbm, 118, rfl⟩
abbrev main_c_21 : Ref sig .tc := ⟨.hbm, 119, rfl⟩
abbrev main_v37 : Ref sig .tc := ⟨.hbm, 120, rfl⟩
abbrev main_c_22 : Ref sig .tc := ⟨.hbm, 121, rfl⟩
abbrev main_v38 : Ref sig .tc := ⟨.hbm, 122, rfl⟩
abbrev main_c_23 : Ref sig .tc := ⟨.hbm, 123, rfl⟩
abbrev main_v39 : Ref sig .tc := ⟨.hbm, 124, rfl⟩
abbrev main_c_24 : Ref sig .tc := ⟨.hbm, 125, rfl⟩
abbrev main_v40 : Ref sig .tc := ⟨.hbm, 126, rfl⟩
abbrev main_c_25 : Ref sig .tc := ⟨.hbm, 127, rfl⟩
abbrev main_v41 : Ref sig .tc := ⟨.hbm, 128, rfl⟩
abbrev main_c_26 : Ref sig .tc := ⟨.hbm, 129, rfl⟩
abbrev main_v42 : Ref sig .tc := ⟨.hbm, 130, rfl⟩
abbrev main_c_27 : Ref sig .tc := ⟨.hbm, 131, rfl⟩
abbrev main_v43 : Ref sig .tc := ⟨.hbm, 132, rfl⟩
abbrev main_c_28 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v52 : Ref sig .tc := ⟨.hbm, 141, rfl⟩
abbrev main_v51 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 8
abbrev τ : Topo := Topo.v7x

variable {F : FTy → Type} [FloatOps F]

abbrev grid0 : Pipeline.Grid := ⟨2, ![6, 8], ![false, false]⟩

abbrev pre0 : Pipeline.Prefetch sig := ⟨1, ![main_v51.idx], fun | 0 => main_v51.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S6.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ColumnsIdeal.lean ====
abbrev S8192x4096 : Shape := ⟨2, ![8192, 4096]⟩
abbrev S4096x4096 : Shape := ⟨2, ![4096, 4096]⟩
abbrev S4096x512 : Shape := ⟨2, ![4096, 512]⟩
abbrev S4096x3072 : Shape := ⟨2, ![4096, 3072]⟩
abbrev S32768x3072 : Shape := ⟨2, ![32768, 3072]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S4096x4096, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x3072, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S4096x3072, .bf16⟩
  | .hbm, ⟨17, _⟩ => ⟨S4096x512, .bf16⟩
  | .hbm, ⟨18, _⟩ => ⟨S4096x512, .bf16⟩
  | .hbm, ⟨19, _⟩ => ⟨S4096x512, .bf16⟩
  | .hbm, ⟨20, _⟩ => ⟨S4096x512, .bf16⟩
  | .hbm, ⟨21, _⟩ => ⟨S4096x512, .bf16⟩
  | .hbm, ⟨22, _⟩ => ⟨S4096x512, .bf16⟩
  | .hbm, ⟨23, _⟩ => ⟨S4096x3072, .bf16⟩
  | .hbm, ⟨24, _⟩ => ⟨S4096x512, .bf16⟩
  | .hbm, ⟨25, _⟩ => ⟨S4096x512, .bf16⟩
  | .hbm, ⟨26, _⟩ => ⟨S4096x512, .bf16⟩
  | .hbm, ⟨27, _⟩ => ⟨S4096x512, .bf16⟩
  | .hbm, ⟨28, _⟩ => ⟨S4096x512, .bf16⟩
  | .hbm, ⟨29, _⟩ => ⟨S4096x512, .bf16⟩
  | .hbm, ⟨30, _⟩ => ⟨S4096x3072, .bf16⟩
  | .hbm, ⟨31, _⟩ => ⟨S4096x512, .bf16⟩
  | .hbm, ⟨32, _⟩ => ⟨S4096x512, .bf16⟩
  | .hbm, ⟨33, _⟩ => ⟨S4096x512, .bf16⟩
  | .hbm, ⟨34, _⟩ => ⟨S4096x512, .bf16⟩
  | .hbm, ⟨35, _⟩ => ⟨S4096x512, .bf16⟩
  | .hbm, ⟨36, _⟩ => ⟨S4096x512, .bf16⟩
  | .hbm, ⟨37, _⟩ => ⟨S4096x3072, .bf16⟩
  | .hbm, ⟨38, _⟩ => ⟨S4096x512, .bf16⟩
  | .hbm, ⟨39, _⟩ => ⟨S4096x512, .bf16⟩
  | .hbm, ⟨40, _⟩ => ⟨S4096x512, .bf16⟩
  | .hbm, ⟨41, _⟩ => ⟨S4096x512, .bf16⟩
  | .hbm, ⟨42, _⟩ => ⟨S4096x512, .bf16⟩
  | .hbm, ⟨43, _⟩ => ⟨S4096x512, .bf16⟩
  | .hbm, ⟨44, _⟩ => ⟨S4096x3072, .bf16⟩
  | .hbm, ⟨45, _⟩ => ⟨S4096x512, .bf16⟩
  | .hbm, ⟨46, _⟩ => ⟨S4096x512, .bf16⟩
  | .hbm, ⟨47, _⟩ => ⟨S4096x512, .bf16⟩
  | .hbm, ⟨48, _⟩ => ⟨S4096x512, .bf16⟩
  | .hbm, ⟨49, _⟩ => ⟨S4096x512, .bf16⟩
  | .hbm, ⟨50, _⟩ => ⟨S4096x512, .bf16⟩
  | .hbm, ⟨51, _⟩ => ⟨S4096x3072, .bf16⟩
  | .hbm, ⟨52, _⟩ => ⟨S4096x512, .bf16⟩
  | .hbm, ⟨53, _⟩ => ⟨S4096x512, .bf16⟩
  | .hbm, ⟨54, _⟩ => ⟨S4096x512, .bf16⟩
  | .hbm, ⟨55, _⟩ => ⟨S4096x512, .bf16⟩
  | .hbm, ⟨56, _⟩ => ⟨S4096x512, .bf16⟩
  | .hbm, ⟨57, _⟩ => ⟨S4096x512, .bf16⟩
  | .hbm, ⟨58, _⟩ => ⟨S4096x3072, .bf16⟩
  | .hbm, ⟨59, _⟩ => ⟨S32768x3072, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩

abbrev nD : Nat := 1
abbrev τ : Topo := Topo.v7x

variable {F : FTy → Type} [FloatOps F]
-- ==== Proof.Geo.lean ====
/-
  Where the transfers go: the ring of four devices of each half of the machine, the neighbours a device sends to, and the
  closed forms of the offsets, device numbers and conditions that the kernel computes in 32-bit words.
-/
module

public import proofs.«01_k».proof.Proof.Gen.KernelIdeal.Regions

@[expose] public section

noncomputable section

namespace Cert.KernelIdeal.Own

open Idealize.ShloMosaic Idealize.ShloMosaic.TcCoe
open Cert.KernelIdeal Cert.KernelIdeal.Gen

/-! ## The ring -/

/-- A device's place in its ring of four: `(x, z)` in the order (0,0), (0,1), (1,1), (1,0). -/
def place (c : Dev nD) : Fin 4 := ⟨(2 * (c.val / 4) + (c.val / 4 + c.val) % 2) % 4, Nat.mod_lt _ (by decide)⟩
/-- Which of the two rings a device is in: its `y`. -/
def half (c : Dev nD) : Fin 2 := ⟨(c.val / 2) % 2, Nat.mod_lt _ (by decide)⟩
/-- The device at a place of a ring. -/
def devAt (s : Fin 4) (y : Fin 2) : Dev nD := ⟨(4 * (s.val / 2) + 2 * y.val + (s.val / 2 + s.val) % 2) % 8, Nat.mod_lt _ (by decide)⟩
/-- The same place in the other ring. -/
def ynb (c : Dev nD) : Dev nD := devAt (place c) (half c + 1)
/-- The next and the previous device of the ring. -/
def rgt (c : Dev nD) : Dev nD := devAt (place c + 1) (half c)
def lft (c : Dev nD) : Dev nD := devAt (place c + 3) (half c)
/-- The place opposite to a device's. -/
def opp (c : Dev nD) : Fin 4 := place c + 2

theorem devAt_place (c : Dev nD) : devAt (place c) (half c) = c := by revert c; decide
theorem place_devAt (s : Fin 4) (y : Fin 2) : place (devAt s y) = s := by revert s y; decide
theorem half_devAt (s : Fin 4) (y : Fin 2) : half (devAt s y) = y := by revert s y; decide
theorem ynb_ynb (c : Dev nD) : ynb (ynb c) = c := by revert c; decide
theorem rgt_lft (c : Dev nD) : rgt (lft c) = c := by revert c; decide
theorem lft_rgt (c : Dev nD) : lft (rgt c) = c := by revert c; decide
theorem place_ynb (c : Dev nD) : place (ynb c) = place c := by revert c; decide
theorem opp_ynb (c : Dev nD) : opp (ynb c) = opp c := by revert c; decide
theorem place_ne_opp (c : Dev nD) : place c ≠ opp c := by revert c; decide

/-- The places whose rows a device receives in the four ways: straight from the other ring (its own place, the opposite
    one), or handed on by the previous or the next device. -/
def slotOf (c : Dev nD) : Fin 4 → Fin 4 := fun | 0 => place c | 1 => opp c | 2 => place c + 3 | 3 => place c + 1
theorem slotOf_bijective (c : Dev nD) : Function.Bijective (slotOf c) := by revert c; decide
theorem slotOf2 (c : Dev nD) : slotOf c 2 = place (lft c) := by revert c; decide
theorem slotOf3 (c : Dev nD) : slotOf c 3 = place (rgt c) := by revert c; decide
theorem slotOf_ne_opp (c : Dev nD) (k : Fin 4) (h : k ≠ 1) : slotOf c k ≠ opp c := by revert c k; decide

/-! ## The kernel's numbers -/

theorem dev1_eq (c : Dev nD) (h : k0_dev1 c < nD) : (⟨k0_dev1 c, h⟩ : Dev nD) = ynb c :=
  Fin.ext ((by decide +kernel : ∀ c : Dev nD, k0_dev1 c = (ynb c).val) c)
theorem dev2_eq (c : Dev nD) (h : k0_dev2 c < nD) : (⟨k0_dev2 c, h⟩ : Dev nD) = ynb c :=
  Fin.ext ((by decide +kernel : ∀ c : Dev nD, k0_dev2 c = (ynb c).val) c)
theorem dev3_eq (c : Dev nD) (h : k0_dev3 c < nD) : (⟨k0_dev3 c, h⟩ : Dev nD) = rgt c :=
  Fin.ext ((by decide +kernel : ∀ c : Dev nD, k0_dev3 c = (rgt c).val) c)
theorem dev4_eq (c : Dev nD) (h : k0_dev4 c < nD) : (⟨k0_dev4 c, h⟩ : Dev nD) = lft c :=
  Fin.ext ((by decide +kernel : ∀ c : Dev nD, k0_dev4 c = (lft c).val) c)
theorem dev5_eq (c : Dev nD) (h : k0_dev5 c < nD) : (⟨k0_dev5 c, h⟩ : Dev nD) = rgt c :=
  Fin.ext ((by decide +kernel : ∀ c : Dev nD, k0_dev5 c = (rgt c).val) c)
theorem dev6_eq (c : Dev nD) (h : k0_dev6 c < nD) : (⟨k0_dev6 c, h⟩ : Dev nD) = lft c :=
  Fin.ext ((by decide +kernel : ∀ c : Dev nD, k0_dev6 c = (lft c).val) c)

theorem cond2_iff : ∀ i : grid0.Coords, k0_cond2 i = 1#1 ↔ (i 1).val = 7 := by decide +kernel
theorem cond3_iff : ∀ i : grid0.Coords, k0_cond3 i = 1#1 ↔ 2 ≤ (i 0).val := by decide +kernel
theorem cond4_iff : ∀ i : grid0.Coords, k0_cond4 i = 1#1 ↔ 0 < (i 0).val ∧ (i 1).val = 4 := by decide +kernel
theorem cond5_iff : ∀ i : grid0.Coords, k0_cond5 i = 1#1 ↔ (i 0).val = 7 ∧ (i 1).val = 7 := by decide +kernel

theorem off2_eq : ∀ i : grid0.Coords, 2 ≤ (i 0).val → k0_off2 i = ![0, (i 0).val - 2] := by decide +kernel
theorem off5_eq : ∀ i : grid0.Coords, 2 ≤ (i 0).val → k0_off5 i = ![1, (i 0).val - 2] := by decide +kernel
theorem off8_eq : ∀ i : grid0.Coords, k0_off8 i = ![0, (i 0).val % 2, 0, 0] := by decide +kernel
theorem off9_eq : ∀ i : grid0.Coords, k0_off9 i = ![1, (i 0).val % 2, 0, 0] := by decide +kernel
theorem off12_eq : ∀ i : grid0.Coords, k0_off12 i = ![0, (i 0).val % 2, 0, 0] := by decide +kernel
theorem off15_eq : ∀ i : grid0.Coords, k0_off15 i = ![1, (i 0).val % 2, 0, 0] := by decide +kernel
theorem off11_eq : ∀ (i : grid0.Coords) (c : Dev nD), k0_off11 i c = ![512 * (place c).val, 1024 * (i 0).val] := by decide +kernel
theorem off14_eq : ∀ (i : grid0.Coords) (c : Dev nD), k0_off14 i c = ![512 * (opp c).val, 1024 * (i 0).val] := by decide +kernel
theorem off16_eq : ∀ i : grid0.Coords, 0 < (i 0).val → k0_off16 i = ![0, (i 0).val - 1] := by decide +kernel
theorem off19_eq : ∀ i : grid0.Coords, 0 < (i 0).val → k0_off19 i = ![1, (i 0).val - 1] := by decide +kernel
theorem off17_eq : ∀ (i : grid0.Coords) (c : Dev nD), 0 < (i 0).val → k0_off17 i c = ![512 * (place c).val, 1024 * ((i 0).val - 1)] := by
  decide +kernel
theorem off20_eq : ∀ c : Dev nD, k0_off20 c = ![512 * (place c).val, 1024 * 7] := by decide +kernel

/-! ## The grid points -/

theorem coord0 : ∀ t : Fin grid0.N, ((grid0.coords t) 0).val = t.val / 8 := by decide +kernel
theorem coord1 : ∀ t : Fin grid0.N, ((grid0.coords t) 1).val = t.val % 8 := by decide +kernel

/-! ## The semaphores -/

theorem sem2_eq (q : Fin 2) (b : Fin 8) (off : Fin 2 → ℕ) (h : off = ![q.val, b.val]) (inb : ∀ a, off a + S1x1.size a ≤ S2x8.size a) :
    ((cc0_scratch2.slice (Rect.unit (s := S2x8) off S1x1.size inb)).squeeze S_ squeezes_S1x1_S_).sem
      = (⟨5 + 8 * q.val + b.val, by have := q.isLt; have := b.isLt; show _ < 75; omega⟩ : DmaSem sig) := by
  subst h; revert q b; decide +kernel
theorem sem3_eq (q : Fin 2) (b : Fin 8) (off : Fin 2 → ℕ) (h : off = ![q.val, b.val]) (inb : ∀ a, off a + S1x1.size a ≤ S2x8.size a) :
    ((cc0_scratch3.slice (Rect.unit (s := S2x8) off S1x1.size inb)).squeeze S_ squeezes_S1x1_S_).sem
      = (⟨21 + 8 * q.val + b.val, by have := q.isLt; have := b.isLt; show _ < 75; omega⟩ : DmaSem sig) := by
  subst h; revert q b; decide +kernel
theorem sem4_eq (q : Fin 2) (b : Fin 8) (off : Fin 2 → ℕ) (h : off = ![q.val, b.val]) (inb : ∀ a, off a + S1x1.size a ≤ S2x8.size a) :
    ((cc0_scratch4.slice (Rect.unit (s := S2x8) off S1x1.size inb)).squeeze S_ squeezes_S1x1_S_).sem
      = (⟨37 + 8 * q.val + b.val, by have := q.isLt; have := b.isLt; show _ < 75; omega⟩ : DmaSem sig) := by
  subst h; revert q b; decide +kernel
theorem sem5_eq (q : Fin 2) (b : Fin 8) (off : Fin 2 → ℕ) (h : off = ![q.val, b.val]) (inb : ∀ a, off a + S1x1.size a ≤ S2x8.size a) :
    ((cc0_scratch5.slice (Rect.unit (s := S2x8) off S1x1.size inb)).squeeze S_ squeezes_S1x1_S_).sem
      = (⟨53 + 8 * q.val + b.val, by have := q.isLt; have := b.isLt; show _ < 75; omega⟩ : DmaSem sig) := by
  subst h; revert q b; decide +kernel

/-! ## One unit of credit -/

/-- The credit of one transfer: a 512 by 1024 block of bf16. -/
def N : ℕ := (Memref.whole (cc0_stg1_0 : Ref sig .tc) : Memref sig .tc .vmem S512x1024 .bf16).view.dmaCredit
theorem credit_hbm (v : View sig .tc .hbm S512x1024 .bf16) : v.dmaCredit = N := rfl
theorem credit_vmem (v : View sig .tc .vmem S512x1024 .bf16) : v.dmaCredit = N := rfl
theorem N_pos : 0 < N := View.dmaCredit_pos _ (by decide)

end Cert.KernelIdeal.Own
-- ==== Proof.Vals.lean ====
/-
  What the kernel computes, device by device, and the pieces of its buffers that the transfers move: the accumulated product
  of each column band, the rows of it that stay and the two quarters that are sent, and what a device's receive buffer holds
  once everything has landed.
-/
module

public import proofs.«01_k».proof.Proof.Geo
public import proofs.«01_k».proof.Proof.Gen.KernelIdeal.Skeleton

@[expose] public section

noncomputable section

namespace Cert.KernelIdeal.Own

open Idealize.ShloMosaic Idealize.ShloMosaic.TcCoe
open Cert.KernelIdeal Cert.KernelIdeal.Gen

variable {F : FTy → Type} [FloatOps F]

/-! ## The blocks -/

theorem inb_x (k : Fin 8) : ∀ a, (![512 * k.val, 0] : Fin 2 → ℕ) a + S512x3072.size a ≤ S4096x3072.size a := by
  revert k; decide +kernel
theorem inb_d (k j : Fin 8) : ∀ a, (![512 * k.val, 1024 * j.val] : Fin 2 → ℕ) a + S512x1024.size a ≤ S4096x8192.size a := by
  revert k j; decide +kernel
theorem inb_q (q : Fin 6) : ∀ a, (![512 * q.val, 0] : Fin 2 → ℕ) a + S512x1024.size a ≤ S3072x1024.size a := by
  revert q; decide +kernel
theorem inb_rest : ∀ a, (![1024, 0] : Fin 2 → ℕ) a + S2048x1024.size a ≤ S3072x1024.size a := by decide +kernel
theorem inb_v (s : Fin 4) (b : Fin 8) : ∀ a, (![512 * s.val, 1024 * b.val] : Fin 2 → ℕ) a + S512x1024.size a ≤ S2048x8192.size a := by
  revert s b; decide +kernel
theorem inb_s (q s : Fin 2) : ∀ a, (![q.val, s.val, 0, 0] : Fin 4 → ℕ) a + S1x1x512x1024.size a ≤ S2x2x512x1024.size a := by
  revert q s; decide +kernel

/-- The `k`-th block of rows of `x`, the block `(k, j)` of `dy`. -/
abbrev xR (k : Fin 8) : Rect S4096x3072 := Rect.unit (s := S4096x3072) ![512 * k.val, 0] S512x3072.size (inb_x k)
abbrev dR (k j : Fin 8) : Rect S4096x8192 := Rect.unit (s := S4096x8192) ![512 * k.val, 1024 * j.val] S512x1024.size (inb_d k j)
/-- The first quarters of the accumulator's rows, and its rows from 1024 on. -/
abbrev qR (q : Fin 6) : Rect S3072x1024 := Rect.unit (s := S3072x1024) ![512 * q.val, 0] S512x1024.size (inb_q q)
abbrev restR : Rect S3072x1024 := Rect.unit (s := S3072x1024) ![1024, 0] S2048x1024.size inb_rest
/-- The block of the receive buffer of ring place `s` and band `b`; the slot of the send buffer. -/
abbrev vR (s : Fin 4) (b : Fin 8) : Rect S2048x8192 := Rect.unit (s := S2048x8192) ![512 * s.val, 1024 * b.val] S512x1024.size (inb_v s b)
abbrev sR (q s : Fin 2) : Rect S2x2x512x1024 := Rect.unit (s := S2x2x512x1024) ![q.val, s.val, 0, 0] S1x1x512x1024.size (inb_s q s)

variable (X : Dev nD → S4096x3072.Idx → F .bf16) (D : Dev nD → S4096x8192.Idx → F .bf16)

/-! ## The values -/

/-- The accumulator at band `j` after `k` blocks. -/
def acc (c : Dev nD) (j : Fin 8) : ℕ → Vec F S3072x1024 .f32
  | 0 => k0_pay6
  | k + 1 => k0_pay1 (acc c j k) (fun i => X c ((xR (Fin.ofNat 8 k)).emb i)) (fun i => D c ((dR (Fin.ofNat 8 k) j).emb i))

/-- The quarter `q` of band `j`'s product, rounded: what is sent to the other ring. -/
def quarter (c : Dev nD) (q : Fin 2) (j : Fin 8) : FVec F S512x1024 .bf16 :=
  k0_pay4 (fun i => acc X D c j 8 ((qR ⟨q.val, by omega⟩).emb i))

/-- The rows that stay, at band `j`. -/
def stays (c : Dev nD) (j : Fin 8) : FVec F S2048x1024 .bf16 := k0_pay2 (fun i => acc X D c j 8 (restR.emb i))

/-- The device whose product lands at place `s` of device `c`, and the quarter of it. -/
def srcOf (c : Dev nD) (s : Fin 4) : Dev nD := if s = opp c then ynb c else devAt s (half c + 1)
def qOf (c : Dev nD) (s : Fin 4) : Fin 2 := if s = opp c then 1 else 0

/-- A block's row and column number, and the place in the block. -/
def rowOf (i : S2048x8192.Idx) : Fin 4 := ⟨(i 0).val / 512, by have : (i 0).val < 2048 := (i 0).isLt; omega⟩
def bandOf (i : S2048x8192.Idx) : Fin 8 := ⟨(i 1).val / 1024, by have : (i 1).val < 8192 := (i 1).isLt; omega⟩
def inBlk (i : S2048x8192.Idx) : S512x1024.Idx := fun | 0 => ⟨(i 0).val % 512, Nat.mod_lt _ (by decide)⟩ | 1 => ⟨(i 1).val % 1024, Nat.mod_lt _ (by decide)⟩
def inBand (i : S2048x8192.Idx) : S2048x1024.Idx := fun | 0 => i 0 | 1 => ⟨(i 1).val % 1024, Nat.mod_lt _ (by decide)⟩

/-- The receive buffer of device `c` once all blocks have landed; the array of the rows that stay. -/
def received (c : Dev nD) : S2048x8192.Idx → F .bf16 :=
  fun i => quarter X D (srcOf c (rowOf i)) (qOf c (rowOf i)) (bandOf i) (inBlk i)
def mine (c : Dev nD) : S2048x8192.Idx → F .bf16 := fun i => stays X D c (bandOf i) (inBand i)

theorem rowOf_emb (s : Fin 4) (b : Fin 8) (i : S512x1024.Idx) : rowOf ((vR s b).emb i) = s := by
  apply Fin.ext
  have h0 : (i 0).val < 512 := (i 0).isLt
  show (512 * s.val + 1 * (i 0).val) / 512 = s.val
  omega
theorem bandOf_emb (s : Fin 4) (b : Fin 8) (i : S512x1024.Idx) : bandOf ((vR s b).emb i) = b := by
  apply Fin.ext
  have h0 : (i 1).val < 1024 := (i 1).isLt
  show (1024 * b.val + 1 * (i 1).val) / 1024 = b.val
  omega
theorem inBlk_emb (s : Fin 4) (b : Fin 8) (i : S512x1024.Idx) : inBlk ((vR s b).emb i) = i := by
  have h0 : (i 0).val < 512 := (i 0).isLt
  have h1 : (i 1).val < 1024 := (i 1).isLt
  funext a
  match a with
  | 0 => exact Fin.ext (show (512 * s.val + 1 * (i 0).val) % 512 = (i 0).val by omega)
  | 1 => exact Fin.ext (show (1024 * b.val + 1 * (i 1).val) % 1024 = (i 1).val by omega)

theorem received_emb (c : Dev nD) (s : Fin 4) (b : Fin 8) (i : S512x1024.Idx) :
    received X D c ((vR s b).emb i) = quarter X D (srcOf c s) (qOf c s) b i := by
  unfold received; rw [rowOf_emb, bandOf_emb, inBlk_emb]

/-- What the other ring sends device `c` directly. -/
theorem received_own (c : Dev nD) (q : Fin 2) (b : Fin 8) (i : S512x1024.Idx) :
    received X D (ynb c) ((vR (if q = 0 then place c else opp c) b).emb i) = quarter X D c q b i := by
  rw [received_emb]
  have h1 : srcOf (ynb c) (if q = 0 then place c else opp c) = c := by revert c q; decide
  have h2 : qOf (ynb c) (if q = 0 then place c else opp c) = q := by revert c q; decide
  rw [h1, h2]
/-- A device hands on what it received at its own place: its neighbours receive the same there. -/
theorem received_rgt (c : Dev nD) (b : Fin 8) (i : S512x1024.Idx) :
    received X D (rgt c) ((vR (place c) b).emb i) = received X D c ((vR (place c) b).emb i) := by
  rw [received_emb, received_emb]
  have h1 : srcOf (rgt c) (place c) = srcOf c (place c) := by revert c; decide
  have h2 : qOf (rgt c) (place c) = qOf c (place c) := by revert c; decide
  rw [h1, h2]
theorem received_lft (c : Dev nD) (b : Fin 8) (i : S512x1024.Idx) :
    received X D (lft c) ((vR (place c) b).emb i) = received X D c ((vR (place c) b).emb i) := by
  rw [received_emb, received_emb]
  have h1 : srcOf (lft c) (place c) = srcOf c (place c) := by revert c; decide
  have h2 : qOf (lft c) (place c) = qOf c (place c) := by revert c; decide
  rw [h1, h2]

/-! ## The pieces -/

/-- The elements of a block of the receive buffer, of a slot of the send buffer. -/
abbrev vM : Memref sig .tc .hbm S2048x8192 .bf16 := Memref.whole main_v1_1
abbrev sM : Memref sig .tc .vmem S2x2x512x1024 .bf16 := Memref.whole cc0_scratch1
def vSet (s : Fin 4) (b : Fin 8) : Finset (main_v1_1 : Ref sig .tc).ty.Idx := (vR s b).set
def sSet (q s : Fin 2) : Finset (cc0_scratch1 : Ref sig .tc).ty.Idx := (sR q s).set

theorem mem_vSet (s : Fin 4) (b : Fin 8) (i : S2048x8192.Idx) : i ∈ vSet s b ↔ rowOf i = s ∧ bandOf i = b := by
  unfold vSet
  rw [Rect.mem_set_unit]
  have h0 : (i 0).val < 2048 := (i 0).isLt
  have h1 : (i 1).val < 8192 := (i 1).isLt
  constructor
  · intro h
    have a0 : 512 * s.val ≤ (i 0).val ∧ (i 0).val < 512 * s.val + 512 := h 0
    have a1 : 1024 * b.val ≤ (i 1).val ∧ (i 1).val < 1024 * b.val + 1024 := h 1
    exact ⟨Fin.ext (show (i 0).val / 512 = s.val by omega), Fin.ext (show (i 1).val / 1024 = b.val by omega)⟩
  · rintro ⟨rfl, rfl⟩ a
    match a with
    | 0 => exact show 512 * ((i 0).val / 512) ≤ (i 0).val ∧ (i 0).val < 512 * ((i 0).val / 512) + 512 by omega
    | 1 => exact show 1024 * ((i 1).val / 1024) ≤ (i 1).val ∧ (i 1).val < 1024 * ((i 1).val / 1024) + 1024 by omega

theorem mem_sSet (q s : Fin 2) (i : S2x2x512x1024.Idx) : i ∈ sSet q s ↔ i 0 = q ∧ i 1 = s := by
  unfold sSet
  rw [Rect.mem_set_unit]
  have h2 : (i 2).val < 512 := (i 2).isLt
  have h3 : (i 3).val < 1024 := (i 3).isLt
  constructor
  · intro h
    have a0 : q.val ≤ (i 0).val ∧ (i 0).val < q.val + 1 := h 0
    have a1 : s.val ≤ (i 1).val ∧ (i 1).val < s.val + 1 := h 1
    exact ⟨Fin.ext (by omega), Fin.ext (by omega)⟩
  · rintro ⟨rfl, rfl⟩ a
    match a with
    | 0 => exact show (i 0).val ≤ (i 0).val ∧ (i 0).val < (i 0).val + 1 by omega
    | 1 => exact show (i 1).val ≤ (i 1).val ∧ (i 1).val < (i 1).val + 1 by omega
    | 2 => exact show 0 ≤ (i 2).val ∧ (i 2).val < 0 + 512 by omega
    | 3 => exact show 0 ≤ (i 3).val ∧ (i 3).val < 0 + 1024 by omega

theorem vSet_cover : (Finset.univ : Finset (Fin 4 × Fin 8)).biUnion (fun p => vSet p.1 p.2) = Finset.univ := by
  ext i; simp only [Finset.mem_biUnion, Finset.mem_univ, true_and, iff_true]
  exact ⟨(rowOf i, bandOf i), (mem_vSet _ _ i).2 ⟨rfl, rfl⟩⟩
theorem vSet_disjoint : ∀ p ∈ (Finset.univ : Finset (Fin 4 × Fin 8)), ∀ p' ∈ (Finset.univ : Finset (Fin 4 × Fin 8)), p ≠ p' →
    Disjoint (vSet p.1 p.2) (vSet p'.1 p'.2) := fun p _ p' _ hne => Finset.disjoint_left.2 fun i hi hi' => by
  obtain ⟨h1, h2⟩ := (mem_vSet _ _ i).1 hi
  obtain ⟨h3, h4⟩ := (mem_vSet _ _ i).1 hi'
  exact hne (Prod.ext (h1.symm.trans h3) (h2.symm.trans h4))
theorem sSet_cover : (Finset.univ : Finset (Fin 2 × Fin 2)).biUnion (fun p => sSet p.1 p.2) = Finset.univ := by
  ext i; simp only [Finset.mem_biUnion, Finset.mem_univ, true_and, iff_true]
  exact ⟨(i 0, i 1), (mem_sSet _ _ i).2 ⟨rfl, rfl⟩⟩
theorem sSet_disjoint : ∀ p ∈ (Finset.univ : Finset (Fin 2 × Fin 2)), ∀ p' ∈ (Finset.univ : Finset (Fin 2 × Fin 2)), p ≠ p' →
    Disjoint (sSet p.1 p.2) (sSet p'.1 p'.2) := fun p _ p' _ hne => Finset.disjoint_left.2 fun i hi hi' => by
  obtain ⟨h1, h2⟩ := (mem_sSet _ _ i).1 hi
  obtain ⟨h3, h4⟩ := (mem_sSet _ _ i).1 hi'
  exact hne (Prod.ext (h1.symm.trans h3) (h2.symm.trans h4))

/-! The kernel's own views of these pieces, at any offsets equal to the closed form. -/

abbrev vView (off : Fin 2 → ℕ) (inb : ∀ a, off a + S512x1024.size a ≤ S2048x8192.size a) : Memref sig .tc .hbm S512x1024 .bf16 :=
  vM.slice (Rect.unit (s := S2048x8192) off S512x1024.size inb) (fun _ => rfl)
abbrev sView (off : Fin 4 → ℕ) (inb : ∀ a, off a + S1x1x512x1024.size a ≤ S2x2x512x1024.size a) : Memref sig .tc .vmem S512x1024 .bf16 :=
  (sM.slice (Rect.unit (s := S2x2x512x1024) off S1x1x512x1024.size inb) (fun _ => rfl)).squeeze S512x1024 squeezes_S1x1x512x1024_S512x1024

theorem vView_set (s : Fin 4) (b : Fin 8) (off : Fin 2 → ℕ) (h : off = ![512 * s.val, 1024 * b.val])
    (inb : ∀ a, off a + S512x1024.size a ≤ S2048x8192.size a) : (vView off inb).view.set = vSet s b := by
  subst h
  show (((View.whole main_v1_1).slice _).set) = _
  rw [View.set_slice]; show (View.whole main_v1_1).setOn (vR s b).set = (vR s b).set
  exact Finset.map_refl
theorem sView_set (q s : Fin 2) (off : Fin 4 → ℕ) (h : off = ![q.val, s.val, 0, 0])
    (inb : ∀ a, off a + S1x1x512x1024.size a ≤ S2x2x512x1024.size a) : (sView off inb).view.set = sSet q s := by
  subst h
  show (((View.whole cc0_scratch1).slice _).reshape _ _).set = _
  rw [View.set_reshape, View.set_slice]
  show (View.whole cc0_scratch1).setOn (sR q s).set = (sR q s).set
  exact Finset.map_refl

theorem vView_read (s : Fin 4) (b : Fin 8) (off : Fin 2 → ℕ) (h : off = ![512 * s.val, 1024 * b.val])
    (inb : ∀ a, off a + S512x1024.size a ≤ S2048x8192.size a) (f : S2048x8192.Idx → F .bf16) :
    (vView off inb).view.read (Elt F) f = fun i => f ((vR s b).emb i) := by
  subst h; rfl

end Cert.KernelIdeal.Own
-- ==== Proof.Sched.lean ====
/-
  The exchange of the kernel: its 64 semaphores per device, each raised and lowered once, what each arrival hands over, the
  order in which the waits are safe, and what a device still owes.

  A device's band `b` of the receive buffer is filled in four ways. The device of the other ring sends two quarters (kind 1,
  `q` = 0, 1); the previous and the next device of the ring hand on what they received at their own place (kind 3, 0, 1). The
  sending sides are kinds 0 and 2. The destination blocks belong to their senders from the start, so that no sender needs
  to ask first.
-/
module

public import proofs.«01_k».proof.Proof.Vals
public import Idealize.ShloMosaic.Lib.Pipeline.Launch
public import Idealize.ShloMosaic.Lib.Tactic

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev CellId : Type := Fin 4 × Fin 2 × Fin 8

def semNo (k : CellId) : DmaSem sig :=
  ⟨5 + 16 * k.1.val + 8 * k.2.1.val + k.2.2.val, by
    have := k.1.isLt; have := k.2.1.isLt; have := k.2.2.isLt; show _ < 75; omega⟩
def osem (k : CellId) : SemLoc sig := .dma (semNo k)
def idOf : SemLoc sig → Option CellId
  | .dma n => if h : 5 ≤ n.val ∧ n.val < 69 then
      some (⟨(n.val - 5) / 16, by omega⟩, ⟨(n.val - 5) / 8 % 2, by omega⟩, ⟨(n.val - 5) % 8, by omega⟩) else none
  | _ => none
theorem idOf_osem (k : CellId) : idOf (osem k) = some k := by
  obtain ⟨κ, q, b⟩ := k; revert κ q b; decide +kernel
theorem osem_injective : Function.Injective osem := fun k k' h => by
  have := idOf_osem k; rw [h, idOf_osem k'] at this; exact (Option.some.inj this).symm

abbrev cell (c : Dev nD) (k : CellId) : GSem nD τ sig := ((c.tc : Thread nD τ), osem k)
theorem cell_injective : Function.Injective (fun p : Dev nD × CellId => cell p.1 p.2) := by
  rintro ⟨c, k⟩ ⟨c', k'⟩ h
  have h1 : c = c' := congrArg (fun g : GSem nD τ sig => g.1.1) h
  have h2 : k = k' := osem_injective (congrArg Prod.snd h)
  rw [h1, h2]

/-! ## What an arrival hands over -/

variable (X : Dev nD → S4096x3072.Idx → F .bf16) (D : Dev nD → S4096x8192.Idx → F .bf16)

/-- A block of the receive buffer at contents `f`, a slot of the send buffer at some contents. -/
def vPts (q : PosShare TreeShare) (c : Dev nD) (s : Fin 4) (b : Fin 8) (f : Buf (Elt F) ((c.tc : Thread nD τ).loc main_v1_1)) : sProp 𝕄 :=
  ((c.tc : Thread nD τ).loc main_v1_1) ↦[vSet s b]{q} f
def sPts (c : Dev nD) (q s : Fin 2) (f : Buf (Elt F) ((c.tc : Thread nD τ).loc cc0_scratch1)) : sProp 𝕄 :=
  ((c.tc : Thread nD τ).loc cc0_scratch1) ↦[sSet q s]{fullShare} f
instance vPts_storable (q) (c : Dev nD) (s b f) : BI.Storable (upEmb : UEmb _ 𝕄) (vPts (F := F) q c s b f) := by unfold vPts; infer_instance
instance sPts_storable (c : Dev nD) (q s f) : BI.Storable (upEmb : UEmb _ 𝕄) (sPts (F := F) c q s f) := by unfold sPts; infer_instance

def par (b : Fin 8) : Fin 2 := ⟨b.val % 2, Nat.mod_lt _ (by decide)⟩
/-- The half share read by a transfer to the next (0) or the previous (1) device. -/
def hs (d : Fin 2) : PosShare TreeShare := if d = 0 then fullShare.left else fullShare.right

def pay (c : Dev nD) (k : CellId) : sProp 𝕄 :=
  match k.1 with
  | 0 => iprop(∃ f, sPts c k.2.1 (par k.2.2) f)
  | 1 => vPts fullShare c (if k.2.1 = 0 then place c else opp c) k.2.2 (received X D c)
  | 2 => vPts (hs k.2.1) c (place c) k.2.2 (received X D c)
  | 3 => vPts fullShare c (if k.2.1 = 0 then place (lft c) else place (rgt c)) k.2.2 (received X D c)
instance pay_storable (c : Dev nD) (k : CellId) : BI.Storable (upEmb : UEmb _ 𝕄) (pay X D c k) := by
  obtain ⟨κ, q, b⟩ := k
  unfold pay; fin_cases κ <;> dsimp only <;> infer_instance

def rd : Rounds.Schedule (GSem nD τ sig) Unit 𝕄 where
  duties g r := if r = 0 ∧ g.1.2 = .tc ∧ (idOf g.2).isSome then {()} else ∅
  unitless _ := False
  amount _ _ _ := N
  payload g _ _ := match idOf g.2 with | some k => pay X D g.1.1 k | none => iprop(emp)
  amount_pos _ _ _ _ := N_pos

instance rd_storable (g : GSem nD τ sig) (r : ℕ) (d : Unit) : BI.Storable (upEmb : UEmb _ 𝕄) ((rd X D).payload g r d) := by
  show BI.Storable upEmb (match idOf g.2 with | some k => pay X D g.1.1 k | none => iprop(emp))
  split <;> infer_instance

theorem duties_cell (c : Dev nD) (k : CellId) : (rd X D).duties (cell c k) 0 = {()} := by
  dsimp only [rd]; exact if_pos ⟨rfl, rfl, by rw [idOf_osem]; rfl⟩
theorem duties_later (g : GSem nD τ sig) : ∀ r, 1 ≤ r → (rd X D).duties g r = ∅ := fun r hr => by
  dsimp only [rd]; exact if_neg fun h => by omega
theorem expect_cell (c : Dev nD) (k : CellId) : (rd X D).expect (cell c k) 0 = N := by
  unfold Schedule.expect Schedule.amountOf; rw [duties_cell, Finset.sum_singleton]; rfl
theorem payload_cell (c : Dev nD) (k : CellId) : (rd X D).payload (cell c k) 0 () = pay X D c k := by
  show (match idOf (osem k) with | some k => pay X D c k | none => iprop(emp)) = _
  rw [idOf_osem]
theorem rest_cell (c : Dev nD) (k : CellId) :
    bigSep ((rd X D).duties (cell c k) 0 \ ∅) (fun d => (rd X D).payload (cell c k) 0 d) = pay X D c k := by
  rw [Finset.sdiff_empty, duties_cell, bigSep_singleton, payload_cell]

/-! ## Levels, and what is owed -/

def L (g : GSem nD τ sig) : Finset Unit := if g.1.2 = .tc then {()} else ∅
def lvOf (k : CellId) : ℕ := match k.1 with | 1 => 2 * k.2.2.val + 1 | 3 => 2 * k.2.2.val + 2 | _ => 0
def lv (g : GSem nD τ sig) (_ : Unit) : ℕ := match idOf g.2 with | some k => lvOf k | none => 0
theorem L_of_ne (g : GSem nD τ sig) (h : g.1.2 ≠ .tc) : L g = ∅ := if_neg h
theorem L_tc (c : Dev nD) (sm : SemLoc sig) : L ((c.tc : Thread nD τ), sm) = {()} := if_pos rfl
theorem lv_cell (c : Dev nD) (k : CellId) : lv (cell c k) () = lvOf k := by unfold lv; dsimp only; rw [idOf_osem]

/-- What is paid at band `b`: to the other ring (`q` = 0, 1), and to the next and the previous device. -/
def dueA (c : Dev nD) (q : Fin 2) (b : Fin 8) : CellTallies nD τ sig Unit := tallyAt (cell (ynb c) (1, q, b)) () N
def nbr (c : Dev nD) (d : Fin 2) : Dev nD := if d = 0 then rgt c else lft c
def dueF (c : Dev nD) (d : Fin 2) (b : Fin 8) : CellTallies nD τ sig Unit := tallyAt (cell (nbr c d) (3, d, b)) () N
def oweA (c : Dev nD) (n : ℕ) : CellTallies nD τ sig Unit := ∑ b : Fin 8, if n ≤ b.val then dueA c 0 b + dueA c 1 b else 0
def oweF (c : Dev nD) (n : ℕ) : CellTallies nD τ sig Unit := ∑ b : Fin 8, if n ≤ b.val then dueF c 0 b + dueF c 1 b else 0
def owe (c : Dev nD) (a f : ℕ) : CellTallies nD τ sig Unit := oweA c a + oweF c f

theorem sum_step {M : Type} [AddCommMonoid M] (g : Fin 8 → M) (b : Fin 8) :
    (∑ i : Fin 8, if b.val ≤ i.val then g i else 0) = (∑ i : Fin 8, if b.val + 1 ≤ i.val then g i else 0) + g b := by
  rw [← Finset.add_sum_erase _ _ (Finset.mem_univ b), ← Finset.add_sum_erase (a := b) (f := fun i : Fin 8 => if b.val + 1 ≤ i.val then g i else 0) _ (Finset.mem_univ b)]
  rw [if_pos le_rfl, if_neg (by omega), zero_add, add_comm]
  congr 1
  refine Finset.sum_congr rfl fun i hi => ?_
  have hne : i.val ≠ b.val := fun h => Finset.ne_of_mem_erase hi (Fin.ext h)
  by_cases h : b.val ≤ i.val
  · rw [if_pos h, if_pos (by omega)]
  · rw [if_neg h, if_neg (by omega)]
theorem oweA_step (c : Dev nD) (b : Fin 8) : oweA c b.val = oweA c (b.val + 1) + (dueA c 0 b + dueA c 1 b) := sum_step _ b
theorem oweF_step (c : Dev nD) (b : Fin 8) : oweF c b.val = oweF c (b.val + 1) + (dueF c 0 b + dueF c 1 b) := sum_step _ b
theorem oweA_last (c : Dev nD) : oweA c 8 = 0 := Finset.sum_eq_zero fun b _ => if_neg (by have := b.isLt; omega)
theorem oweF_last (c : Dev nD) : oweF c 8 = 0 := Finset.sum_eq_zero fun b _ => if_neg (by have := b.isLt; omega)

theorem owe_pos {c : Dev nD} {a f : ℕ} {g : GSem nD τ sig} {u : Unit} (h : 0 < owe c a f g u) :
    ∃ (b : Fin 8) (q : Fin 2), (a ≤ b.val ∧ g = cell (ynb c) (1, q, b)) ∨ (f ≤ b.val ∧ g = cell (nbr c q) (3, q, b)) := by
  by_contra hn
  simp only [not_exists, not_or, not_and] at hn
  have hz : owe c a f g u = 0 := by
    unfold owe oweA oweF
    simp only [Pi.add_apply, Finset.sum_apply, Finsupp.add_apply, Finsupp.finset_sum_apply]
    have h1 : (∑ b : Fin 8, (if a ≤ b.val then dueA c 0 b + dueA c 1 b else 0 : CellTallies nD τ sig Unit) g u) = 0 :=
      Finset.sum_eq_zero fun b _ => by
        by_cases hb : a ≤ b.val
        · rw [if_pos hb, Pi.add_apply, Finsupp.add_apply]; unfold dueA
          rw [tallyAt_apply, tallyAt_apply, if_neg (fun h' => (hn b 0).1 hb h'.1), if_neg (fun h' => (hn b 1).1 hb h'.1), add_zero]
        · rw [if_neg hb]; rfl
    have h2 : (∑ b : Fin 8, (if f ≤ b.val then dueF c 0 b + dueF c 1 b else 0 : CellTallies nD τ sig Unit) g u) = 0 :=
      Finset.sum_eq_zero fun b _ => by
        by_cases hb : f ≤ b.val
        · rw [if_pos hb, Pi.add_apply, Finsupp.add_apply]; unfold dueF
          rw [tallyAt_apply, tallyAt_apply, if_neg (fun h' => (hn b 0).2 hb h'.1), if_neg (fun h' => (hn b 1).2 hb h'.1), add_zero]
        · rw [if_neg hb]; rfl
    rw [h1, h2]
  omega

/-- A wait is safe when everything still owed lies above it. -/
theorem mayWait (c : Dev nD) (sm : SemLoc sig) (a f l : ℕ) (hl : lv ((c.tc : Thread nD τ), sm) () ≤ l) (ha : l < 2 * a + 1) (hf : l < 2 * f + 2) :
    (levAts L lv : sProp 𝕄) ⊢ MayWait (c.tc : Thread nD τ) sm () (owe c a f) := by
  refine MayOwe.of_cut (L := L) (lev := lv) l (fun p hp => by rw [Finset.mem_singleton.mp hp, L_tc]; exact Finset.mem_singleton_self _)
    (fun g u hg => ?_) (fun p hp => by rw [Finset.mem_singleton.mp hp]; exact hl) (fun g u hg => ?_)
  · obtain ⟨b, q, (⟨_, rfl⟩ | ⟨_, rfl⟩)⟩ := owe_pos hg <;> rw [L_tc] <;> exact Finset.mem_singleton_self _
  · obtain ⟨b, q, (⟨hb, rfl⟩ | ⟨hb, rfl⟩)⟩ := owe_pos hg <;> cases u <;> rw [lv_cell] <;> [show l < 2 * b.val + 1; show l < 2 * b.val + 2] <;> omega

/-! ## What every device knows -/

variable (K : Dev nD × CellId → ℕ)

def world : sProp 𝕄 :=
  iprop((bigSep Finset.univ fun p : Dev nD × CellId => cellInv ER (rd X D) (K p) (cell p.1 p.2))
    ∗ (bigSep Finset.univ fun p : Dev nD × CellId => reached ER (cell p.1 p.2) 0) ∗ levAts L lv)
instance world_persistent : BI.Persistent (world X D K) := by unfold world; infer_instance
theorem world_inv (c : Dev nD) (k : CellId) : world X D K ⊢ cellInv ER (rd X D) (K (c, k)) (cell c k) := by
  unfold world
  iintro ⟨H, -, -⟩
  have h : (bigSep Finset.univ fun p : Dev nD × CellId => cellInv ER (rd X D) (K p) (cell p.1 p.2)) ⊢ cellInv ER (rd X D) (K (c, k)) (cell c k) :=
    bigSep_elim (Finset.mem_univ (c, k))
  iapply h; iexact H
theorem world_reached (c : Dev nD) (k : CellId) : world X D K ⊢ (reached ER (cell c k) 0 : sProp 𝕄) := by
  unfold world
  iintro ⟨-, H, -⟩
  have h : (bigSep Finset.univ fun p : Dev nD × CellId => (reached ER (cell p.1 p.2) 0 : sProp 𝕄)) ⊢ reached ER (cell c k) 0 :=
    bigSep_elim (Finset.mem_univ (c, k))
  iapply h; iexact H
theorem world_levs : world X D K ⊢ (levAts L lv : sProp 𝕄) := by
  unfold world
  iintro ⟨-, -, H⟩; iexact H

/-- A cell of the device's own: not yet waited for; waited for, or with the credit of its one wait at hand. -/
def idle (c : Dev nD) (k : CellId) : sProp 𝕄 := atPos ER (cell c k) 0 ∅ 0
def armed (c : Dev nD) (k : CellId) : sProp 𝕄 := iprop(atPos ER (cell c k) 0 ∅ 0 ∗ cred (tallyAt (cell c k) () N))
def done (c : Dev nD) (k : CellId) : sProp 𝕄 := atPos ER (cell c k) 1 ∅ 0
/-- The right to pay a cell. -/
def tok (c : Dev nD) (k : CellId) : sProp 𝕄 := dutyTok ER (cell c k) 0 ()

abbrev 𝒱₀ : Variants := Variants.none

/-- One wait: the cell's one arrival is taken. -/
theorem step_wait (c : Dev nD) (k : CellId) (a f : ℕ) (ha : lvOf k < 2 * a + 1) (hf : lvOf k < 2 * f + 2)
    {sp sp' : Space} {s s' : Shape} {e e' : EltTy} {src : Memref sig .tc sp s e} {dst : Memref sig .tc sp' s' e'}
    {hsrc : src.view.WordExact} {hdst : dst.view.WordExact} (hN : dst.view.dmaCredit = N)
    {α : Type} {Q : α → sProp 𝕄} {kt : PUnit → Prog (TpuEff nD τ sig (Elt F) Λ₀ .tc) α} (W : Waits sig Unit) :
    iprop(world X D K ∗ armed c k ∗ owes (c.tc : Thread nD τ) (owe c a f) W)
      ⊢ iprop(((done c k ∗ pay X D c k ∗ owes (c.tc : Thread nD τ) (owe c a f) (insert (osem k, ()) W))
            -∗ wp frame (wpE (defs₀ (F := F)) 𝒱₀ (c.tc : Thread nD τ) none) Set.univ (kt ⟨⟩) Q)
          -∗ wp frame (wpE (defs₀ (F := F)) 𝒱₀ (c.tc : Thread nD τ) none) Set.univ (.op (.waitDma2 (semNo k) src dst hsrc hdst) kt) Q) := by
  unfold armed done
  iintro ⟨#HW, ⟨Hat, Hc⟩, HO⟩ Hk
  ihave #HI := (world_inv X D K c k) $$ HW
  ihave #Hlev := (world_levs X D K) $$ HW
  iapply (Rounds.wp_wait_rest_token 𝒱₀ ER (rd X D) (c.tc : Thread nD τ) none (κ := K (c, k)) (sm := osem k)
      (wpE_waitDma2_eq 𝒱₀ (c.tc : Thread nD τ) none Set.univ) (Set.mem_univ _) () (O := owe c a f) (W := W) (R := 0) (m := 0) (T := ∅)
      (by rw [Nat.zero_add, hN, expect_cell X D c k])) $$ [Hc HO Hat]
  · isplitr; · iexact HI
    isplitl [Hc]; · rw [hN]; iexact Hc
    isplitl [HO]; · iexact HO
    isplitr; · iapply (mayWait c (osem k) a f (lvOf k) (by rw [lv_cell]) ha hf); iexact Hlev
    iexact Hat
  iintro ⟨HO, Hat, -, Hpay⟩
  iapply Hk
  isplitl [Hat]; · iexact Hat
  isplitl [Hpay]; · iapply (BIBase.Entails.of_eq (rest_cell X D c k)); iexact Hpay
  iexact HO

/-- One transfer to another device: the source comes back with the sending cell's arrival, the block lands with the other's. -/
theorem step_xfer (c c' : Dev nD) (k k' : CellId)
    {sp sp' : Space} {s : Shape} {e : EltTy} {src : Memref sig .tc sp s e} {dst : Memref sig .tc sp' s e}
    {hsc : (dst : Memref sig (Dev.tc c' : Thread nD τ).2.kind sp' s e).view.ref.isScScratch = false}
    {hsrc : src.view.WordExact} {hdst : dst.view.WordExact}
    {hsem : DmaTarget.Typed sp (.dma (semNo k')) (.remote (Dev.tc c' : Thread nD τ) dst (.dma (semNo k)) hsc)} (hN : dst.view.dmaCredit = N)
    (q : PosShare TreeShare) (fs : Buf (Elt F) (src.view.loc (c.tc : Thread nD τ))) (fd : Buf (Elt F) (dst.view.loc (c'.tc : Thread nD τ)))
    (hpay : (src.view.loc (c.tc : Thread nD τ) ↦[src.view.set]{q} fs) ⊢ pay X D c k)
    (hpay' : (dst.view.loc (c'.tc : Thread nD τ) ↦[dst.view.set]{fullShare} (dst.view.write (Elt F) fd (src.view.read (Elt F) fs) Finset.univ)) ⊢ pay X D c' k')
    {α : Type} {Q : α → sProp 𝕄} {kt : PUnit → Prog (TpuEff nD τ sig (Elt F) Λ₀ .tc) α} (O : CellTallies nD τ sig Unit) (W : Waits sig Unit) :
    iprop(world X D K ∗ idle c k ∗ tok c k ∗ tok c' k' ∗ (src.view.loc (c.tc : Thread nD τ) ↦[src.view.set]{q} fs)
        ∗ (dst.view.loc (c'.tc : Thread nD τ) ↦[dst.view.set]{fullShare} fd) ∗ owes (c.tc : Thread nD τ) (O + tallyAt (cell c' k') () N) W)
      ⊢ iprop(((armed c k ∗ owes (c.tc : Thread nD τ) O W)
            -∗ wp frame (wpE (defs₀ (F := F)) 𝒱₀ (c.tc : Thread nD τ) none) Set.univ (kt ⟨⟩) Q)
          -∗ wp frame (wpE (defs₀ (F := F)) 𝒱₀ (c.tc : Thread nD τ) none) Set.univ
              (.op (.enqueueDma src (.remote (Dev.tc c' : Thread nD τ) dst (.dma (semNo k)) hsc) (.dma (semNo k')) hsrc hdst hsem) kt) Q) := by
  unfold armed idle tok
  iintro ⟨#HW, Hat, Ht, Ht', Hs, Hd, HO⟩ Hk
  ihave #HI := (world_inv X D K c k) $$ HW
  ihave #HI' := (world_inv X D K c' k') $$ HW
  ihave #Hr := (world_reached X D K c k) $$ HW
  ihave #Hr' := (world_reached X D K c' k') $$ HW
  iapply (Rounds.wp_send_pointsTo 𝒱₀ ER (rd X D) (c.tc : Thread nD τ) none (κ₁ := K (c, k)) (κ₂ := K (c', k'))
      (r₁ := 0) (r₂ := 0) (d₁ := ()) (d₂ := ()) (fd := fd) (fs := fs) (q := q) (sS := osem k) (sem := osem k')
      (by rw [duties_cell X D c k]; exact Finset.mem_singleton_self _) (by rw [duties_cell X D c' k']; exact Finset.mem_singleton_self _)
      () () N hN rfl rfl O rfl (W := W)
      (by rw [payload_cell]; exact hpay) (by rw [payload_cell]; exact hpay')) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hat Hc]
  · isplitl [Hat]; · iexact Hat
    iexact Hc
  iexact HO

end Cert.KernelIdeal.Own
-- ==== Proof.Steps.lean ====
/-
  The single effects of the kernel as rules over what the protocol holds: loads and stores through the staging buffers and the
  accumulator, a store into a slot of the send buffer, and the two kinds of transfer.
-/
module

public import proofs.«01_k».proof.Proof.Sched
public import Idealize.ShloMosaic.Lib.Pipeline.Value

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (X : Dev nD → S4096x3072.Idx → F .bf16) (D : Dev nD → S4096x8192.Idx → F .bf16)
variable (K : Dev nD × CellId → ℕ)

/-! ## Loads and stores -/

theorem own_load (c : Dev nD) {sp : CoreSpace} {s : Shape} {e : EltTy} (m : Memref sig .tc sp s e) (r : Rect s)
    {hl : m.view.LoadsAt r.toLoadRect} (q : PosShare TreeShare) (V : s.Idx → Elt F e)
    {α : Type} {Q : α → sProp 𝕄} {kt : (r.shape.Idx → Elt F e) → Prog (TpuEff nD τ sig (Elt F) Λ₀ .tc) α} :
    (owns (c.tc : Thread nD τ) m q V : sProp 𝕄)
      ⊢ iprop((owns (c.tc : Thread nD τ) m q V
            -∗ wp frame (wpE (defs₀ (F := F)) 𝒱₀ (c.tc : Thread nD τ) none) Set.univ (kt fun i => V (r.emb i)) Q)
          -∗ wp frame (wpE (defs₀ (F := F)) 𝒱₀ (c.tc : Thread nD τ) none) Set.univ (.op (.load m r.toLoadRect hl) kt) Q) := by
  unfold owns
  iintro ⟨%f, %hf, H⟩ Hk
  iapply (wp_load_rect 𝒱₀ (c.tc : Thread nD τ) none Set.univ (m := m) (r := r) (View.set_slice_subset _ _)) $$ H
  iintro H
  have e : (m.access r).read (Elt F) f = fun i => V (r.emb i) := by subst hf; rfl
  rw [e]
  iapply Hk
  iexists f; isplitr; · ipureintro; exact hf
  iexact H

theorem own_store (c : Dev nD) {sp : CoreSpace} {s : Shape} {e : EltTy} (m : Memref sig .tc sp s e) (off : Fin s.rank → ℕ)
    (inb : ∀ a, off a + s.size a ≤ s.size a) (V : s.Idx → Elt F e) (w : s.Idx → Elt F e)
    {hx : (m.access (Rect.unit off s.size inb)).Stores Finset.univ} {hm}
    {α : Type} {Q : α → sProp 𝕄} {kt : PUnit → Prog (TpuEff nD τ sig (Elt F) Λ₀ .tc) α} :
    (owns (c.tc : Thread nD τ) m fullShare V : sProp 𝕄)
      ⊢ iprop((owns (c.tc : Thread nD τ) m fullShare w
            -∗ wp frame (wpE (defs₀ (F := F)) 𝒱₀ (c.tc : Thread nD τ) none) Set.univ (kt ⟨⟩) Q)
          -∗ wp frame (wpE (defs₀ (F := F)) 𝒱₀ (c.tc : Thread nD τ) none) Set.univ
              (.op (.store m (Rect.unit off s.size inb) w Finset.univ hx hm) kt) Q) := by
  unfold owns
  iintro ⟨%f, %hf, H⟩ Hk
  iapply (wp_store 𝒱₀ (c.tc : Thread nD τ) none Set.univ (m := m) (r := Rect.unit off s.size inb) (Mk := Finset.univ) (View.set_slice_subset _ _)) $$ H
  iintro H
  iapply Hk
  iexists _; isplitr
  swap; · iexact H
  ipureintro
  funext i
  have hi : (Rect.unit off s.size inb).emb i = i := by
    funext a; apply Fin.ext
    show off a + 1 * (i a).val = (i a).val
    have := inb a; omega
  conv_lhs => rw [← hi]
  exact View.read_slice_write_emb _ _ _ (Finset.mem_univ i)

/-- A slot of the send buffer holding `v`, as the transfer will read it. -/
def slotAt (c : Dev nD) (q s : Fin 2) (v : FVec F S512x1024 .bf16) : sProp 𝕄 :=
  iprop(∃ f, ⌜(sView ![q.val, s.val, 0, 0] (inb_s q s)).view.read (Elt F) f = v⌝ ∗ sPts c q s f)

theorem sR_set (q s : Fin 2) (off : Fin 4 → ℕ) (h : off = ![q.val, s.val, 0, 0])
    (inb : ∀ a, off a + S1x1x512x1024.size a ≤ S2x2x512x1024.size a) :
    (sM.access (Rect.unit (s := S2x2x512x1024) off S1x1x512x1024.size inb)).set = sSet q s := by
  subst h
  show (((View.whole cc0_scratch1).slice _).set) = _
  rw [View.set_slice]; show (View.whole cc0_scratch1).setOn (sR q s).set = (sR q s).set
  exact Finset.map_refl

/-- Reading a slot whose contents are not needed. -/
theorem slot_load (c : Dev nD) (q s : Fin 2) (off : Fin 4 → ℕ) (h : off = ![q.val, s.val, 0, 0])
    (inb : ∀ a, off a + S1x1x512x1024.size a ≤ S2x2x512x1024.size a)
    {hl : sM.view.LoadsAt (Rect.unit (s := S2x2x512x1024) off S1x1x512x1024.size inb).toLoadRect}
    (f : Buf (Elt F) ((c.tc : Thread nD τ).loc cc0_scratch1))
    {α : Type} {Q : α → sProp 𝕄} {kt : (S1x1x512x1024.Idx → Elt F .bf16) → Prog (TpuEff nD τ sig (Elt F) Λ₀ .tc) α} :
    (sPts c q s f : sProp 𝕄)
      ⊢ iprop((sPts c q s f -∗ ∀ v, wp frame (wpE (defs₀ (F := F)) 𝒱₀ (c.tc : Thread nD τ) none) Set.univ (kt v) Q)
          -∗ wp frame (wpE (defs₀ (F := F)) 𝒱₀ (c.tc : Thread nD τ) none) Set.univ
              (.op (.load sM (Rect.unit (s := S2x2x512x1024) off S1x1x512x1024.size inb).toLoadRect hl) kt) Q) := by
  unfold sPts
  iintro H Hk
  iapply (wp_load_rect 𝒱₀ (c.tc : Thread nD τ) none Set.univ (m := sM) (r := Rect.unit (s := S2x2x512x1024) off S1x1x512x1024.size inb)
    (S := sSet q s) (f := f) (le_of_eq (sR_set q s off h inb))) $$ H
  iintro H
  ihave Hw := Hk $$ H
  iapply Hw

/-- Storing a value into a slot, shaped as the slot is. -/
theorem slot_store (c : Dev nD) (q s : Fin 2) (off : Fin 4 → ℕ) (h : off = ![q.val, s.val, 0, 0])
    (inb : ∀ a, off a + S1x1x512x1024.size a ≤ S2x2x512x1024.size a)
    (v : FVec F S512x1024 .bf16) (w : S1x1x512x1024.Idx → Elt F .bf16) (hw : w = k0_pay5 v)
    {hx : (sM.access (Rect.unit (s := S2x2x512x1024) off S1x1x512x1024.size inb)).Stores Finset.univ} {hm}
    (f : Buf (Elt F) ((c.tc : Thread nD τ).loc cc0_scratch1))
    {α : Type} {Q : α → sProp 𝕄} {kt : PUnit → Prog (TpuEff nD τ sig (Elt F) Λ₀ .tc) α} :
    (sPts c q s f : sProp 𝕄)
      ⊢ iprop((slotAt c q s v -∗ wp frame (wpE (defs₀ (F := F)) 𝒱₀ (c.tc : Thread nD τ) none) Set.univ (kt ⟨⟩) Q)
          -∗ wp frame (wpE (defs₀ (F := F)) 𝒱₀ (c.tc : Thread nD τ) none) Set.univ
              (.op (.store sM (Rect.unit (s := S2x2x512x1024) off S1x1x512x1024.size inb) w Finset.univ hx hm) kt) Q) := by
  unfold slotAt sPts
  iintro H Hk
  iapply (wp_store 𝒱₀ (c.tc : Thread nD τ) none Set.univ (m := sM) (r := Rect.unit (s := S2x2x512x1024) off S1x1x512x1024.size inb) (Mk := Finset.univ)
    (S := sSet q s) (f := f) (le_of_eq (sR_set q s off h inb))) $$ H
  iintro H
  iapply Hk
  iexists _; isplitr
  swap; · iexact H
  ipureintro
  subst h hw
  show shapeCast S512x1024 ((sM.access (Rect.unit (s := S2x2x512x1024) ![q.val, s.val, 0, 0] S1x1x512x1024.size inb)).read (Elt F)
    ((sM.access (Rect.unit (s := S2x2x512x1024) ![q.val, s.val, 0, 0] S1x1x512x1024.size inb)).write (Elt F) f (k0_pay5 v) Finset.univ)) squeezes_S1x1x512x1024_S512x1024.numel_eq = v
  rw [View.read_write_univ]
  exact shapeCast_shapeCast v _ _

/-! ## Transfers -/

theorem write_vView (c' : Dev nD) (s : Fin 4) (b : Fin 8) (off : Fin 2 → ℕ) (h : off = ![512 * s.val, 1024 * b.val])
    (inb : ∀ a, off a + S512x1024.size a ≤ S2048x8192.size a) (q : PosShare TreeShare)
    (f : S2048x8192.Idx → F .bf16) (w : S512x1024.Idx → F .bf16) (g : S2048x8192.Idx → F .bf16) (hw : ∀ i, g ((vR s b).emb i) = w i) :
    ((((c'.tc : Thread nD τ).loc main_v1_1) ↦[(vView off inb).view.set]{q} ((vView off inb).view.write (Elt F) f w Finset.univ)) : sProp 𝕄)
      ⊢ vPts q c' s b g := by
  unfold vPts
  rw [vView_set s b off h inb]
  refine BIBase.Entails.of_eq (pointsTo_congr fun i hi => ?_)
  rw [← vView_set s b off h inb] at hi
  obtain ⟨x, -, rfl⟩ := Finset.mem_map.mp hi
  have h1 := congrFun (View.read_write_univ (Val := Elt F) (v := (vView off inb).view) f w) x
  subst h
  exact h1.trans (hw x).symm

/-- A quarter of band `b` goes to the device of the other ring. -/
theorem step_ysend (c c' : Dev nD) (hc : c' = ynb c) (q : Fin 2) (b : Fin 8)
    (offs : Fin 4 → ℕ) (hs : offs = ![q.val, (par b).val, 0, 0]) (inbs : ∀ a, offs a + S1x1x512x1024.size a ≤ S2x2x512x1024.size a)
    (offv : Fin 2 → ℕ) (hv : offv = ![512 * (if q = 0 then place c else opp c).val, 1024 * b.val]) (inbv : ∀ a, offv a + S512x1024.size a ≤ S2048x8192.size a)
    (sm sm' : DmaSem sig) (hsm : sm = semNo (0, q, b)) (hsm' : sm' = semNo (1, q, b))
    {hsc : (vView offv inbv : Memref sig (Dev.tc c' : Thread nD τ).2.kind .hbm S512x1024 .bf16).view.ref.isScScratch = false}
    {hsrc : (sView offs inbs).view.WordExact} {hdst : (vView offv inbv).view.WordExact}
    {hsem : DmaTarget.Typed .vmem (.dma sm') (.remote (Dev.tc c' : Thread nD τ) (vView offv inbv) (.dma sm) hsc)}
    {α : Type} {Q : α → sProp 𝕄} {kt : PUnit → Prog (TpuEff nD τ sig (Elt F) Λ₀ .tc) α} (O : CellTallies nD τ sig Unit) (W : Waits sig Unit) :
    iprop(world X D K ∗ idle c (0, q, b) ∗ tok c (0, q, b) ∗ tok (ynb c) (1, q, b) ∗ slotAt c q (par b) (quarter X D c q b)
        ∗ (∃ f, vPts fullShare (ynb c) (if q = 0 then place c else opp c) b f) ∗ owes (c.tc : Thread nD τ) (O + dueA c q b) W)
      ⊢ iprop(((armed c (0, q, b) ∗ owes (c.tc : Thread nD τ) O W)
            -∗ wp frame (wpE (defs₀ (F := F)) 𝒱₀ (c.tc : Thread nD τ) none) Set.univ (kt ⟨⟩) Q)
          -∗ wp frame (wpE (defs₀ (F := F)) 𝒱₀ (c.tc : Thread nD τ) none) Set.univ
              (.op (.enqueueDma (sView offs inbs) (.remote (Dev.tc c' : Thread nD τ) (vView offv inbv) (.dma sm) hsc) (.dma sm') hsrc hdst hsem) kt) Q) := by
  subst hc hsm hsm' hs
  unfold slotAt
  iintro ⟨#HW, Hi, Ht, Ht', ⟨%fs, %hfs, Hs⟩, ⟨%fd, Hd⟩, HO⟩ Hk
  iapply (step_xfer X D K c (ynb c) (0, q, b) (1, q, b) (src := sView ![q.val, (par b).val, 0, 0] inbs) (dst := vView offv inbv) (credit_hbm _)
    fullShare fs fd ?_ ?_ O W) $$ [Hi Ht Ht' Hs Hd HO] Hk
  · unfold pay; dsimp only
    iintro H; iexists fs
    unfold sPts; rw [sView_set q (par b) _ rfl inbs]
    iexact H
  · unfold pay; dsimp only
    rw [place_ynb, opp_ynb]
    exact write_vView (ynb c) _ b offv hv inbv fullShare fd _ (received X D (ynb c)) fun i => by
      rw [received_own, ← hfs]
  · isplitr; · iexact HW
    isplitl [Hi]; · iexact Hi
    isplitl [Ht]; · iexact Ht
    isplitl [Ht']; · iexact Ht'
    isplitl [Hs]
    · unfold sPts; rw [sView_set q (par b) _ rfl inbs]; iexact Hs
    isplitl [Hd]
    · unfold vPts; rw [vView_set _ b offv hv inbv]; iexact Hd
    iexact HO

theorem place_nbr (c : Dev nD) (d : Fin 2) : (if d = 0 then place (lft (nbr c d)) else place (rgt (nbr c d))) = place c := by
  revert c d; decide

/-- The block received at the device's own place goes on to the next or the previous device. -/
theorem step_fwd (c c' : Dev nD) (d : Fin 2) (hc : c' = nbr c d) (b : Fin 8)
    (off : Fin 2 → ℕ) (h : off = ![512 * (place c).val, 1024 * b.val]) (inb : ∀ a, off a + S512x1024.size a ≤ S2048x8192.size a)
    (sm sm' : DmaSem sig) (hsm : sm = semNo (2, d, b)) (hsm' : sm' = semNo (3, d, b))
    {hsc : (vView off inb : Memref sig (Dev.tc c' : Thread nD τ).2.kind .hbm S512x1024 .bf16).view.ref.isScScratch = false}
    {hsrc : (vView off inb).view.WordExact} {hdst : (vView off inb).view.WordExact}
    {hsem : DmaTarget.Typed .hbm (.dma sm') (.remote (Dev.tc c' : Thread nD τ) (vView off inb) (.dma sm) hsc)}
    {α : Type} {Q : α → sProp 𝕄} {kt : PUnit → Prog (TpuEff nD τ sig (Elt F) Λ₀ .tc) α} (O : CellTallies nD τ sig Unit) (W : Waits sig Unit) :
    iprop(world X D K ∗ idle c (2, d, b) ∗ tok c (2, d, b) ∗ tok (nbr c d) (3, d, b) ∗ vPts (hs d) c (place c) b (received X D c)
        ∗ (∃ f, vPts fullShare (nbr c d) (place c) b f) ∗ owes (c.tc : Thread nD τ) (O + dueF c d b) W)
      ⊢ iprop(((armed c (2, d, b) ∗ owes (c.tc : Thread nD τ) O W)
            -∗ wp frame (wpE (defs₀ (F := F)) 𝒱₀ (c.tc : Thread nD τ) none) Set.univ (kt ⟨⟩) Q)
          -∗ wp frame (wpE (defs₀ (F := F)) 𝒱₀ (c.tc : Thread nD τ) none) Set.univ
              (.op (.enqueueDma (vView off inb) (.remote (Dev.tc c' : Thread nD τ) (vView off inb) (.dma sm) hsc) (.dma sm') hsrc hdst hsem) kt) Q) := by
  subst hc hsm hsm'
  iintro ⟨#HW, Hi, Ht, Ht', Hs, ⟨%fd, Hd⟩, HO⟩ Hk
  have hpl := place_nbr c d
  have hrc : ∀ i, received X D (nbr c d) ((vR (place c) b).emb i) = received X D c ((vR (place c) b).emb i) := by
    unfold nbr
    by_cases hd : d = 0
    · rw [if_pos hd]; exact received_rgt X D c b
    · rw [if_neg hd]; exact received_lft X D c b
  iapply (step_xfer X D K c (nbr c d) (2, d, b) (3, d, b) (src := vView off inb) (dst := vView off inb) (credit_hbm _)
    (hs d) (received X D c) fd ?_ ?_ O W) $$ [Hi Ht Ht' Hs Hd HO] Hk
  · unfold pay vPts; dsimp only
    rw [vView_set (place c) b off h inb]
  · unfold pay; dsimp only
    rw [hpl]
    exact write_vView (nbr c d) (place c) b off h inb fullShare fd _ (received X D (nbr c d)) fun i => by
      rw [hrc, vView_read (place c) b off h inb]
  · isplitr; · iexact HW
    isplitl [Hi]; · iexact Hi
    isplitl [Ht]; · iexact Ht
    isplitl [Ht']; · iexact Ht'
    isplitl [Hs]
    · unfold vPts; rw [vView_set (place c) b off h inb]; iexact Hs
    isplitl [Hd]
    · unfold vPts; rw [vView_set (place c) b off h inb]; iexact Hd
    iexact HO

end Cert.KernelIdeal.Own
-- ==== Proof.State.lean ====
/-
  What a device holds between two grid points, band by band, and how a band moves from one stage to the next.
-/
module

public import proofs.«01_k».proof.Proof.Steps

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (X : Dev nD → S4096x3072.Idx → F .bf16) (D : Dev nD → S4096x8192.Idx → F .bf16)
variable (K : Dev nD × CellId → ℕ)

/-! ## One member, or two, of a family taken out and put back changed -/

theorem take_one {I : Type} [DecidableEq I] [Fintype I] (i : I) (Φ Φ' : I → sProp 𝕄) (h : ∀ j, j ≠ i → Φ j = Φ' j) :
    bigSep Finset.univ Φ ⊢ iprop(Φ i ∗ (Φ' i -∗ bigSep Finset.univ Φ')) := by
  rw [bigSep_univ_split i, bigSep_univ_split (Φ := Φ') i]
  have e : bigSep (Finset.univ.erase i) Φ = bigSep (Finset.univ.erase i) Φ' :=
    bigSep_congr fun j hj => h j (Finset.ne_of_mem_erase hj)
  rw [e]
  show iprop(Φ i ∗ bigSep (Finset.univ.erase i) Φ') ⊢ iprop(Φ i ∗ (Φ' i -∗ (Φ' i ∗ bigSep (Finset.univ.erase i) Φ')))
  iintro ⟨H, Hr⟩
  isplitl [H]; · iexact H
  iintro H
  isplitl [H]; · iexact H
  iexact Hr

theorem take_two {I : Type} [DecidableEq I] [Fintype I] (i k : I) (hik : k ≠ i) (Φ Φ' : I → sProp 𝕄)
    (h : ∀ j, j ≠ i → j ≠ k → Φ j = Φ' j) :
    bigSep Finset.univ Φ ⊢ iprop(Φ i ∗ Φ k ∗ (Φ' i -∗ Φ' k -∗ bigSep Finset.univ Φ')) := by
  have hk : k ∈ Finset.univ.erase i := Finset.mem_erase.2 ⟨hik, Finset.mem_univ k⟩
  rw [bigSep_univ_split i, bigSep_univ_split (Φ := Φ') i, bigSep_erase hk, bigSep_erase (Φ := Φ') hk]
  have e : bigSep ((Finset.univ.erase i).erase k) Φ = bigSep ((Finset.univ.erase i).erase k) Φ' :=
    bigSep_congr fun j hj => h j (Finset.ne_of_mem_erase (Finset.mem_of_mem_erase hj)) (Finset.ne_of_mem_erase hj)
  rw [e]
  show iprop(Φ i ∗ Φ k ∗ bigSep ((Finset.univ.erase i).erase k) Φ')
    ⊢ iprop(Φ i ∗ Φ k ∗ (Φ' i -∗ Φ' k -∗ (Φ' i ∗ Φ' k ∗ bigSep ((Finset.univ.erase i).erase k) Φ')))
  iintro ⟨H, H', Hr⟩
  isplitl [H]; · iexact H
  isplitl [H']; · iexact H'
  iintro H H'
  isplitl [H]; · iexact H
  isplitl [H']; · iexact H'
  iexact Hr

/-! ## The stages of a band -/

/-- Before band `b` is sent to the other ring: the right to send quarter `q`, and the block it lands in. -/
def yB (c : Dev nD) (q : Fin 2) (b : Fin 8) : sProp 𝕄 :=
  iprop(tok c (0, q, b) ∗ tok (ynb c) (1, q, b) ∗ (∃ f, vPts fullShare (ynb c) (if q = 0 then place c else opp c) b f) ∗ idle c (0, q, b))
/-- The slots of the send buffer belong to the first two bands at the start; later ones get them from the waits. -/
def slots (c : Dev nD) (b : Fin 8) : sProp 𝕄 :=
  if b.val < 2 then iprop((∃ f, sPts c 0 (par b) f) ∗ (∃ f, sPts c 1 (par b) f)) else iprop(emp)
def bandY (c : Dev nD) (a : ℕ) (b : Fin 8) : sProp 𝕄 :=
  if a ≤ b.val then iprop(yB c 0 b ∗ yB c 1 b ∗ slots c b)
  else if a ≤ b.val + 2 then iprop(armed c (0, 0, b) ∗ armed c (0, 1, b))
  else iprop(done c (0, 0, b) ∗ done c (0, 1, b))
/-- Before band `b` is handed on to the neighbour `d`. -/
def fB (c : Dev nD) (d : Fin 2) (b : Fin 8) : sProp 𝕄 :=
  iprop(tok c (2, d, b) ∗ tok (nbr c d) (3, d, b) ∗ (∃ f, vPts fullShare (nbr c d) (place c) b f) ∗ idle c (2, d, b))
def bandF (c : Dev nD) (n : ℕ) (b : Fin 8) : sProp 𝕄 :=
  if n ≤ b.val then iprop(armed c (1, 0, b) ∗ fB c 0 b ∗ fB c 1 b)
  else iprop(done c (1, 0, b) ∗ armed c (2, 0, b) ∗ armed c (2, 1, b))
/-- What is only waited for at the end. -/
def bandR (c : Dev nD) (b : Fin 8) : sProp 𝕄 := iprop(armed c (1, 1, b) ∗ armed c (3, 0, b) ∗ armed c (3, 1, b))

def bandsY (c : Dev nD) (a : ℕ) : sProp 𝕄 := bigSep Finset.univ fun b : Fin 8 => bandY c a b
def bandsF (c : Dev nD) (n : ℕ) : sProp 𝕄 := bigSep Finset.univ fun b : Fin 8 => bandF c n b
def bandsR (c : Dev nD) : sProp 𝕄 := bigSep Finset.univ fun b : Fin 8 => bandR c b
/-- The dues are paid in step with the bands; the pairs waited on are not needed. -/
def owing (c : Dev nD) (a f : ℕ) : sProp 𝕄 := iprop(∃ W, owes (c.tc : Thread nD τ) (owe c a f) W)

/-! ## The steps -/

theorem takeY_early (c : Dev nD) (b : Fin 8) (hb : b.val < 2) :
    (bandsY c b.val : sProp 𝕄) ⊢ iprop((yB c 0 b ∗ yB c 1 b ∗ (∃ f, sPts c 0 (par b) f) ∗ (∃ f, sPts c 1 (par b) f))
      ∗ (armed c (0, 0, b) ∗ armed c (0, 1, b) -∗ bandsY c (b.val + 1))) := by
  unfold bandsY
  refine (take_one b _ (fun j => bandY c (b.val + 1) j) fun j hj => ?_).trans ?_
  · have hne : j.val ≠ b.val := fun h => hj (Fin.ext h)
    unfold bandY
    by_cases h : b.val ≤ j.val
    · rw [if_pos h, if_pos (by omega)]
    · rw [if_neg h, if_pos (by omega), if_neg (by omega), if_pos (by omega)]
  · unfold bandY slots
    rw [if_pos le_rfl, if_pos hb, if_neg (by omega), if_pos (by omega)]

theorem takeY_late (c : Dev nD) (b b' : Fin 8) (hb : b'.val + 2 = b.val) :
    (bandsY c b.val : sProp 𝕄) ⊢ iprop((yB c 0 b ∗ yB c 1 b) ∗ (armed c (0, 0, b') ∗ armed c (0, 1, b'))
      ∗ ((armed c (0, 0, b) ∗ armed c (0, 1, b)) -∗ (done c (0, 0, b') ∗ done c (0, 1, b')) -∗ bandsY c (b.val + 1))) := by
  unfold bandsY
  refine (take_two b b' (fun h => by rw [h] at hb; omega) _ (fun j => bandY c (b.val + 1) j) fun j hj hj' => ?_).trans ?_
  · have hne : j.val ≠ b.val := fun h => hj (Fin.ext h)
    have hne' : j.val ≠ b'.val := fun h => hj' (Fin.ext h)
    unfold bandY
    by_cases h : b.val ≤ j.val
    · rw [if_pos h, if_pos (by omega)]
    · rw [if_neg h]
      by_cases h' : b.val ≤ j.val + 2
      · rw [if_pos h', if_neg (by omega), if_pos (by omega)]
      · rw [if_neg h', if_neg (by omega), if_neg (by omega)]
  · unfold bandY slots
    rw [if_pos le_rfl, if_neg (by omega : ¬ b.val < 2), if_neg (by omega : ¬ b.val ≤ b'.val), if_pos (by omega : b.val ≤ b'.val + 2),
      if_neg (by omega : ¬ b.val + 1 ≤ b.val), if_pos (by omega : b.val + 1 ≤ b.val + 2),
      if_neg (by omega : ¬ b.val + 1 ≤ b'.val), if_neg (by omega : ¬ b.val + 1 ≤ b'.val + 2)]
    iintro ⟨⟨H1, H2, -⟩, H3, H4⟩
    isplitl [H1 H2]; · isplitl [H1] <;> iassumption
    isplitl [H3]; · iexact H3
    iexact H4

theorem takeF (c : Dev nD) (b : Fin 8) :
    (bandsF c b.val : sProp 𝕄) ⊢ iprop((armed c (1, 0, b) ∗ fB c 0 b ∗ fB c 1 b)
      ∗ ((done c (1, 0, b) ∗ armed c (2, 0, b) ∗ armed c (2, 1, b)) -∗ bandsF c (b.val + 1))) := by
  unfold bandsF
  refine (take_one b _ (fun j => bandF c (b.val + 1) j) fun j hj => ?_).trans ?_
  · have hne : j.val ≠ b.val := fun h => hj (Fin.ext h)
    unfold bandF
    by_cases h : b.val ≤ j.val
    · rw [if_pos h, if_pos (by omega)]
    · rw [if_neg h, if_neg (by omega)]
  · unfold bandF
    rw [if_pos le_rfl, if_neg (by omega)]

/-- A wait, at any name of the semaphore. -/
theorem wait_at (c : Dev nD) (k : CellId) (a f : ℕ) (ha : lvOf k < 2 * a + 1) (hf : lvOf k < 2 * f + 2) (sm : DmaSem sig) (hsm : sm = semNo k)
    {sp sp' : Space} {s s' : Shape} {e e' : EltTy} {src : Memref sig .tc sp s e} {dst : Memref sig .tc sp' s' e'}
    {hsrc : src.view.WordExact} {hdst : dst.view.WordExact} (hN : dst.view.dmaCredit = N)
    {α : Type} {Q : α → sProp 𝕄} {kt : PUnit → Prog (TpuEff nD τ sig (Elt F) Λ₀ .tc) α} :
    iprop(world X D K ∗ armed c k ∗ owing c a f)
      ⊢ iprop(((done c k ∗ pay X D c k ∗ owing c a f)
            -∗ wp frame (wpE (defs₀ (F := F)) 𝒱₀ (c.tc : Thread nD τ) none) Set.univ (kt ⟨⟩) Q)
          -∗ wp frame (wpE (defs₀ (F := F)) 𝒱₀ (c.tc : Thread nD τ) none) Set.univ (.op (.waitDma2 sm src dst hsrc hdst) kt) Q) := by
  subst hsm
  unfold owing
  iintro ⟨#HW, Ha, ⟨%W, HO⟩⟩ Hk
  iapply (step_wait X D K c k a f ha hf hN W) $$ [Ha HO]
  · isplitr; · iexact HW
    isplitl [Ha]; · iexact Ha
    iexact HO
  iintro ⟨Hd, Hp, HO⟩
  iapply Hk
  isplitl [Hd]; · iexact Hd
  isplitl [Hp]; · iexact Hp
  iexists _; iexact HO

/-! ## The last waits -/

def dcell (p : Fin 8 × Fin 5) : CellId := ((![1, 3, 3, 2, 2] : Fin 5 → Fin 4) p.2, (![1, 0, 1, 0, 1] : Fin 5 → Fin 2) p.2, p.1)
def dr (c : Dev nD) (n : ℕ) : sProp 𝕄 :=
  bigSep Finset.univ fun p : Fin 8 × Fin 5 => if p.1.val * 5 + p.2.val < n then iprop(done c (dcell p) ∗ pay X D c (dcell p)) else armed c (dcell p)

theorem dcell_lv : ∀ (b : Fin 8) (j : Fin 5), lvOf (dcell (b, j)) < 17 := by decide +kernel

theorem drain (c : Dev nD) (n : ℕ) (p : Fin 8 × Fin 5) (hp : p.1.val * 5 + p.2.val = n) (sm : DmaSem sig) (hsm : sm = semNo (dcell p))
    {sp sp' : Space} {s s' : Shape} {e e' : EltTy} {src : Memref sig .tc sp s e} {dst : Memref sig .tc sp' s' e'}
    {hsrc : src.view.WordExact} {hdst : dst.view.WordExact} (hN : dst.view.dmaCredit = N)
    {α : Type} {Q : α → sProp 𝕄} {kt : PUnit → Prog (TpuEff nD τ sig (Elt F) Λ₀ .tc) α} :
    iprop(world X D K ∗ dr X D c n ∗ owing c 8 8)
      ⊢ iprop(((dr X D c (n + 1) ∗ owing c 8 8)
            -∗ wp frame (wpE (defs₀ (F := F)) 𝒱₀ (c.tc : Thread nD τ) none) Set.univ (kt ⟨⟩) Q)
          -∗ wp frame (wpE (defs₀ (F := F)) 𝒱₀ (c.tc : Thread nD τ) none) Set.univ (.op (.waitDma2 sm src dst hsrc hdst) kt) Q) := by
  have hl : lvOf (dcell p) < 17 := dcell_lv p.1 p.2
  have ht : dr X D c n ⊢ iprop(armed c (dcell p) ∗ ((done c (dcell p) ∗ pay X D c (dcell p)) -∗ dr X D c (n + 1))) := by
    unfold dr
    refine (take_one p _ (fun p : Fin 8 × Fin 5 => if p.1.val * 5 + p.2.val < n + 1 then iprop(done c (dcell p) ∗ pay X D c (dcell p)) else armed c (dcell p))
      fun j hj => ?_).trans ?_
    · have hne : j.1.val * 5 + j.2.val ≠ n := fun h => hj (by
        have h1 := j.2.isLt; have h2 := p.2.isLt
        exact Prod.ext (Fin.ext (by omega)) (Fin.ext (by omega)))
      by_cases h : j.1.val * 5 + j.2.val < n
      · rw [if_pos h, if_pos (by omega)]
      · rw [if_neg h, if_neg (by omega)]
    · rw [if_neg (by omega), if_pos (by omega)]
  iintro ⟨#HW, Hd, HO⟩ Hk
  ihave Hd := ht $$ Hd
  icases Hd with ⟨Ha, Hb⟩
  iapply (wait_at X D K c (dcell p) 8 8 hl (by omega) sm hsm hN) $$ [Ha HO]
  · isplitr; · iexact HW
    isplitl [Ha]; · iexact Ha
    iexact HO
  iintro ⟨Hd, Hp, HO⟩
  iapply Hk
  isplitr [HO]
  · iapply Hb; isplitl [Hd] <;> iassumption
  iexact HO

/-- The waits to come, once every band is handed on. -/
theorem dr_zero (c : Dev nD) : iprop((bigSep Finset.univ fun b : Fin 8 => iprop(armed c (2, 0, b) ∗ armed c (2, 1, b))) ∗ bandsR c) ⊢ dr X D c 0 := by
  unfold dr bandsR bandR
  rw [bigSep_univ_prod]
  rw [← bigSep_sep']
  refine bigSep_mono fun b _ => ?_
  rw [bigSep_univ_eq_bigSepL [(0 : Fin 5), 1, 2, 3, 4] (by decide) (by decide)]
  simp only [Nat.not_lt_zero, if_false, bigSepL_cons, bigSepL_nil]
  show _ ⊢ iprop(armed c (1, 1, b) ∗ armed c (3, 0, b) ∗ armed c (3, 1, b) ∗ armed c (2, 0, b) ∗ armed c (2, 1, b) ∗ emp)
  iintro ⟨⟨H1, H2⟩, H3, H4, H5⟩
  isplitl [H3]; · iexact H3
  isplitl [H4]; · iexact H4
  isplitl [H5]; · iexact H5
  isplitl [H1]; · iexact H1
  isplitl [H2]; · iexact H2
  iempintro

/-- and what they brought. -/
theorem dr_all (c : Dev nD) : dr X D c 40 ⊢ bigSep Finset.univ fun b : Fin 8 => iprop(
    (done c (1, 1, b) ∗ done c (3, 0, b) ∗ done c (3, 1, b) ∗ done c (2, 0, b) ∗ done c (2, 1, b))
    ∗ (pay X D c (1, 1, b) ∗ pay X D c (3, 0, b) ∗ pay X D c (3, 1, b) ∗ pay X D c (2, 0, b) ∗ pay X D c (2, 1, b))) := by
  unfold dr
  rw [bigSep_univ_prod]
  refine bigSep_mono fun b _ => ?_
  have hb := b.isLt
  rw [bigSep_univ_eq_bigSepL [(0 : Fin 5), 1, 2, 3, 4] (by decide) (by decide)]
  have e (j : Fin 5) : b.val * 5 + j.val < 40 := by have := j.isLt; omega
  simp only [e, if_true, bigSepL_cons, bigSepL_nil]
  show iprop((done c (1, 1, b) ∗ pay X D c (1, 1, b)) ∗ (done c (3, 0, b) ∗ pay X D c (3, 0, b)) ∗ (done c (3, 1, b) ∗ pay X D c (3, 1, b))
    ∗ (done c (2, 0, b) ∗ pay X D c (2, 0, b)) ∗ (done c (2, 1, b) ∗ pay X D c (2, 1, b)) ∗ emp) ⊢ _
  iintro ⟨⟨H1, P1⟩, ⟨H2, P2⟩, ⟨H3, P3⟩, ⟨H4, P4⟩, ⟨H5, P5⟩, -⟩
  isplitl [H1 H2 H3 H4 H5]
  · isplitl [H1]; · iexact H1
    isplitl [H2]; · iexact H2
    isplitl [H3]; · iexact H3
    isplitl [H4] <;> iassumption
  isplitl [P1]; · iexact P1
  isplitl [P2]; · iexact P2
  isplitl [P3]; · iexact P3
  isplitl [P4] <;> iassumption

/-! ## The semaphores by their places -/

theorem as_s (q : Fin 2) (b : Fin 8) (off : Fin 2 → ℕ) (h : off = ![q.val, b.val]) (inb : ∀ a, off a + S1x1.size a ≤ S2x8.size a) :
    ((cc0_scratch2.slice (Rect.unit (s := S2x8) off S1x1.size inb)).squeeze S_ squeezes_S1x1_S_).sem = semNo (0, q, b) :=
  (sem2_eq q b off h inb).trans (Fin.ext (by show 5 + 8 * q.val + b.val = 5 + 16 * 0 + 8 * q.val + b.val; omega))
theorem as_r (q : Fin 2) (b : Fin 8) (off : Fin 2 → ℕ) (h : off = ![q.val, b.val]) (inb : ∀ a, off a + S1x1.size a ≤ S2x8.size a) :
    ((cc0_scratch3.slice (Rect.unit (s := S2x8) off S1x1.size inb)).squeeze S_ squeezes_S1x1_S_).sem = semNo (1, q, b) :=
  (sem3_eq q b off h inb).trans (Fin.ext (by show 21 + 8 * q.val + b.val = 5 + 16 * 1 + 8 * q.val + b.val; omega))
theorem fw_s (q : Fin 2) (b : Fin 8) (off : Fin 2 → ℕ) (h : off = ![q.val, b.val]) (inb : ∀ a, off a + S1x1.size a ≤ S2x8.size a) :
    ((cc0_scratch4.slice (Rect.unit (s := S2x8) off S1x1.size inb)).squeeze S_ squeezes_S1x1_S_).sem = semNo (2, q, b) :=
  (sem4_eq q b off h inb).trans (Fin.ext (by show 37 + 8 * q.val + b.val = 5 + 16 * 2 + 8 * q.val + b.val; omega))
theorem fw_r (q : Fin 2) (b : Fin 8) (off : Fin 2 → ℕ) (h : off = ![q.val, b.val]) (inb : ∀ a, off a + S1x1.size a ≤ S2x8.size a) :
    ((cc0_scratch5.slice (Rect.unit (s := S2x8) off S1x1.size inb)).squeeze S_ squeezes_S1x1_S_).sem = semNo (3, q, b) :=
  (sem5_eq q b off h inb).trans (Fin.ext (by show 53 + 8 * q.val + b.val = 5 + 16 * 3 + 8 * q.val + b.val; omega))

end Cert.KernelIdeal.Own
-- ==== Proof.Drain.lean ====
/-
  The last waits of the kernel, part by part.
-/
module

public import proofs.«01_k».proof.Proof.State
public import proofs.«01_k».proof.Proof.Gen.KernelIdeal.Points

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (X : Dev nD → S4096x3072.Idx → F .bf16) (D : Dev nD → S4096x8192.Idx → F .bf16)
variable (K : Dev nD × CellId → ℕ)

/-! ## The last waits, part by part -/

theorem part7_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v5 : BitVec 32) (v12 : BitVec 32) (v45 : BitVec 32) (v58 : BitVec 32) (v60 : BitVec 32) (v64 : BitVec 32) (k0_h5 : k0_cond5 i = 1#1) (v148 : BitVec 32)
    (Q : PUnit → sProp 𝕄) :
    iprop(world X D K ∗ dr X D c 1 ∗ owing c 8 8)
      ⊢ iprop(((dr X D c 4 ∗ owing c 8 8) -∗ Q ⟨⟩)
          -∗ wp frame (wpE (defs₀ (F := F)) 𝒱₀ (c.tc : Thread nD τ) none) Set.univ
            (k0_part7 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v5 v12 v45 v58 v60 v64 k0_h5 v148) Q) := by
  rw [k0_part7_eq_skeleton]; unfold k0_part7_skel
  simp only [Prog.lift, Prog.bind_op, Prog.bind_ret, Prog.pure_eq_ret, Prog.bind_assoc, wp_ret]
  iintro ⟨#HW, Hd, HO⟩ Hk
  iapply (drain X D K c 1 (0, 1) rfl _ (fw_r 0 0 _ rfl _) (credit_hbm _)) $$ [Hd HO]
  · isplitr; · iexact HW
    isplitl [Hd] <;> iassumption
  iintro ⟨Hd, HO⟩
  iapply (drain X D K c 2 (0, 2) rfl _ (fw_r 1 0 _ rfl _) (credit_hbm _)) $$ [Hd HO]
  · isplitr; · iexact HW
    isplitl [Hd] <;> iassumption
  iintro ⟨Hd, HO⟩
  iapply (drain X D K c 3 (0, 3) rfl _ (fw_s 0 0 _ rfl _) (credit_hbm _)) $$ [Hd HO]
  · isplitr; · iexact HW
    isplitl [Hd] <;> iassumption
  iintro ⟨Hd, HO⟩
  rw [wp_ret]; imodintro
  iapply Hk
  isplitl [Hd] <;> iassumption

theorem part8_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v2 : BitVec 32) (v5 : BitVec 32) (v8 : BitVec 32) (v9 : BitVec 32) (v12 : BitVec 32) (v23 : BitVec 32) (v34 : BitVec 32) (v62 : BitVec 32) (v64 : BitVec 32) (k0_h5 : k0_cond5 i = 1#1)
    (Q : PUnit → sProp 𝕄) :
    iprop(world X D K ∗ dr X D c 4 ∗ owing c 8 8)
      ⊢ iprop(((dr X D c 6 ∗ owing c 8 8) -∗ Q ⟨⟩)
          -∗ wp frame (wpE (defs₀ (F := F)) 𝒱₀ (c.tc : Thread nD τ) none) Set.univ
            (k0_part8 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v2 v5 v8 v9 v12 v23 v34 v62 v64 k0_h5) Q) := by
  rw [k0_part8_eq_skeleton]; unfold k0_part8_skel
  simp only [Prog.lift, Prog.bind_op, Prog.bind_ret, Prog.pure_eq_ret, Prog.bind_assoc, wp_ret]
  iintro ⟨#HW, Hd, HO⟩ Hk
  iapply (drain X D K c 4 (0, 4) rfl _ (fw_s 1 0 _ rfl _) (credit_hbm _)) $$ [Hd HO]
  · isplitr; · iexact HW
    isplitl [Hd] <;> iassumption
  iintro ⟨Hd, HO⟩
  iapply (drain X D K c 5 (1, 0) rfl _ (as_r 1 1 _ rfl _) (credit_hbm _)) $$ [Hd HO]
  · isplitr; · iexact HW
    isplitl [Hd] <;> iassumption
  iintro ⟨Hd, HO⟩
  rw [wp_ret]; imodintro
  iapply Hk
  isplitl [Hd] <;> iassumption

theorem part9_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v5 : BitVec 32) (v12 : BitVec 32) (v45 : BitVec 32) (v58 : BitVec 32) (v60 : BitVec 32) (k0_h5 : k0_cond5 i = 1#1)
    (Q : BitVec 32 → sProp 𝕄) :
    iprop(world X D K ∗ dr X D c 6 ∗ owing c 8 8)
      ⊢ iprop(((dr X D c 10 ∗ owing c 8 8) -∗ ∀ r, Q r)
          -∗ wp frame (wpE (defs₀ (F := F)) 𝒱₀ (c.tc : Thread nD τ) none) Set.univ
            (k0_part9 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v5 v12 v45 v58 v60 k0_h5) Q) := by
  rw [k0_part9_eq_skeleton]; unfold k0_part9_skel
  simp only [Prog.lift, Prog.bind_op, Prog.bind_ret, Prog.pure_eq_ret, Prog.bind_assoc, wp_ret]
  iintro ⟨#HW, Hd, HO⟩ Hk
  iapply (drain X D K c 6 (1, 1) rfl _ (fw_r 0 1 _ rfl _) (credit_hbm _)) $$ [Hd HO]
  · isplitr; · iexact HW
    isplitl [Hd] <;> iassumption
  iintro ⟨Hd, HO⟩
  iapply (drain X D K c 7 (1, 2) rfl _ (fw_r 1 1 _ rfl _) (credit_hbm _)) $$ [Hd HO]
  · isplitr; · iexact HW
    isplitl [Hd] <;> iassumption
  iintro ⟨Hd, HO⟩
  iapply (drain X D K c 8 (1, 3) rfl _ (fw_s 0 1 _ rfl _) (credit_hbm _)) $$ [Hd HO]
  · isplitr; · iexact HW
    isplitl [Hd] <;> iassumption
  iintro ⟨Hd, HO⟩
  iapply (drain X D K c 9 (1, 4) rfl _ (fw_s 1 1 _ rfl _) (credit_hbm _)) $$ [Hd HO]
  · isplitr; · iexact HW
    isplitl [Hd] <;> iassumption
  iintro ⟨Hd, HO⟩
  rw [wp_ret]; imodintro
  ihave Hq := Hk $$ [Hd HO]
  · isplitl [Hd] <;> iassumption
  iapply Hq

theorem part10_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v2 : BitVec 32) (v5 : BitVec 32) (v8 : BitVec 32) (v9 : BitVec 32) (v12 : BitVec 32) (v23 : BitVec 32) (v34 : BitVec 32) (v45 : BitVec 32) (v62 : BitVec 32) (v64 : BitVec 32) (k0_h5 : k0_cond5 i = 1#1) (c512_i32_198 : BitVec 32)
    (Q : BitVec 32 → sProp 𝕄) :
    iprop(world X D K ∗ dr X D c 10 ∗ owing c 8 8)
      ⊢ iprop(((dr X D c 12 ∗ owing c 8 8) -∗ ∀ r, Q r)
          -∗ wp frame (wpE (defs₀ (F := F)) 𝒱₀ (c.tc : Thread nD τ) none) Set.univ
            (k0_part10 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v2 v5 v8 v9 v12 v23 v34 v45 v62 v64 k0_h5 c512_i32_198) Q) := by
  rw [k0_part10_eq_skeleton]; unfold k0_part10_skel
  simp only [Prog.lift, Prog.bind_op, Prog.bind_ret, Prog.pure_eq_ret, Prog.bind_assoc, wp_ret]
  iintro ⟨#HW, Hd, HO⟩ Hk
  iapply (drain X D K c 10 (2, 0) rfl _ (as_r 1 2 _ rfl _) (credit_hbm _)) $$ [Hd HO]
  · isplitr; · iexact HW
    isplitl [Hd] <;> iassumption
  iintro ⟨Hd, HO⟩
  iapply (drain X D K c 11 (2, 1) rfl _ (fw_r 0 2 _ rfl _) (credit_hbm _)) $$ [Hd HO]
  · isplitr; · iexact HW
    isplitl [Hd] <;> iassumption
  iintro ⟨Hd, HO⟩
  rw [wp_ret]; imodintro
  ihave Hq := Hk $$ [Hd HO]
  · isplitl [Hd] <;> iassumption
  iapply Hq

theorem part11_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v2 : BitVec 32) (v5 : BitVec 32) (v12 : BitVec 32) (v23 : BitVec 32) (v58 : BitVec 32) (v60 : BitVec 32) (k0_h5 : k0_cond5 i = 1#1) (c4_i32_229 : BitVec 32)
    (Q : BitVec 32 → sProp 𝕄) :
    iprop(world X D K ∗ dr X D c 12 ∗ owing c 8 8)
      ⊢ iprop(((dr X D c 15 ∗ owing c 8 8) -∗ ∀ r, Q r)
          -∗ wp frame (wpE (defs₀ (F := F)) 𝒱₀ (c.tc : Thread nD τ) none) Set.univ
            (k0_part11 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v2 v5 v12 v23 v58 v60 k0_h5 c4_i32_229) Q) := by
  rw [k0_part11_eq_skeleton]; unfold k0_part11_skel
  simp only [Prog.lift, Prog.bind_op, Prog.bind_ret, Prog.pure_eq_ret, Prog.bind_assoc, wp_ret]
  iintro ⟨#HW, Hd, HO⟩ Hk
  iapply (drain X D K c 12 (2, 2) rfl _ (fw_r 1 2 _ rfl _) (credit_hbm _)) $$ [Hd HO]
  · isplitr; · iexact HW
    isplitl [Hd] <;> iassumption
  iintro ⟨Hd, HO⟩
  iapply (drain X D K c 13 (2, 3) rfl _ (fw_s 0 2 _ rfl _) (credit_hbm _)) $$ [Hd HO]
  · isplitr; · iexact HW
    isplitl [Hd] <;> iassumption
  iintro ⟨Hd, HO⟩
  iapply (drain X D K c 14 (2, 4) rfl _ (fw_s 1 2 _ rfl _) (credit_hbm _)) $$ [Hd HO]
  · isplitr; · iexact HW
    isplitl [Hd] <;> iassumption
  iintro ⟨Hd, HO⟩
  rw [wp_ret]; imodintro
  ihave Hq := Hk $$ [Hd HO]
  · isplitl [Hd] <;> iassumption
  iapply Hq

theorem part12_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v5 : BitVec 32) (v8 : BitVec 32) (v9 : BitVec 32) (v12 : BitVec 32) (v34 : BitVec 32) (v45 : BitVec 32) (v58 : BitVec 32) (v60 : BitVec 32) (v62 : BitVec 32) (v64 : BitVec 32) (k0_h5 : k0_cond5 i = 1#1) (v279 : BitVec 32)
    (Q : PUnit → sProp 𝕄) :
    iprop(world X D K ∗ dr X D c 15 ∗ owing c 8 8)
      ⊢ iprop(((dr X D c 17 ∗ owing c 8 8) -∗ Q ⟨⟩)
          -∗ wp frame (wpE (defs₀ (F := F)) 𝒱₀ (c.tc : Thread nD τ) none) Set.univ
            (k0_part12 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v5 v8 v9 v12 v34 v45 v58 v60 v62 v64 k0_h5 v279) Q) := by
  rw [k0_part12_eq_skeleton]; unfold k0_part12_skel
  simp only [Prog.lift, Prog.bind_op, Prog.bind_ret, Prog.pure_eq_ret, Prog.bind_assoc, wp_ret]
  iintro ⟨#HW, Hd, HO⟩ Hk
  iapply (drain X D K c 15 (3, 0) rfl _ (as_r 1 3 _ rfl _) (credit_hbm _)) $$ [Hd HO]
  · isplitr; · iexact HW
    isplitl [Hd] <;> iassumption
  iintro ⟨Hd, HO⟩
  iapply (drain X D K c 16 (3, 1) rfl _ (fw_r 0 3 _ rfl _) (credit_hbm _)) $$ [Hd HO]
  · isplitr; · iexact HW
    isplitl [Hd] <;> iassumption
  iintro ⟨Hd, HO⟩
  rw [wp_ret]; imodintro
  iapply Hk
  isplitl [Hd] <;> iassumption

theorem part13_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v2 : BitVec 32) (v8 : BitVec 32) (v9 : BitVec 32) (v12 : BitVec 32) (v23 : BitVec 32) (k0_h5 : k0_cond5 i = 1#1)
    (Q : PUnit → sProp 𝕄) :
    iprop(world X D K ∗ dr X D c 17 ∗ owing c 8 8)
      ⊢ iprop(((dr X D c 20 ∗ owing c 8 8) -∗ Q ⟨⟩)
          -∗ wp frame (wpE (defs₀ (F := F)) 𝒱₀ (c.tc : Thread nD τ) none) Set.univ
            (k0_part13 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v2 v8 v9 v12 v23 k0_h5) Q) := by
  rw [k0_part13_eq_skeleton]; unfold k0_part13_skel
  simp only [Prog.lift, Prog.bind_op, Prog.bind_ret, Prog.pure_eq_ret, Prog.bind_assoc, wp_ret]
  iintro ⟨#HW, Hd, HO⟩ Hk
  iapply (drain X D K c 17 (3, 2) rfl _ (fw_r 1 3 _ rfl _) (credit_hbm _)) $$ [Hd HO]
  · isplitr; · iexact HW
    isplitl [Hd] <;> iassumption
  iintro ⟨Hd, HO⟩
  iapply (drain X D K c 18 (3, 3) rfl _ (fw_s 0 3 _ rfl _) (credit_hbm _)) $$ [Hd HO]
  · isplitr; · iexact HW
    isplitl [Hd] <;> iassumption
  iintro ⟨Hd, HO⟩
  iapply (drain X D K c 19 (3, 4) rfl _ (fw_s 1 3 _ rfl _) (credit_hbm _)) $$ [Hd HO]
  · isplitr; · iexact HW
    isplitl [Hd] <;> iassumption
  iintro ⟨Hd, HO⟩
  rw [wp_ret]; imodintro
  iapply Hk
  isplitl [Hd] <;> iassumption

theorem part14_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v5 : BitVec 32) (v12 : BitVec 32) (v34 : BitVec 32) (v45 : BitVec 32) (v58 : BitVec 32) (v60 : BitVec 32) (v62 : BitVec 32) (v64 : BitVec 32) (k0_h5 : k0_cond5 i = 1#1)
    (Q : PUnit → sProp 𝕄) :
    iprop(world X D K ∗ dr X D c 20 ∗ owing c 8 8)
      ⊢ iprop(((dr X D c 23 ∗ owing c 8 8) -∗ Q ⟨⟩)
          -∗ wp frame (wpE (defs₀ (F := F)) 𝒱₀ (c.tc : Thread nD τ) none) Set.univ
            (k0_part14 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v5 v12 v34 v45 v58 v60 v62 v64 k0_h5) Q) := by
  rw [k0_part14_eq_skeleton]; unfold k0_part14_skel
  simp only [Prog.lift, Prog.bind_op, Prog.bind_ret, Prog.pure_eq_ret, Prog.bind_assoc, wp_ret]
  iintro ⟨#HW, Hd, HO⟩ Hk
  iapply (drain X D K c 20 (4, 0) rfl _ (as_r 1 4 _ rfl _) (credit_hbm _)) $$ [Hd HO]
  · isplitr; · iexact HW
    isplitl [Hd] <;> iassumption
  iintro ⟨Hd, HO⟩
  iapply (drain X D K c 21 (4, 1) rfl _ (fw_r 0 4 _ rfl _) (credit_hbm _)) $$ [Hd HO]
  · isplitr; · iexact HW
    isplitl [Hd] <;> iassumption
  iintro ⟨Hd, HO⟩
  iapply (drain X D K c 22 (4, 2) rfl _ (fw_r 1 4 _ rfl _) (credit_hbm _)) $$ [Hd HO]
  · isplitr; · iexact HW
    isplitl [Hd] <;> iassumption
  iintro ⟨Hd, HO⟩
  rw [wp_ret]; imodintro
  iapply Hk
  isplitl [Hd] <;> iassumption

theorem part15_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v2 : BitVec 32) (v8 : BitVec 32) (v9 : BitVec 32) (v12 : BitVec 32) (v23 : BitVec 32) (v34 : BitVec 32) (k0_h5 : k0_cond5 i = 1#1)
    (Q : PUnit → sProp 𝕄) :
    iprop(world X D K ∗ dr X D c 23 ∗ owing c 8 8)
      ⊢ iprop(((dr X D c 26 ∗ owing c 8 8) -∗ Q ⟨⟩)
          -∗ wp frame (wpE (defs₀ (F := F)) 𝒱₀ (c.tc : Thread nD τ) none) Set.univ
            (k0_part15 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v2 v8 v9 v12 v23 v34 k0_h5) Q) := by
  rw [k0_part15_eq_skeleton]; unfold k0_part15_skel
  simp only [Prog.lift, Prog.bind_op, Prog.bind_ret, Prog.pure_eq_ret, Prog.bind_assoc, wp_ret]
  iintro ⟨#HW, Hd, HO⟩ Hk
  iapply (drain X D K c 23 (4, 3) rfl _ (fw_s 0 4 _ rfl _) (credit_hbm _)) $$ [Hd HO]
  · isplitr; · iexact HW
    isplitl [Hd] <;> iassumption
  iintro ⟨Hd, HO⟩
  iapply (drain X D K c 24 (4, 4) rfl _ (fw_s 1 4 _ rfl _) (credit_hbm _)) $$ [Hd HO]
  · isplitr; · iexact HW
    isplitl [Hd] <;> iassumption
  iintro ⟨Hd, HO⟩
  iapply (drain X D K c 25 (5, 0) rfl _ (as_r 1 5 _ rfl _) (credit_hbm _)) $$ [Hd HO]
  · isplitr; · iexact HW
    isplitl [Hd] <;> iassumption
  iintro ⟨Hd, HO⟩
  rw [wp_ret]; imodintro
  iapply Hk
  isplitl [Hd] <;> iassumption

theorem part16_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v5 : BitVec 32) (v12 : BitVec 32) (v45 : BitVec 32) (v58 : BitVec 32) (v60 : BitVec 32) (v62 : BitVec 32) (v64 : BitVec 32) (k0_h5 : k0_cond5 i = 1#1)
    (Q : BitVec 32 → sProp 𝕄) :
    iprop(world X D K ∗ dr X D c 26 ∗ owing c 8 8)
      ⊢ iprop(((dr X D c 29 ∗ owing c 8 8) -∗ ∀ r, Q r)
          -∗ wp frame (wpE (defs₀ (F := F)) 𝒱₀ (c.tc : Thread nD τ) none) Set.univ
            (k0_part16 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v5 v12 v45 v58 v60 v62 v64 k0_h5) Q) := by
  rw [k0_part16_eq_skeleton]; unfold k0_part16_skel
  simp only [Prog.lift, Prog.bind_op, Prog.bind_ret, Prog.pure_eq_ret, Prog.bind_assoc, wp_ret]
  iintro ⟨#HW, Hd, HO⟩ Hk
  iapply (drain X D K c 26 (5, 1) rfl _ (fw_r 0 5 _ rfl _) (credit_hbm _)) $$ [Hd HO]
  · isplitr; · iexact HW
    isplitl [Hd] <;> iassumption
  iintro ⟨Hd, HO⟩
  iapply (drain X D K c 27 (5, 2) rfl _ (fw_r 1 5 _ rfl _) (credit_hbm _)) $$ [Hd HO]
  · isplitr; · iexact HW
    isplitl [Hd] <;> iassumption
  iintro ⟨Hd, HO⟩
  iapply (drain X D K c 28 (5, 3) rfl _ (fw_s 0 5 _ rfl _) (credit_hbm _)) $$ [Hd HO]
  · isplitr; · iexact HW
    isplitl [Hd] <;> iassumption
  iintro ⟨Hd, HO⟩
  rw [wp_ret]; imodintro
  ihave Hq := Hk $$ [Hd HO]
  · isplitl [Hd] <;> iassumption
  iapply Hq

theorem part17_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v2 : BitVec 32) (v5 : BitVec 32) (v8 : BitVec 32) (v9 : BitVec 32) (v12 : BitVec 32) (v23 : BitVec 32) (v34 : BitVec 32) (v62 : BitVec 32) (v64 : BitVec 32) (k0_h5 : k0_cond5 i = 1#1) (c512_i32_408 : BitVec 32)
    (Q : PUnit → sProp 𝕄) :
    iprop(world X D K ∗ dr X D c 29 ∗ owing c 8 8)
      ⊢ iprop(((dr X D c 31 ∗ owing c 8 8) -∗ Q ⟨⟩)
          -∗ wp frame (wpE (defs₀ (F := F)) 𝒱₀ (c.tc : Thread nD τ) none) Set.univ
            (k0_part17 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v2 v5 v8 v9 v12 v23 v34 v62 v64 k0_h5 c512_i32_408) Q) := by
  rw [k0_part17_eq_skeleton]; unfold k0_part17_skel
  simp only [Prog.lift, Prog.bind_op, Prog.bind_ret, Prog.pure_eq_ret, Prog.bind_assoc, wp_ret]
  iintro ⟨#HW, Hd, HO⟩ Hk
  iapply (drain X D K c 29 (5, 4) rfl _ (fw_s 1 5 _ rfl _) (credit_hbm _)) $$ [Hd HO]
  · isplitr; · iexact HW
    isplitl [Hd] <;> iassumption
  iintro ⟨Hd, HO⟩
  iapply (drain X D K c 30 (6, 0) rfl _ (as_r 1 6 _ rfl _) (credit_hbm _)) $$ [Hd HO]
  · isplitr; · iexact HW
    isplitl [Hd] <;> iassumption
  iintro ⟨Hd, HO⟩
  rw [wp_ret]; imodintro
  iapply Hk
  isplitl [Hd] <;> iassumption

theorem part18_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v5 : BitVec 32) (v12 : BitVec 32) (v45 : BitVec 32) (v58 : BitVec 32) (v60 : BitVec 32) (k0_h5 : k0_cond5 i = 1#1)
    (Q : PUnit → sProp 𝕄) :
    iprop(world X D K ∗ dr X D c 31 ∗ owing c 8 8)
      ⊢ iprop(((dr X D c 34 ∗ owing c 8 8) -∗ Q ⟨⟩)
          -∗ wp frame (wpE (defs₀ (F := F)) 𝒱₀ (c.tc : Thread nD τ) none) Set.univ
            (k0_part18 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v5 v12 v45 v58 v60 k0_h5) Q) := by
  rw [k0_part18_eq_skeleton]; unfold k0_part18_skel
  simp only [Prog.lift, Prog.bind_op, Prog.bind_ret, Prog.pure_eq_ret, Prog.bind_assoc, wp_ret]
  iintro ⟨#HW, Hd, HO⟩ Hk
  iapply (drain X D K c 31 (6, 1) rfl _ (fw_r 0 6 _ rfl _) (credit_hbm _)) $$ [Hd HO]
  · isplitr; · iexact HW
    isplitl [Hd] <;> iassumption
  iintro ⟨Hd, HO⟩
  iapply (drain X D K c 32 (6, 2) rfl _ (fw_r 1 6 _ rfl _) (credit_hbm _)) $$ [Hd HO]
  · isplitr; · iexact HW
    isplitl [Hd] <;> iassumption
  iintro ⟨Hd, HO⟩
  iapply (drain X D K c 33 (6, 3) rfl _ (fw_s 0 6 _ rfl _) (credit_hbm _)) $$ [Hd HO]
  · isplitr; · iexact HW
    isplitl [Hd] <;> iassumption
  iintro ⟨Hd, HO⟩
  rw [wp_ret]; imodintro
  iapply Hk
  isplitl [Hd] <;> iassumption

theorem part19_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v2 : BitVec 32) (v5 : BitVec 32) (v8 : BitVec 32) (v9 : BitVec 32) (v12 : BitVec 32) (v23 : BitVec 32) (v34 : BitVec 32) (v45 : BitVec 32) (v62 : BitVec 32) (v64 : BitVec 32) (k0_h5 : k0_cond5 i = 1#1)
    (Q : PUnit → sProp 𝕄) :
    iprop(world X D K ∗ dr X D c 34 ∗ owing c 8 8)
      ⊢ iprop(((dr X D c 37 ∗ owing c 8 8) -∗ Q ⟨⟩)
          -∗ wp frame (wpE (defs₀ (F := F)) 𝒱₀ (c.tc : Thread nD τ) none) Set.univ
            (k0_part19 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v2 v5 v8 v9 v12 v23 v34 v45 v62 v64 k0_h5) Q) := by
  rw [k0_part19_eq_skeleton]; unfold k0_part19_skel
  simp only [Prog.lift, Prog.bind_op, Prog.bind_ret, Prog.pure_eq_ret, Prog.bind_assoc, wp_ret]
  iintro ⟨#HW, Hd, HO⟩ Hk
  iapply (drain X D K c 34 (6, 4) rfl _ (fw_s 1 6 _ rfl _) (credit_hbm _)) $$ [Hd HO]
  · isplitr; · iexact HW
    isplitl [Hd] <;> iassumption
  iintro ⟨Hd, HO⟩
  iapply (drain X D K c 35 (7, 0) rfl _ (as_r 1 7 _ rfl _) (credit_hbm _)) $$ [Hd HO]
  · isplitr; · iexact HW
    isplitl [Hd] <;> iassumption
  iintro ⟨Hd, HO⟩
  iapply (drain X D K c 36 (7, 1) rfl _ (fw_r 0 7 _ rfl _) (credit_hbm _)) $$ [Hd HO]
  · isplitr; · iexact HW
    isplitl [Hd] <;> iassumption
  iintro ⟨Hd, HO⟩
  rw [wp_ret]; imodintro
  iapply Hk
  isplitl [Hd] <;> iassumption

theorem part20_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v5 : BitVec 32) (v12 : BitVec 32) (v58 : BitVec 32) (v60 : BitVec 32) (k0_h5 : k0_cond5 i = 1#1)
    (Q : PUnit → sProp 𝕄) :
    iprop(world X D K ∗ dr X D c 37 ∗ owing c 8 8)
      ⊢ iprop(((dr X D c 40 ∗ owing c 8 8) -∗ Q ⟨⟩)
          -∗ wp frame (wpE (defs₀ (F := F)) 𝒱₀ (c.tc : Thread nD τ) none) Set.univ
            (k0_part20 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v5 v12 v58 v60 k0_h5) Q) := by
  rw [k0_part20_eq_skeleton]; unfold k0_part20_skel
  simp only [Prog.lift, Prog.bind_op, Prog.bind_ret, Prog.pure_eq_ret, Prog.bind_assoc, wp_ret]
  iintro ⟨#HW, Hd, HO⟩ Hk
  iapply (drain X D K c 37 (7, 2) rfl _ (fw_r 1 7 _ rfl _) (credit_hbm _)) $$ [Hd HO]
  · isplitr; · iexact HW
    isplitl [Hd] <;> iassumption
  iintro ⟨Hd, HO⟩
  iapply (drain X D K c 38 (7, 3) rfl _ (fw_s 0 7 _ rfl _) (credit_hbm _)) $$ [Hd HO]
  · isplitr; · iexact HW
    isplitl [Hd] <;> iassumption
  iintro ⟨Hd, HO⟩
  iapply (drain X D K c 39 (7, 4) rfl _ (fw_s 1 7 _ rfl _) (credit_hbm _)) $$ [Hd HO]
  · isplitr; · iexact HW
    isplitl [Hd] <;> iassumption
  iintro ⟨Hd, HO⟩
  rw [wp_ret]; imodintro
  iapply Hk
  isplitl [Hd] <;> iassumption

theorem part21_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
    (d0 : Dev nD) (v12 : BitVec 32) (v23 : BitVec 32) (k0_h5 : k0_cond5 i = 1#1)
    (Q : PUnit → sProp 𝕄) :
    iprop(world X D K ∗ armed c (0, 0, 6) ∗ armed c (0, 1, 6) ∗ armed c (0, 0, 7) ∗ owing c 8 8)
      ⊢ iprop((((done c (0, 0, 6) ∗ pay X D c (0, 0, 6)) ∗ (done c (0, 1, 6) ∗ pay X D c (0, 1, 6)) ∗ (done c (0, 0, 7) ∗ pay X D c (0, 0, 7)) ∗ owing c 8 8) -∗ Q ⟨⟩)
          -∗ wp frame (wpE (defs₀ (F := F)) 𝒱₀ (c.tc : Thread nD τ) none) Set.univ
            (k0_part21 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v12 v23 k0_h5) Q) := by
  rw [k0_part21_eq_skeleton]; unfold k0_part21_skel
  simp only [Prog.lift, Prog.bind_op, Prog.bind_ret, Prog.pure_eq_ret, Prog.bind_assoc, wp_ret]
  iintro ⟨#HW, Ha, Hb, Hc, HO⟩ Hk
  iapply (wait_at X D K c (0, 0, 6) 8 8 (by decide) (by decide) _ (as_s 0 6 _ rfl _) (credit_vmem _)) $$ [Ha HO]
  · isplitr; · iexact HW
    isplitl [Ha] <;> iassumption
  iintro ⟨Ha, Pa, HO⟩
  iapply (wait_at X D K c (0, 1, 6) 8 8 (by decide) (by decide) _ (as_s 1 6 _ rfl _) (credit_vmem _)) $$ [Hb HO]
  · isplitr; · iexact HW
    isplitl [Hb] <;> iassumption
  iintro ⟨Hb, Pb, HO⟩
  iapply (wait_at X D K c (0, 0, 7) 8 8 (by decide) (by decide) _ (as_s 0 7 _ rfl _) (credit_vmem _)) $$ [Hc HO]
  · isplitr; · iexact HW
    isplitl [Hc] <;> iassumption
  iintro ⟨Hc, Pc, HO⟩
  rw [wp_ret]; imodintro
  iapply Hk
  isplitl [Ha Pa]; · isplitl [Ha] <;> iassumption
  isplitl [Hb Pb]; · isplitl [Hb] <;> iassumption
  isplitl [Hc Pc]; · isplitl [Hc] <;> iassumption
  iexact HO

end Cert.KernelIdeal.Own
-- ==== Proof.Parts.lean ====
/-
  The parts of the kernel between the waits at its end, as rules.
-/
module

public import proofs.«01_k».proof.Proof.State
public import proofs.«01_k».proof.Proof.Drain
public import proofs.«01_k».proof.Proof.Gen.KernelIdeal.Points

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (X : Dev nD → S4096x3072.Idx → F .bf16) (D : Dev nD → S4096x8192.Idx → F .bf16)
variable (K : Dev nD × CellId → ℕ)

/-! ## Whole loads; the rectangles of a point -/

theorem whole_emb {s : Shape} (off : Fin s.rank → ℕ) (inb : ∀ a, off a + s.size a ≤ s.size a) (i : s.Idx) :
    (Rect.unit (s := s) off s.size inb).emb i = i :=
  funext fun a => Fin.ext (show off a + 1 * (i a).val = (i a).val by have := inb a; omega)

theorem own_load_whole (c : Dev nD) {sp : CoreSpace} {s : Shape} {e : EltTy} (m : Memref sig .tc sp s e) (off : Fin s.rank → ℕ)
    (inb : ∀ a, off a + s.size a ≤ s.size a) {hl : m.view.LoadsAt (Rect.unit off s.size inb).toLoadRect} (q : PosShare TreeShare) (V : s.Idx → Elt F e)
    {α : Type} {Q : α → sProp 𝕄} {kt : (s.Idx → Elt F e) → Prog (TpuEff nD τ sig (Elt F) Λ₀ .tc) α} :
    (owns (c.tc : Thread nD τ) m q V : sProp 𝕄)
      ⊢ iprop((owns (c.tc : Thread nD τ) m q V -∗ wp frame (wpE (defs₀ (F := F)) 𝒱₀ (c.tc : Thread nD τ) none) Set.univ (kt V) Q)
          -∗ wp frame (wpE (defs₀ (F := F)) 𝒱₀ (c.tc : Thread nD τ) none) Set.univ (.op (.load m (Rect.unit off s.size inb).toLoadRect hl) kt) Q) := by
  have h := own_load (F := F) c m (Rect.unit off s.size inb) (hl := hl) q V (Q := Q) (kt := kt)
  have e : (fun i => V ((Rect.unit (s := s) off s.size inb).emb i)) = V := funext fun i => congrArg V (whole_emb off inb i)
  rw [e] at h
  exact h

theorem first_iff : ∀ i : grid0.Coords, Scalar.cmpi .ne (Scalar.extui (Scalar.cmpi .eq (BitVec.ofNat 32 (i 1).val) 0#32)) 0#32 = 1#1 ↔ (i 1).val = 0 := by
  decide +kernel

theorem acc_succ (c : Dev nD) (j k : Fin 8) : acc X D c j (k.val + 1)
    = k0_pay1 (acc X D c j k.val) (fun i => X c ((xR k).emb i)) (fun i => D c ((dR k j).emb i)) := by
  have h : Fin.ofNat 8 k.val = k := Fin.ext (Nat.mod_eq_of_lt k.isLt)
  show k0_pay1 _ _ _ = _
  rw [h]

theorem x_rect (i : grid0.Coords) (k : Fin 8) (hk : (i 1).val = k.val) (inb) (V : S4096x3072.Idx → F .bf16) :
    (fun y => V ((Rect.unit (s := S4096x3072) (k0_off1 i) S512x3072.size inb).emb y)) = fun y => V ((xR k).emb y) := by
  have e : k0_off1 i = ![512 * k.val, 0] := by rw [Gen.k0_off1_eq, hk]
  revert inb; rw [e]; intro inb; rfl

/-! ## The head of every point -/

theorem part22_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole) (Q : (Σ' (arg0 : BitVec 32) (arg1 : BitVec 32) (d0 : Dev nD) (v2 : BitVec 32) (v5 : BitVec 32) (v8 : BitVec 32) (v9 : BitVec 32) (v12 : BitVec 32) (v23 : BitVec 32), BitVec 32) → sProp 𝕄) :
    iprop(∀ r, ⌜r.1 = BitVec.ofNat 32 (i 0).val ∧ r.2.1 = BitVec.ofNat 32 (i 1).val ∧ r.2.2.1 = c⌝ -∗ Q r)
      ⊢ wp frame (wpE (defs₀ (F := F)) 𝒱₀ (c.tc : Thread nD τ) none) Set.univ (k0_part22 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 ) Q := by
  rw [k0_part22_eq_skeleton]; unfold k0_part22_skel
  simp only [Prog.lift, Prog.bind_op, Prog.bind_ret, Prog.pure_eq_ret, Prog.bind_assoc, wp_deviceId]
  rw [wp_ret]
  iintro H
  imodintro
  iapply H
  ipureintro
  exact ⟨rfl, rfl, rfl⟩

theorem part23_wp (c : Dev nD) (j k : Fin 8) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole) (arg1 : BitVec 32) (v2 : BitVec 32) (v8 : BitVec 32) (v12 : BitVec 32) (h1 : arg1 = BitVec.ofNat 32 (i 1).val) (hk : (i 1).val = k.val)
    (f : Vec F S3072x1024 .f32) (hf : k.val ≠ 0 → f = acc X D c j k.val) (Q : (Σ' (v45 : BitVec 32) (v58 : BitVec 32) (v60 : BitVec 32) (v62 : BitVec 32) (v64 : BitVec 32), Vec F S3072x1024 .f32) → sProp 𝕄) :
    (owns (c.tc : Thread nD τ) (Memref.whole cc0_scratch0) fullShare f : sProp 𝕄)
      ⊢ iprop((owns (c.tc : Thread nD τ) (Memref.whole cc0_scratch0) fullShare (acc X D c j k.val)
            -∗ ∀ r, ⌜r.2.2.2.2.2 = acc X D c j k.val⌝ -∗ Q r)
          -∗ wp frame (wpE (defs₀ (F := F)) 𝒱₀ (c.tc : Thread nD τ) none) Set.univ (k0_part23 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 arg1 v2 v8 v12) Q) := by
  subst h1
  rw [k0_part23_eq_skeleton]; unfold k0_part23_skel
  by_cases h : (i 1).val = 0
  · have e : acc X D c j k.val = k0_pay6 := by rw [← hk, h]; rfl
    rw [e]
    simp only [dif_pos ((first_iff i).mpr h), Prog.lift, Prog.bind_op, Prog.bind_ret, Prog.pure_eq_ret, Prog.bind_assoc]
    iintro H Hk
    iapply (own_load_whole c (Memref.whole cc0_scratch0) ![0, 0] inb_S3072x1024_S3072x1024_0_0 fullShare f) $$ H
    iintro H
    iapply (own_store c (Memref.whole cc0_scratch0) ![0, 0] inb_S3072x1024_S3072x1024_0_0 f k0_pay6) $$ H
    iintro H
    iapply (own_load_whole c (Memref.whole cc0_scratch0) ![0, 0] inb_S3072x1024_S3072x1024_0_0 fullShare k0_pay6) $$ H
    iintro H
    rw [wp_ret]; imodintro
    ihave Hq := Hk $$ H
    iapply Hq
    ipureintro; rfl
  · have e : f = acc X D c j k.val := hf (by omega)
    rw [e]
    simp only [dif_neg (fun hh => h ((first_iff i).mp hh)), Prog.lift, Prog.bind_op, Prog.bind_ret, Prog.pure_eq_ret, Prog.bind_assoc]
    iintro H Hk
    iapply (own_load_whole c (Memref.whole cc0_scratch0) ![0, 0] inb_S3072x1024_S3072x1024_0_0 fullShare (acc X D c j k.val)) $$ H
    iintro H
    rw [wp_ret]; imodintro
    ihave Hq := Hk $$ H
    iapply Hq
    ipureintro; rfl

/-! ## A band sent to the other ring -/

/-- The dues left after the first of a band's two transfers. -/
def owing1 (c : Dev nD) (b : Fin 8) (f : ℕ) : sProp 𝕄 := iprop(∃ W, owes (c.tc : Thread nD τ) (owe c (b.val + 1) f + dueA c 1 b) W)
def owing2 (c : Dev nD) (a : ℕ) (b : Fin 8) : sProp 𝕄 := iprop(∃ W, owes (c.tc : Thread nD τ) (owe c a (b.val + 1) + dueF c 1 b) W)
theorem owe_first (c : Dev nD) (b : Fin 8) (f : ℕ) : owe c b.val f = (owe c (b.val + 1) f + dueA c 1 b) + dueA c 0 b := by
  unfold owe; rw [oweA_step]; ac_rfl
theorem owe_firstF (c : Dev nD) (a : ℕ) (b : Fin 8) : owe c a b.val = (owe c a (b.val + 1) + dueF c 1 b) + dueF c 0 b := by
  unfold owe; rw [oweF_step]; ac_rfl

/-- What band `b` holds once the accumulator is rounded into the first slot. -/
def midY (c : Dev nD) (b : Fin 8) : sProp 𝕄 :=
  iprop(yB c 0 b ∗ yB c 1 b ∗ slotAt c 0 (par b) (quarter X D c 0 b) ∗ (∃ f, sPts c 1 (par b) f)
    ∗ ((armed c (0, 0, b) ∗ armed c (0, 1, b)) -∗ bandsY c (b.val + 1)))

theorem par_add_two (b b' : Fin 8) (h : b'.val + 2 = b.val) : par b' = par b := Fin.ext (show b'.val % 2 = b.val % 2 by omega)

theorem slot0_of (c : Dev nD) (b : Fin 8) (inb) :
    (fun y => acc X D c b 8 ((Rect.unit (s := S3072x1024) ![0, 0] S512x1024.size inb).emb y)) = fun y => acc X D c b 8 ((qR ⟨(0 : Fin 2).val, by omega⟩).emb y) := rfl

theorem part2_wp (c : Dev nD) (b : Fin 8) (f : ℕ) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole) (arg0 : BitVec 32) (d0 : Dev nD) (v12 : BitVec 32) (v23 : BitVec 32) (k0_h2 : k0_cond2 i = 1#1) (hj : (i 0).val = b.val) (hd : d0 = c) (Q : (Σ' (v116 : FVec F S512x1024 .bf16) (v118 : BitVec 32) (v119 : BitVec 32), BitVec 1) → sProp 𝕄) :
    iprop(world X D K ∗ owns (c.tc : Thread nD τ) (Memref.whole cc0_scratch0) fullShare (acc X D c b 8) ∗ (∃ d, owns (c.tc : Thread nD τ) arg4 fullShare d)
        ∗ bandsY c b.val ∗ owing c b.val f)
      ⊢ iprop(((owns (c.tc : Thread nD τ) (Memref.whole cc0_scratch0) fullShare (acc X D c b 8) ∗ owns (c.tc : Thread nD τ) arg4 fullShare (stays X D c b)
            ∗ midY X D c b ∗ owing c b.val f) -∗ ∀ r, ⌜r.1 = quarter X D c 1 b⌝ -∗ Q r)
          -∗ wp frame (wpE (defs₀ (F := F)) 𝒱₀ (c.tc : Thread nD τ) none) Set.univ (k0_part2 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 arg0 d0 v12 v23 k0_h2) Q) := by
  subst hd
  rw [k0_part2_eq_skeleton]; unfold k0_part2_skel
  by_cases h3 : k0_cond3 i = 1#1
  · have h2b : 2 ≤ (i 0).val := (cond3_iff i).mp h3
    have hb8 := b.isLt
    obtain ⟨b', hb'⟩ : ∃ b' : Fin 8, b'.val + 2 = b.val := ⟨⟨b.val - 2, by omega⟩, by show b.val - 2 + 2 = b.val; omega⟩
    simp only [dif_pos h3, Prog.lift, Prog.bind_op, Prog.bind_ret, Prog.pure_eq_ret, Prog.bind_assoc]
    rw [k0_part1_eq_skeleton]; unfold k0_part1_skel
    simp only [Prog.lift, Prog.bind_op, Prog.bind_ret, Prog.pure_eq_ret, Prog.bind_assoc]
    iintro ⟨#HW, Hacc, ⟨%d4, H4⟩, HY, HO⟩ Hk
    iapply (own_load d0 (Memref.whole cc0_scratch0) restR fullShare (acc X D d0 b 8)) $$ Hacc
    iintro Hacc
    iapply (own_load_whole d0 arg4 ![0, 0] inb_S2048x1024_S2048x1024_0_0 fullShare d4) $$ H4
    iintro H4
    iapply (own_store d0 arg4 ![0, 0] inb_S2048x1024_S2048x1024_0_0 d4 (stays X D d0 b)) $$ H4
    iintro H4
    ihave HY := (takeY_late d0 b b' hb') $$ HY
    icases HY with ⟨⟨Hy0, Hy1⟩, ⟨Ha0, Ha1⟩, HY⟩
    iapply (wait_at X D K d0 (0, 0, b') b.val f (by show 0 < _; omega) (by show 0 < _; omega) _ (as_s 0 b' _ (by rw [off2_eq i h2b]; congr 1; funext x; fin_cases x; show (i 0).val - 2 = b'.val; omega) _) (credit_vmem _)) $$ [Ha0 HO]
    · isplitr; · iexact HW
      isplitl [Ha0] <;> iassumption
    iintro ⟨Hd0, Hp0, HO⟩
    iapply (wait_at X D K d0 (0, 1, b') b.val f (by show 0 < _; omega) (by show 0 < _; omega) _ (as_s 1 b' _ (by rw [off5_eq i h2b]; congr 1; funext x; fin_cases x; show (i 0).val - 2 = b'.val; omega) _) (credit_vmem _)) $$ [Ha1 HO]
    · isplitr; · iexact HW
      isplitl [Ha1] <;> iassumption
    iintro ⟨Hd1, Hp1, HO⟩
    have hp (q : Fin 2) : pay X D d0 (0, q, b') ⊢ iprop(∃ f, sPts d0 q (par b) f) := by
      rw [← par_add_two b b' hb']; exact BIBase.Entails.refl
    ihave Hp0 := hp 0 $$ Hp0
    ihave Hp1 := hp 1 $$ Hp1
    icases Hp0 with ⟨%g0, Hp0⟩
    iapply (own_load d0 (Memref.whole cc0_scratch0) _ fullShare (acc X D d0 b 8)) $$ Hacc
    iintro Hacc
    iapply (slot_load d0 0 (par b) _ (by rw [off8_eq i, hj]; rfl) _ g0) $$ Hp0
    iintro Hp0 %_
    iapply (slot_store d0 0 (par b) _ (by rw [off8_eq i, hj]; rfl) _ (quarter X D d0 0 b) _ rfl g0) $$ Hp0
    iintro Hp0
    iapply (own_load d0 (Memref.whole cc0_scratch0) _ fullShare (acc X D d0 b 8)) $$ Hacc
    iintro Hacc
    rw [wp_ret]; imodintro
    ihave Hq := Hk $$ [Hacc H4 Hy0 Hy1 Hp0 Hp1 HY HO Hd0 Hd1]
    · isplitl [Hacc]; · iexact Hacc
      isplitl [H4]; · iexact H4
      isplitr [HO]
      · unfold midY
        isplitl [Hy0]; · iexact Hy0
        isplitl [Hy1]; · iexact Hy1
        isplitl [Hp0]; · iexact Hp0
        isplitl [Hp1]; · iexact Hp1
        iintro Hab
        iapply HY $$ Hab
        isplitl [Hd0] <;> iassumption
      iexact HO
    iapply Hq
    ipureintro; rfl
  · have h2b : ¬ 2 ≤ (i 0).val := fun h => h3 ((cond3_iff i).mpr h)
    simp only [dif_neg h3, Prog.lift, Prog.bind_op, Prog.bind_ret, Prog.pure_eq_ret, Prog.bind_assoc]
    iintro ⟨#HW, Hacc, ⟨%d4, H4⟩, HY, HO⟩ Hk
    iapply (own_load d0 (Memref.whole cc0_scratch0) restR fullShare (acc X D d0 b 8)) $$ Hacc
    iintro Hacc
    iapply (own_load_whole d0 arg4 ![0, 0] inb_S2048x1024_S2048x1024_0_0 fullShare d4) $$ H4
    iintro H4
    iapply (own_store d0 arg4 ![0, 0] inb_S2048x1024_S2048x1024_0_0 d4 (stays X D d0 b)) $$ H4
    iintro H4
    ihave HY := (takeY_early d0 b (by omega)) $$ HY
    icases HY with ⟨⟨Hy0, Hy1, ⟨%g0, Hp0⟩, Hp1⟩, HY⟩
    iapply (own_load d0 (Memref.whole cc0_scratch0) _ fullShare (acc X D d0 b 8)) $$ Hacc
    iintro Hacc
    iapply (slot_load d0 0 (par b) _ (by rw [off8_eq i, hj]; rfl) _ g0) $$ Hp0
    iintro Hp0 %_
    iapply (slot_store d0 0 (par b) _ (by rw [off8_eq i, hj]; rfl) _ (quarter X D d0 0 b) _ rfl g0) $$ Hp0
    iintro Hp0
    iapply (own_load d0 (Memref.whole cc0_scratch0) _ fullShare (acc X D d0 b 8)) $$ Hacc
    iintro Hacc
    rw [wp_ret]; imodintro
    ihave Hq := Hk $$ [Hacc H4 Hy0 Hy1 Hp0 Hp1 HY HO]
    · isplitl [Hacc]; · iexact Hacc
      isplitl [H4]; · iexact H4
      isplitr [HO]
      · unfold midY
        isplitl [Hy0]; · iexact Hy0
        isplitl [Hy1]; · iexact Hy1
        isplitl [Hp0]; · iexact Hp0
        isplitl [Hp1]; · iexact Hp1
        iexact HY
      iexact HO
    iapply Hq
    ipureintro; rfl

/-- After the first transfer of band `b`. -/
def midY1 (c : Dev nD) (b : Fin 8) : sProp 𝕄 :=
  iprop(yB c 1 b ∗ slotAt c 1 (par b) (quarter X D c 1 b) ∗ (armed c (0, 1, b) -∗ bandsY c (b.val + 1)))

theorem part3_wp (c : Dev nD) (b : Fin 8) (f : ℕ) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole) (arg0 : BitVec 32) (d0 : Dev nD) (v2 : BitVec 32) (v8 : BitVec 32) (v9 : BitVec 32) (v12 : BitVec 32) (k0_h2 : k0_cond2 i = 1#1) (v116 : FVec F S512x1024 .bf16) (v118 : BitVec 32) (v119 : BitVec 32) (v124 : BitVec 1) (hj : (i 0).val = b.val) (hd : d0 = c) (hv : v116 = quarter X D c 1 b) (Q : (Σ' (v157 : BitVec 32) (v158 : BitVec 32), BitVec 32) → sProp 𝕄) :
    iprop(world X D K ∗ midY X D c b ∗ owing c b.val f)
      ⊢ iprop(((midY1 X D c b ∗ owing1 c b f) -∗ ∀ r, Q r) -∗ wp frame (wpE (defs₀ (F := F)) 𝒱₀ (c.tc : Thread nD τ) none) Set.univ (k0_part3 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 arg0 d0 v2 v8 v9 v12 k0_h2 v116 v118 v119 v124) Q) := by
  subst hd hv
  rw [k0_part3_eq_skeleton]; unfold k0_part3_skel
  simp only [Prog.lift, Prog.bind_op, Prog.bind_ret, Prog.pure_eq_ret, Prog.bind_assoc, wp_deviceId]
  unfold midY owing
  iintro ⟨#HW, ⟨Hy0, Hy1, Hs0, ⟨%g1, Hs1⟩, HY⟩, ⟨%W, HO⟩⟩ Hk
  iapply (slot_load d0 1 (par b) _ (by rw [off9_eq i, hj]; rfl) _ g1) $$ Hs1
  iintro Hs1 %_
  iapply (slot_store d0 1 (par b) _ (by rw [off9_eq i, hj]; rfl) _ (quarter X D d0 1 b) _ rfl g1) $$ Hs1
  iintro Hs1
  unfold yB
  icases Hy0 with ⟨Ht, Ht', Hd, Hi⟩
  rw [owe_first]
  iapply (step_ysend X D K d0 _ (dev1_eq d0 _) 0 b _ (by rw [off12_eq i, hj]; rfl) _ _ (by rw [off11_eq i d0, hj]; rfl) _ _ _
    (as_s 0 b _ (by rw [Gen.k0_off10_eq, hj]; rfl) _) (as_r 0 b _ (by rw [Gen.k0_off10_eq, hj]; rfl) _) _ W) $$ [Hi Ht Ht' Hs0 Hd HO]
  · isplitr; · iexact HW
    isplitl [Hi]; · iexact Hi
    isplitl [Ht]; · iexact Ht
    isplitl [Ht']; · iexact Ht'
    isplitl [Hs0]; · iexact Hs0
    isplitl [Hd] <;> iassumption
  iintro ⟨Ha, HO⟩
  rw [wp_ret]; imodintro
  ihave Hq := Hk $$ [Ha HO Hy1 Hs1 HY]
  · isplitr [HO]
    · unfold midY1 yB
      isplitl [Hy1]; · iexact Hy1
      isplitl [Hs1]; · iexact Hs1
      iintro Hb
      iapply HY
      isplitl [Ha] <;> iassumption
    unfold owing1
    iexists W; iexact HO
  iapply Hq

/-! ## A band handed on -/

def midF (c : Dev nD) (b : Fin 8) : sProp 𝕄 :=
  iprop(done c (1, 0, b) ∗ vPts fullShare c (place c) b (received X D c) ∗ fB c 0 b ∗ fB c 1 b
    ∗ ((done c (1, 0, b) ∗ armed c (2, 0, b) ∗ armed c (2, 1, b)) -∗ bandsF c (b.val + 1)))
def midF1 (c : Dev nD) (b : Fin 8) : sProp 𝕄 :=
  iprop(vPts (hs 1) c (place c) b (received X D c) ∗ fB c 1 b ∗ (armed c (2, 1, b) -∗ bandsF c (b.val + 1)))

theorem halves (c : Dev nD) (s : Fin 4) (b : Fin 8) (f : Buf (Elt F) ((c.tc : Thread nD τ).loc main_v1_1)) :
    (vPts fullShare c s b f : sProp 𝕄) ⊣⊢ iprop(vPts (hs 0) c s b f ∗ vPts (hs 1) c s b f) := by
  unfold vPts
  exact pointsTo_share (PosShare.mem_left_op_right fullShare)

/-- The first of the two transfers that hand band `b` on. -/
theorem fwd0 (c : Dev nD) (a : ℕ) (b : Fin 8) (c' : Dev nD) (hc : c' = nbr c 0)
    (off : Fin 2 → ℕ) (h : off = ![512 * (place c).val, 1024 * b.val]) (inb : ∀ a, off a + S512x1024.size a ≤ S2048x8192.size a)
    (sm sm' : DmaSem sig) (hsm : sm = semNo (2, 0, b)) (hsm' : sm' = semNo (3, 0, b))
    {hsc : (vView off inb : Memref sig (Dev.tc c' : Thread nD τ).2.kind .hbm S512x1024 .bf16).view.ref.isScScratch = false}
    {hsrc : (vView off inb).view.WordExact} {hdst : (vView off inb).view.WordExact}
    {hsem : DmaTarget.Typed .hbm (.dma sm') (.remote (Dev.tc c' : Thread nD τ) (vView off inb) (.dma sm) hsc)}
    {α : Type} {Q : α → sProp 𝕄} {kt : PUnit → Prog (TpuEff nD τ sig (Elt F) Λ₀ .tc) α} :
    iprop(world X D K ∗ midF X D c b ∗ owing c a b.val)
      ⊢ iprop(((midF1 X D c b ∗ owing2 c a b) -∗ wp frame (wpE (defs₀ (F := F)) 𝒱₀ (c.tc : Thread nD τ) none) Set.univ (kt ⟨⟩) Q)
          -∗ wp frame (wpE (defs₀ (F := F)) 𝒱₀ (c.tc : Thread nD τ) none) Set.univ (.op (.enqueueDma (vView off inb) (.remote (Dev.tc c' : Thread nD τ) (vView off inb) (.dma sm) hsc) (.dma sm') hsrc hdst hsem) kt) Q) := by
  unfold midF owing
  iintro ⟨#HW, ⟨Hdn, Hv, Hf0, Hf1, HF⟩, ⟨%W, HO⟩⟩ Hk
  rw [owe_firstF]
  ihave Hv := (halves c (place c) b (received X D c)).1 $$ Hv
  icases Hv with ⟨Hv0, Hv1⟩
  unfold fB
  icases Hf0 with ⟨Ht, Ht', Hd, Hi⟩
  iapply (step_fwd X D K c c' 0 hc b off h inb sm sm' hsm hsm' _ W) $$ [Hi Ht Ht' Hv0 Hd HO]
  · isplitr; · iexact HW
    isplitl [Hi]; · iexact Hi
    isplitl [Ht]; · iexact Ht
    isplitl [Ht']; · iexact Ht'
    isplitl [Hv0]; · iexact Hv0
    isplitl [Hd] <;> iassumption
  iintro ⟨Ha, HO⟩
  iapply Hk
  isplitr [HO]
  · unfold midF1 fB
    isplitl [Hv1]; · iexact Hv1
    isplitl [Hf1]; · iexact Hf1
    iintro Hb
    iapply HF
    isplitl [Hdn]; · iexact Hdn
    isplitl [Ha] <;> iassumption
  unfold owing2
  iexists W; iexact HO

theorem fwd1 (c : Dev nD) (a : ℕ) (b : Fin 8) (c' : Dev nD) (hc : c' = nbr c 1)
    (off : Fin 2 → ℕ) (h : off = ![512 * (place c).val, 1024 * b.val]) (inb : ∀ a, off a + S512x1024.size a ≤ S2048x8192.size a)
    (sm sm' : DmaSem sig) (hsm : sm = semNo (2, 1, b)) (hsm' : sm' = semNo (3, 1, b))
    {hsc : (vView off inb : Memref sig (Dev.tc c' : Thread nD τ).2.kind .hbm S512x1024 .bf16).view.ref.isScScratch = false}
    {hsrc : (vView off inb).view.WordExact} {hdst : (vView off inb).view.WordExact}
    {hsem : DmaTarget.Typed .hbm (.dma sm') (.remote (Dev.tc c' : Thread nD τ) (vView off inb) (.dma sm) hsc)}
    {α : Type} {Q : α → sProp 𝕄} {kt : PUnit → Prog (TpuEff nD τ sig (Elt F) Λ₀ .tc) α} :
    iprop(world X D K ∗ midF1 X D c b ∗ owing2 c a b)
      ⊢ iprop(((bandsF c (b.val + 1) ∗ owing c a (b.val + 1)) -∗ wp frame (wpE (defs₀ (F := F)) 𝒱₀ (c.tc : Thread nD τ) none) Set.univ (kt ⟨⟩) Q)
          -∗ wp frame (wpE (defs₀ (F := F)) 𝒱₀ (c.tc : Thread nD τ) none) Set.univ (.op (.enqueueDma (vView off inb) (.remote (Dev.tc c' : Thread nD τ) (vView off inb) (.dma sm) hsc) (.dma sm') hsrc hdst hsem) kt) Q) := by
  unfold midF1 owing2
  iintro ⟨#HW, ⟨Hv1, Hf1, HF⟩, ⟨%W, HO⟩⟩ Hk
  unfold fB
  icases Hf1 with ⟨Ht, Ht', Hd, Hi⟩
  iapply (step_fwd X D K c c' 1 hc b off h inb sm sm' hsm hsm' _ W) $$ [Hi Ht Ht' Hv1 Hd HO]
  · isplitr; · iexact HW
    isplitl [Hi]; · iexact Hi
    isplitl [Ht]; · iexact Ht
    isplitl [Ht']; · iexact Ht'
    isplitl [Hv1]; · iexact Hv1
    isplitl [Hd] <;> iassumption
  iintro ⟨Ha, HO⟩
  iapply Hk
  isplitr [HO]
  · iapply HF; iexact Ha
  unfold owing
  iexists W; iexact HO

/-- The wait for the block that is to be handed on. -/
theorem wait_own (c : Dev nD) (a : ℕ) (b : Fin 8) (ha : b.val < a) (sm : DmaSem sig) (hsm : sm = semNo (1, 0, b))
    {sp sp' : Space} {s s' : Shape} {e e' : EltTy} {src : Memref sig .tc sp s e} {dst : Memref sig .tc sp' s' e'}
    {hsrc : src.view.WordExact} {hdst : dst.view.WordExact} (hN : dst.view.dmaCredit = N)
    {α : Type} {Q : α → sProp 𝕄} {kt : PUnit → Prog (TpuEff nD τ sig (Elt F) Λ₀ .tc) α} :
    iprop(world X D K ∗ bandsF c b.val ∗ owing c a b.val)
      ⊢ iprop(((midF X D c b ∗ owing c a b.val) -∗ wp frame (wpE (defs₀ (F := F)) 𝒱₀ (c.tc : Thread nD τ) none) Set.univ (kt ⟨⟩) Q)
          -∗ wp frame (wpE (defs₀ (F := F)) 𝒱₀ (c.tc : Thread nD τ) none) Set.univ (.op (.waitDma2 sm src dst hsrc hdst) kt) Q) := by
  iintro ⟨#HW, HF, HO⟩ Hk
  ihave HF := (takeF c b) $$ HF
  icases HF with ⟨⟨Ha, Hf0, Hf1⟩, HF⟩
  iapply (wait_at X D K c (1, 0, b) a b.val (by show 2 * b.val + 1 < _; omega) (by show 2 * b.val + 1 < _; omega) sm hsm hN) $$ [Ha HO]
  · isplitr; · iexact HW
    isplitl [Ha] <;> iassumption
  iintro ⟨Hd, Hp, HO⟩
  have hp : pay X D c (1, 0, b) ⊢ vPts fullShare c (place c) b (received X D c) := BIBase.Entails.refl
  ihave Hp := hp $$ Hp
  iapply Hk
  isplitr [HO]
  · unfold midF
    isplitl [Hd]; · iexact Hd
    isplitl [Hp]; · iexact Hp
    isplitl [Hf0]; · iexact Hf0
    isplitl [Hf1]; · iexact Hf1
    iexact HF
  iexact HO

theorem part4_wp (c : Dev nD) (a : ℕ) (b : Fin 8) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole) (arg0 : BitVec 32) (d0 : Dev nD) (v2 : BitVec 32) (v5 : BitVec 32) (v8 : BitVec 32) (v9 : BitVec 32) (v12 : BitVec 32) (v58 : BitVec 32) (k0_h4 : k0_cond4 i = 1#1) (hj : (i 0).val = b.val + 1) (ha : b.val < a) (hd : d0 = c) (Q : (Σ' (v93 : BitVec 32), BitVec 32) → sProp 𝕄) :
    iprop(world X D K ∗ bandsF c b.val ∗ owing c a b.val)
      ⊢ iprop(((midF X D c b ∗ owing c a b.val) -∗ ∀ r, Q r) -∗ wp frame (wpE (defs₀ (F := F)) 𝒱₀ (c.tc : Thread nD τ) none) Set.univ (k0_part4 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 arg0 d0 v2 v5 v8 v9 v12 v58 k0_h4) Q) := by
  subst hd
  rw [k0_part4_eq_skeleton]; unfold k0_part4_skel
  simp only [Prog.lift, Prog.bind_op, Prog.bind_ret, Prog.pure_eq_ret, Prog.bind_assoc, wp_deviceId]
  iintro ⟨#HW, HF, HO⟩ Hk
  iapply (wait_own X D K d0 a b ha _ (as_r 0 b _ (by rw [off16_eq i (by omega), hj]; rfl) _) (credit_hbm _)) $$ [HF HO]
  · isplitr; · iexact HW
    isplitl [HF] <;> iassumption
  iintro ⟨HF, HO⟩
  rw [wp_ret]; imodintro
  ihave Hq := Hk $$ [HF HO]
  · isplitl [HF] <;> iassumption
  iapply Hq

theorem part5_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole) (d0 : Dev nD) (v2 : BitVec 32) (v5 : BitVec 32) (v8 : BitVec 32) (v9 : BitVec 32) (v12 : BitVec 32) (v58 : BitVec 32) (v60 : BitVec 32) (k0_h5 : k0_cond5 i = 1#1) (hd : d0 = c) (Q : (PUnit) → sProp 𝕄) :
    iprop(world X D K ∗ bandsF c (7 : Fin 8).val ∗ owing c 8 (7 : Fin 8).val)
      ⊢ iprop(((midF1 X D c 7 ∗ owing2 c 8 7) -∗ Q ⟨⟩) -∗ wp frame (wpE (defs₀ (F := F)) 𝒱₀ (c.tc : Thread nD τ) none) Set.univ (k0_part5 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v2 v5 v8 v9 v12 v58 v60 k0_h5) Q) := by
  subst hd
  rw [k0_part5_eq_skeleton]; unfold k0_part5_skel
  simp only [Prog.lift, Prog.bind_op, Prog.bind_ret, Prog.pure_eq_ret, Prog.bind_assoc, wp_deviceId]
  iintro ⟨#HW, HF, HO⟩ Hk
  iapply (wait_own X D K d0 8 7 (by decide) _ (as_r 0 7 _ rfl _) (credit_hbm _)) $$ [HF HO]
  · isplitr; · iexact HW
    isplitl [HF] <;> iassumption
  iintro ⟨HF, HO⟩
  iapply (fwd0 X D K d0 8 7 _ (dev5_eq d0 _) _ (off20_eq d0) _ _ _ (fw_s 0 7 _ rfl _) (fw_r 0 7 _ rfl _)) $$ [HF HO]
  · isplitr; · iexact HW
    isplitl [HF] <;> iassumption
  iintro ⟨HF, HO⟩
  rw [wp_ret]; imodintro
  iapply Hk
  isplitl [HF] <;> iassumption

/-- Once the last band is handed on, what is left to wait for. -/
theorem bandsF_last (c : Dev nD) : (bandsF c 8 : sProp 𝕄) ⊢ iprop((bigSep Finset.univ fun b : Fin 8 => done c (1, 0, b))
    ∗ bigSep Finset.univ fun b : Fin 8 => iprop(armed c (2, 0, b) ∗ armed c (2, 1, b))) := by
  unfold bandsF
  rw [← bigSep_sep']
  refine bigSep_mono fun b _ => ?_
  have hb := b.isLt
  unfold bandF; rw [if_neg (by omega)]
  show iprop(done c (1, 0, b) ∗ armed c (2, 0, b) ∗ armed c (2, 1, b)) ⊢ iprop(done c (1, 0, b) ∗ armed c (2, 0, b) ∗ armed c (2, 1, b))
  iintro H; iexact H

theorem part6_wp (c : Dev nD) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole) (d0 : Dev nD) (v2 : BitVec 32) (v5 : BitVec 32) (v8 : BitVec 32) (v9 : BitVec 32) (v12 : BitVec 32) (v23 : BitVec 32) (v34 : BitVec 32) (v62 : BitVec 32) (v64 : BitVec 32) (k0_h5 : k0_cond5 i = 1#1) (hd : d0 = c) (Q : (BitVec 32) → sProp 𝕄) :
    iprop(world X D K ∗ midF1 X D c 7 ∗ owing2 c 8 7 ∗ bandsR c)
      ⊢ iprop((((bigSep Finset.univ fun b : Fin 8 => done c (1, 0, b)) ∗ dr X D c 1 ∗ owing c 8 8) -∗ ∀ r, Q r) -∗ wp frame (wpE (defs₀ (F := F)) 𝒱₀ (c.tc : Thread nD τ) none) Set.univ (k0_part6 i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d0 v2 v5 v8 v9 v12 v23 v34 v62 v64 k0_h5) Q) := by
  subst hd
  rw [k0_part6_eq_skeleton]; unfold k0_part6_skel
  simp only [Prog.lift, Prog.bind_op, Prog.bind_ret, Prog.pure_eq_ret, Prog.bind_assoc, wp_deviceId]
  iintro ⟨#HW, HF, HO, HR⟩ Hk
  iapply (fwd1 X D K d0 8 7 _ (dev6_eq d0 _) _ (off20_eq d0) _ _ _ (fw_s 1 7 _ rfl _) (fw_r 1 7 _ rfl _)) $$ [HF HO]
  · isplitr; · iexact HW
    isplitl [HF] <;> iassumption
  iintro ⟨HF, HO⟩
  have hl : (bandsF d0 ((7 : Fin 8).val + 1) : sProp 𝕄) ⊢ iprop((bigSep Finset.univ fun b : Fin 8 => done d0 (1, 0, b))
      ∗ bigSep Finset.univ fun b : Fin 8 => iprop(armed d0 (2, 0, b) ∗ armed d0 (2, 1, b))) := bandsF_last d0
  have ho : (owing d0 8 ((7 : Fin 8).val + 1) : sProp 𝕄) ⊢ owing d0 8 8 := BIBase.Entails.refl
  ihave HF := hl $$ HF
  ihave HO := ho $$ HO
  icases HF with ⟨Hdn, HF⟩
  ihave Hdr := (dr_zero X D d0) $$ [HF HR]
  · isplitl [HF] <;> iassumption
  iapply (drain X D K d0 0 (0, 0) rfl _ (as_r 1 0 _ rfl _) (credit_hbm _)) $$ [Hdr HO]
  · isplitr; · iexact HW
    isplitl [Hdr] <;> iassumption
  iintro ⟨Hdr, HO⟩
  rw [wp_ret]; imodintro
  ihave Hq := Hk $$ [Hdn Hdr HO]
  · isplitl [Hdn]; · iexact Hdn
    isplitl [Hdr] <;> iassumption
  iapply Hq

end Cert.KernelIdeal.Own
-- ==== Proof.Body.lean ====
/-
  The kernel at one point of its grid: the four kinds of point.
-/
module

public import proofs.«01_k».proof.Proof.Parts
public import proofs.«01_k».proof.Proof.Gen.KernelIdeal.Points

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (X : Dev nD → S4096x3072.Idx → F .bf16) (D : Dev nD → S4096x8192.Idx → F .bf16)
variable (K : Dev nD × CellId → ℕ)

/-! ## The body at a point

A point adds one block's product to the accumulator.  The last point of a band rounds the rows that stay into the output window and sends two
quarters to the other ring; a point in the middle of a band hands on the block received for the band before; the last point of all waits for the rest. -/

section
variable (c : Dev nD) (j k : Fin 8) (i : grid0.Coords) (arg2 : Memref sig .tc .vmem S4096x3072 .bf16) (harg2 : arg2.IsWhole) (arg3 : Memref sig .tc .vmem S512x1024 .bf16) (harg3 : arg3.IsWhole)
    (arg4 : Memref sig .tc .vmem S2048x1024 .bf16) (harg4 : arg4.IsWhole)
  (hj : (i 0).val = j.val) (hk : (i 1).val = k.val) (f : Vec F S3072x1024 .f32) (hf : k.val ≠ 0 → f = acc X D c j k.val)

/-- The block of `dy` of a point. -/
abbrev dBlk (D : Dev nD → S4096x8192.Idx → F .bf16) (c : Dev nD) (k j : Fin 8) : S512x1024.Idx → F .bf16 := fun y => D c ((dR k j).emb y)

include hk hf in
theorem body_plain (h2 : ¬ k0_cond2 i = 1#1) (h4 : ¬ k0_cond4 i = 1#1) (h5 : ¬ k0_cond5 i = 1#1) (Q : PUnit → sProp 𝕄) :
    iprop(owns (c.tc : Thread nD τ) arg2 fullShare (X c) ∗ owns (c.tc : Thread nD τ) arg3 fullShare (dBlk D c k j)
        ∗ owns (c.tc : Thread nD τ) (Memref.whole cc0_scratch0) fullShare f)
      ⊢ iprop(((owns (c.tc : Thread nD τ) arg2 fullShare (X c) ∗ owns (c.tc : Thread nD τ) arg3 fullShare (dBlk D c k j)
            ∗ owns (c.tc : Thread nD τ) (Memref.whole cc0_scratch0) fullShare (acc X D c j (k.val + 1))) -∗ Q ⟨⟩)
          -∗ wp frame (wpE (defs₀ (F := F)) 𝒱₀ (c.tc : Thread nD τ) none) Set.univ (cc0__main_body i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5) Q) := by
  rw [cc0__main_body_eq_skeleton]; unfold cc0__main_body_skel
  simp only [dif_neg h2, dif_neg h4, dif_neg h5, Prog.lift, Prog.bind_op, Prog.bind_ret, Prog.pure_eq_ret, Prog.bind_assoc]
  iintro ⟨H2, H3, Ha⟩ Hk
  rw [wp_bind]
  iapply (part22_wp c i arg2 harg2 arg3 harg3 arg4 harg4)
  iintro %r %hr
  obtain ⟨arg0, arg1, d0, v2, v5, v8, v9, v12, v23, v34⟩ := r
  obtain ⟨-, h1, hd⟩ := hr
  dsimp only at h1 hd
  subst hd
  rw [wp_bind]
  iapply (part23_wp X D d0 j k i arg2 harg2 arg3 harg3 arg4 harg4 arg1 v2 v8 v12 h1 hk f hf) $$ Ha
  iintro Ha %r %hr
  obtain ⟨v45, v58, v60, v62, v64, v68⟩ := r
  dsimp only at hr
  subst hr
  dsimp only
  iapply (own_load d0 arg2 _ fullShare (X d0)) $$ H2
  iintro H2
  iapply (own_load_whole d0 arg3 ![0, 0] inb_S512x1024_S512x1024_0_0 fullShare (dBlk D d0 k j)) $$ H3
  iintro H3
  iapply (own_load_whole d0 (Memref.whole cc0_scratch0) ![0, 0] inb_S3072x1024_S3072x1024_0_0 fullShare (acc X D d0 j k.val)) $$ Ha
  iintro Ha
  rw [x_rect i k hk]
  iapply (own_store d0 (Memref.whole cc0_scratch0) ![0, 0] inb_S3072x1024_S3072x1024_0_0 (acc X D d0 j k.val)
    (k0_pay1 (acc X D d0 j k.val) (fun y => X d0 ((xR k).emb y)) (dBlk D d0 k j))) $$ Ha
  iintro Ha
  rw [← acc_succ]
  rw [wp_ret]; imodintro
  iapply Hk
  isplitl [H2]; · iexact H2
  isplitl [H3]; · iexact H3
  iexact Ha

include hj hk hf in
theorem body_fwd (b : Fin 8) (hb : b.val + 1 = j.val) (h2 : ¬ k0_cond2 i = 1#1) (h4 : k0_cond4 i = 1#1) (h5 : ¬ k0_cond5 i = 1#1) (Q : PUnit → sProp 𝕄) :
    iprop(world X D K ∗ owns (c.tc : Thread nD τ) arg2 fullShare (X c) ∗ owns (c.tc : Thread nD τ) arg3 fullShare (dBlk D c k j)
        ∗ owns (c.tc : Thread nD τ) (Memref.whole cc0_scratch0) fullShare f ∗ bandsF c b.val ∗ owing c j.val b.val)
      ⊢ iprop(((owns (c.tc : Thread nD τ) arg2 fullShare (X c) ∗ owns (c.tc : Thread nD τ) arg3 fullShare (dBlk D c k j)
            ∗ owns (c.tc : Thread nD τ) (Memref.whole cc0_scratch0) fullShare (acc X D c j (k.val + 1))
            ∗ bandsF c (b.val + 1) ∗ owing c j.val (b.val + 1)) -∗ Q ⟨⟩)
          -∗ wp frame (wpE (defs₀ (F := F)) 𝒱₀ (c.tc : Thread nD τ) none) Set.univ (cc0__main_body i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5) Q) := by
  rw [cc0__main_body_eq_skeleton]; unfold cc0__main_body_skel
  simp only [dif_neg h2, dif_pos h4, dif_neg h5, Prog.lift, Prog.bind_op, Prog.bind_ret, Prog.pure_eq_ret, Prog.bind_assoc]
  iintro ⟨#HW, H2, H3, Ha, HF, HO⟩ Hk
  rw [wp_bind]
  iapply (part22_wp c i arg2 harg2 arg3 harg3 arg4 harg4)
  iintro %r %hr
  obtain ⟨arg0, arg1, d0, v2, v5, v8, v9, v12, v23, v34⟩ := r
  obtain ⟨-, h1, hd⟩ := hr
  dsimp only at h1 hd
  subst hd
  rw [wp_bind]
  iapply (part23_wp X D d0 j k i arg2 harg2 arg3 harg3 arg4 harg4 arg1 v2 v8 v12 h1 hk f hf) $$ Ha
  iintro Ha %r %hr
  obtain ⟨v45, v58, v60, v62, v64, v68⟩ := r
  dsimp only at hr
  subst hr
  dsimp only
  iapply (own_load d0 arg2 _ fullShare (X d0)) $$ H2
  iintro H2
  iapply (own_load_whole d0 arg3 ![0, 0] inb_S512x1024_S512x1024_0_0 fullShare (dBlk D d0 k j)) $$ H3
  iintro H3
  iapply (own_load_whole d0 (Memref.whole cc0_scratch0) ![0, 0] inb_S3072x1024_S3072x1024_0_0 fullShare (acc X D d0 j k.val)) $$ Ha
  iintro Ha
  rw [x_rect i k hk]
  iapply (own_store d0 (Memref.whole cc0_scratch0) ![0, 0] inb_S3072x1024_S3072x1024_0_0 (acc X D d0 j k.val)
    (k0_pay1 (acc X D d0 j k.val) (fun y => X d0 ((xR k).emb y)) (dBlk D d0 k j))) $$ Ha
  iintro Ha
  rw [← acc_succ]
  have ho : k0_off17 i d0 = ![512 * (place d0).val, 1024 * b.val] := by
    rw [off17_eq i d0 (by omega), hj, ← hb]; rfl
  rw [wp_bind]
  iapply (part4_wp X D K d0 j.val b i arg2 harg2 arg3 harg3 arg4 harg4 _ _ _ _ _ _ _ _ _ (by omega) (by omega) rfl) $$ [HF HO]
  · isplitr; · iexact HW
    isplitl [HF] <;> iassumption
  iintro ⟨HF, HO⟩ %r
  obtain ⟨v93, v124⟩ := r
  iapply (fwd0 X D K d0 j.val b _ (dev3_eq d0 _) _ ho _ _ _ (fw_s 0 b _ (by rw [off16_eq i (by omega), hj, ← hb]; rfl) _)
    (fw_r 0 b _ (by rw [off16_eq i (by omega), hj, ← hb]; rfl) _)) $$ [HF HO]
  · isplitr; · iexact HW
    isplitl [HF] <;> iassumption
  iintro ⟨HF, HO⟩
  iapply (fwd1 X D K d0 j.val b _ (dev4_eq d0 _) _ ho _ _ _ (fw_s 1 b _ (by rw [off19_eq i (by omega), hj, ← hb]; rfl) _)
    (fw_r 1 b _ (by rw [off19_eq i (by omega), hj, ← hb]; rfl) _)) $$ [HF HO]
  · isplitr; · iexact HW
    isplitl [HF] <;> iassumption
  iintro ⟨HF, HO⟩
  rw [wp_ret]; imodintro
  iapply Hk
  isplitl [H2]; · iexact H2
  isplitl [H3]; · iexact H3
  isplitl [Ha]; · iexact Ha
  isplitl [HF] <;> iassumption

include hj hk hf in
theorem body_send (n : ℕ) (h7 : k.val = 7) (h2 : k0_cond2 i = 1#1) (h4 : ¬ k0_cond4 i = 1#1) (h5 : ¬ k0_cond5 i = 1#1) (Q : PUnit → sProp 𝕄) :
    iprop(world X D K ∗ owns (c.tc : Thread nD τ) arg2 fullShare (X c) ∗ owns (c.tc : Thread nD τ) arg3 fullShare (dBlk D c k j)
        ∗ owns (c.tc : Thread nD τ) (Memref.whole cc0_scratch0) fullShare f ∗ (∃ d, owns (c.tc : Thread nD τ) arg4 fullShare d) ∗ bandsY c j.val ∗ owing c j.val n)
      ⊢ iprop(((owns (c.tc : Thread nD τ) arg2 fullShare (X c) ∗ owns (c.tc : Thread nD τ) arg3 fullShare (dBlk D c k j)
            ∗ owns (c.tc : Thread nD τ) (Memref.whole cc0_scratch0) fullShare (acc X D c j (k.val + 1))
            ∗ owns (c.tc : Thread nD τ) arg4 fullShare (stays X D c j) ∗ bandsY c (j.val + 1) ∗ owing c (j.val + 1) n) -∗ Q ⟨⟩)
          -∗ wp frame (wpE (defs₀ (F := F)) 𝒱₀ (c.tc : Thread nD τ) none) Set.univ (cc0__main_body i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5) Q) := by
  rw [cc0__main_body_eq_skeleton]; unfold cc0__main_body_skel
  simp only [dif_pos h2, dif_neg h4, dif_neg h5, Prog.lift, Prog.bind_op, Prog.bind_ret, Prog.pure_eq_ret, Prog.bind_assoc]
  iintro ⟨#HW, H2, H3, Ha, H4, HY, HO⟩ Hk
  rw [wp_bind]
  iapply (part22_wp c i arg2 harg2 arg3 harg3 arg4 harg4)
  iintro %r %hr
  obtain ⟨arg0, arg1, d0, v2, v5, v8, v9, v12, v23, v34⟩ := r
  obtain ⟨-, h1, hd⟩ := hr
  dsimp only at h1 hd
  subst hd
  rw [wp_bind]
  iapply (part23_wp X D d0 j k i arg2 harg2 arg3 harg3 arg4 harg4 arg1 v2 v8 v12 h1 hk f hf) $$ Ha
  iintro Ha %r %hr
  obtain ⟨v45, v58, v60, v62, v64, v68⟩ := r
  dsimp only at hr
  subst hr
  dsimp only
  iapply (own_load d0 arg2 _ fullShare (X d0)) $$ H2
  iintro H2
  iapply (own_load_whole d0 arg3 ![0, 0] inb_S512x1024_S512x1024_0_0 fullShare (dBlk D d0 k j)) $$ H3
  iintro H3
  iapply (own_load_whole d0 (Memref.whole cc0_scratch0) ![0, 0] inb_S3072x1024_S3072x1024_0_0 fullShare (acc X D d0 j k.val)) $$ Ha
  iintro Ha
  rw [x_rect i k hk]
  iapply (own_store d0 (Memref.whole cc0_scratch0) ![0, 0] inb_S3072x1024_S3072x1024_0_0 (acc X D d0 j k.val)
    (k0_pay1 (acc X D d0 j k.val) (fun y => X d0 ((xR k).emb y)) (dBlk D d0 k j))) $$ Ha
  iintro Ha
  rw [← acc_succ]
  rw [h7]
  rw [wp_bind]
  iapply (part2_wp X D K d0 j n i arg2 harg2 arg3 harg3 arg4 harg4 _ _ _ _ _ hj rfl) $$ [Ha H4 HY HO]
  · isplitr; · iexact HW
    isplitl [Ha]; · iexact Ha
    isplitl [H4]; · iexact H4
    isplitl [HY] <;> iassumption
  iintro ⟨Ha, H4, HM, HO⟩ %r %hr
  obtain ⟨v116, v118, v119, v124⟩ := r
  dsimp only at hr
  subst hr
  rw [wp_bind]
  iapply (part3_wp X D K d0 j n i arg2 harg2 arg3 harg3 arg4 harg4 _ _ _ _ _ _ _ _ _ _ _ hj rfl rfl) $$ [HM HO]
  · isplitr; · iexact HW
    isplitl [HM] <;> iassumption
  iintro ⟨HM, HO⟩ %r
  obtain ⟨v157, v158, v159⟩ := r
  unfold midY1 yB owing1
  icases HM with ⟨⟨Ht, Ht', Hd, Hi⟩, Hs, HY⟩
  icases HO with ⟨%W, HO⟩
  iapply (step_ysend X D K d0 _ (dev2_eq d0 _) 1 j _ (by rw [off15_eq i, hj]; rfl) _ _ (by rw [off14_eq i d0, hj]; rfl) _ _ _
    (as_s 1 j _ (by rw [Gen.k0_off13_eq, hj]; rfl) _) (as_r 1 j _ (by rw [Gen.k0_off13_eq, hj]; rfl) _) _ W) $$ [Hi Ht Ht' Hs Hd HO]
  · isplitr; · iexact HW
    isplitl [Hi]; · iexact Hi
    isplitl [Ht]; · iexact Ht
    isplitl [Ht']; · iexact Ht'
    isplitl [Hs]; · iexact Hs
    isplitl [Hd] <;> iassumption
  iintro ⟨Hb, HO⟩
  ihave HY := HY $$ Hb
  have how : (owes (d0.tc : Thread nD τ) (owe d0 (j.val + 1) n) W : sProp 𝕄) ⊢ owing d0 (j.val + 1) n := by
    unfold owing; iintro H; iexists W; iexact H
  ihave HO := how $$ HO
  rw [wp_ret]; imodintro
  iapply Hk
  isplitl [H2]; · iexact H2
  isplitl [H3]; · iexact H3
  isplitl [Ha]; · iexact Ha
  isplitl [H4]; · iexact H4
  isplitl [HY] <;> iassumption

/-- The last two bands' send waits, taken out of the bands. -/
theorem takeY_end (c : Dev nD) : (bandsY c 8 : sProp 𝕄) ⊢ iprop((armed c (0, 0, 6) ∗ armed c (0, 1, 6)) ∗ (armed c (0, 0, 7) ∗ armed c (0, 1, 7))
    ∗ ((done c (0, 0, 6) ∗ done c (0, 1, 6)) -∗ (done c (0, 0, 7) ∗ done c (0, 1, 7)) -∗ bigSep Finset.univ fun b : Fin 8 => iprop(done c (0, 0, b) ∗ done c (0, 1, b)))) := by
  unfold bandsY
  refine (take_two (6 : Fin 8) 7 (by decide) _ (fun b : Fin 8 => iprop(done c (0, 0, b) ∗ done c (0, 1, b))) fun b hb hb' => ?_).trans ?_
  · have h6 : b.val ≠ 6 := fun h => hb (Fin.ext h)
    have h7 : b.val ≠ 7 := fun h => hb' (Fin.ext h)
    have h8 := b.isLt
    unfold bandY; rw [if_neg (by omega), if_neg (by omega)]
  · have e6 : (bandY c 8 6 : sProp 𝕄) = iprop(armed c (0, 0, 6) ∗ armed c (0, 1, 6)) := by
      unfold bandY; rw [if_neg (by decide), if_pos (by decide)]
    have e7 : (bandY c 8 7 : sProp 𝕄) = iprop(armed c (0, 0, 7) ∗ armed c (0, 1, 7)) := by
      unfold bandY; rw [if_neg (by decide), if_pos (by decide)]
    rw [e6, e7]

/-- What the device holds once every wait is done. -/
def ended (c : Dev nD) : sProp 𝕄 :=
  iprop((bigSep Finset.univ fun b : Fin 8 => done c (1, 0, b)) ∗ dr X D c 40 ∗ (bigSep Finset.univ fun b : Fin 8 => iprop(done c (0, 0, b) ∗ done c (0, 1, b)))
    ∗ pay X D c (0, 0, 6) ∗ pay X D c (0, 1, 6) ∗ pay X D c (0, 0, 7) ∗ pay X D c (0, 1, 7))

include hj hk hf in
theorem body_last (hj7 : j = 7) (h7 : k.val = 7) (h2 : k0_cond2 i = 1#1) (h4 : ¬ k0_cond4 i = 1#1) (h5 : k0_cond5 i = 1#1) (Q : PUnit → sProp 𝕄) :
    iprop(world X D K ∗ owns (c.tc : Thread nD τ) arg2 fullShare (X c) ∗ owns (c.tc : Thread nD τ) arg3 fullShare (dBlk D c k j)
        ∗ owns (c.tc : Thread nD τ) (Memref.whole cc0_scratch0) fullShare f ∗ (∃ d, owns (c.tc : Thread nD τ) arg4 fullShare d) ∗ bandsY c j.val ∗ bandsF c (7 : Fin 8).val ∗ bandsR c ∗ owing c j.val (7 : Fin 8).val)
      ⊢ iprop(((owns (c.tc : Thread nD τ) arg2 fullShare (X c) ∗ owns (c.tc : Thread nD τ) arg3 fullShare (dBlk D c k j)
            ∗ owns (c.tc : Thread nD τ) (Memref.whole cc0_scratch0) fullShare (acc X D c j (k.val + 1))
            ∗ owns (c.tc : Thread nD τ) arg4 fullShare (stays X D c j) ∗ ended X D c ∗ owing c 8 8) -∗ Q ⟨⟩)
          -∗ wp frame (wpE (defs₀ (F := F)) 𝒱₀ (c.tc : Thread nD τ) none) Set.univ (cc0__main_body i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5) Q) := by
  rw [cc0__main_body_eq_skeleton]; unfold cc0__main_body_skel
  simp only [dif_pos h2, dif_neg h4, dif_pos h5, Prog.lift, Prog.bind_op, Prog.bind_ret, Prog.pure_eq_ret, Prog.bind_assoc]
  iintro ⟨#HW, H2, H3, Ha, H4, HY, HF, HR, HO⟩ Hk
  rw [wp_bind]
  iapply (part22_wp c i arg2 harg2 arg3 harg3 arg4 harg4)
  iintro %r %hr
  obtain ⟨arg0, arg1, d0, v2, v5, v8, v9, v12, v23, v34⟩ := r
  obtain ⟨-, h1, hd⟩ := hr
  dsimp only at h1 hd
  subst hd
  rw [wp_bind]
  iapply (part23_wp X D d0 j k i arg2 harg2 arg3 harg3 arg4 harg4 arg1 v2 v8 v12 h1 hk f hf) $$ Ha
  iintro Ha %r %hr
  obtain ⟨v45, v58, v60, v62, v64, v68⟩ := r
  dsimp only at hr
  subst hr
  dsimp only
  iapply (own_load d0 arg2 _ fullShare (X d0)) $$ H2
  iintro H2
  iapply (own_load_whole d0 arg3 ![0, 0] inb_S512x1024_S512x1024_0_0 fullShare (dBlk D d0 k j)) $$ H3
  iintro H3
  iapply (own_load_whole d0 (Memref.whole cc0_scratch0) ![0, 0] inb_S3072x1024_S3072x1024_0_0 fullShare (acc X D d0 j k.val)) $$ Ha
  iintro Ha
  rw [x_rect i k hk]
  iapply (own_store d0 (Memref.whole cc0_scratch0) ![0, 0] inb_S3072x1024_S3072x1024_0_0 (acc X D d0 j k.val)
    (k0_pay1 (acc X D d0 j k.val) (fun y => X d0 ((xR k).emb y)) (dBlk D d0 k j))) $$ Ha
  iintro Ha
  rw [← acc_succ]
  rw [h7]
  rw [wp_bind]
  iapply (part2_wp X D K d0 j (7 : Fin 8).val i arg2 harg2 arg3 harg3 arg4 harg4 _ _ _ _ _ hj rfl) $$ [Ha H4 HY HO]
  · isplitr; · iexact HW
    isplitl [Ha]; · iexact Ha
    isplitl [H4]; · iexact H4
    isplitl [HY] <;> iassumption
  iintro ⟨Ha, H4, HM, HO⟩ %r %hr
  obtain ⟨v116, v118, v119, v124⟩ := r
  dsimp only at hr
  subst hr
  rw [wp_bind]
  iapply (part3_wp X D K d0 j (7 : Fin 8).val i arg2 harg2 arg3 harg3 arg4 harg4 _ _ _ _ _ _ _ _ _ _ _ hj rfl rfl) $$ [HM HO]
  · isplitr; · iexact HW
    isplitl [HM] <;> iassumption
  iintro ⟨HM, HO⟩ %r
  obtain ⟨v157, v158, v159⟩ := r
  unfold midY1 yB owing1
  icases HM with ⟨⟨Ht, Ht', Hd, Hi⟩, Hs, HY⟩
  icases HO with ⟨%W, HO⟩
  iapply (step_ysend X D K d0 _ (dev2_eq d0 _) 1 j _ (by rw [off15_eq i, hj]; rfl) _ _ (by rw [off14_eq i d0, hj]; rfl) _ _ _
    (as_s 1 j _ (by rw [Gen.k0_off13_eq, hj]; rfl) _) (as_r 1 j _ (by rw [Gen.k0_off13_eq, hj]; rfl) _) _ W) $$ [Hi Ht Ht' Hs Hd HO]
  · isplitr; · iexact HW
    isplitl [Hi]; · iexact Hi
    isplitl [Ht]; · iexact Ht
    isplitl [Ht']; · iexact Ht'
    isplitl [Hs]; · iexact Hs
    isplitl [Hd] <;> iassumption
  iintro ⟨Hb, HO⟩
  ihave HY := HY $$ Hb
  have how : (owes (d0.tc : Thread nD τ) (owe d0 (j.val + 1) (7 : Fin 8).val) W : sProp 𝕄) ⊢ owing d0 (j.val + 1) (7 : Fin 8).val := by
    unfold owing; iintro H; iexists W; iexact H
  ihave HO := how $$ HO
  have hy8 : (bandsY d0 (j.val + 1) : sProp 𝕄) ⊢ bandsY d0 8 := by rw [hj7]; exact BIBase.Entails.refl
  have ho8 : (owing d0 (j.val + 1) (7 : Fin 8).val : sProp 𝕄) ⊢ owing d0 8 (7 : Fin 8).val := by rw [hj7]; exact BIBase.Entails.refl
  ihave HY := hy8 $$ HY
  ihave HO := ho8 $$ HO
  rw [wp_bind]
  iapply (part5_wp X D K d0 i arg2 harg2 arg3 harg3 arg4 harg4 _ _ _ _ _ _ _ _ _ rfl) $$ [HF HO]
  · isplitr; · iexact HW
    isplitl [HF] <;> iassumption
  iintro ⟨HF, HO⟩
  rw [wp_bind]
  iapply (part6_wp X D K d0 i arg2 harg2 arg3 harg3 arg4 harg4 _ _ _ _ _ _ _ _ _ _ _ rfl) $$ [HF HO HR]
  · isplitr; · iexact HW
    isplitl [HF]; · iexact HF
    isplitl [HO] <;> iassumption
  iintro ⟨Hdn, Hd, HO⟩ %_
  rw [wp_bind]
  iapply (part7_wp X D K d0 i arg2 harg2 arg3 harg3 arg4 harg4 _ _ _ _ _ _ _ _ _) $$ [Hd HO]
  · isplitr; · iexact HW
    isplitl [Hd] <;> iassumption
  iintro ⟨Hd, HO⟩
  rw [wp_bind]
  iapply (part8_wp X D K d0 i arg2 harg2 arg3 harg3 arg4 harg4 _ _ _ _ _ _ _ _ _ _ _) $$ [Hd HO]
  · isplitr; · iexact HW
    isplitl [Hd] <;> iassumption
  iintro ⟨Hd, HO⟩
  rw [wp_bind]
  iapply (part9_wp X D K d0 i arg2 harg2 arg3 harg3 arg4 harg4 _ _ _ _ _ _ _) $$ [Hd HO]
  · isplitr; · iexact HW
    isplitl [Hd] <;> iassumption
  iintro ⟨Hd, HO⟩ %_
  rw [wp_bind]
  iapply (part10_wp X D K d0 i arg2 harg2 arg3 harg3 arg4 harg4 _ _ _ _ _ _ _ _ _ _ _ _ _) $$ [Hd HO]
  · isplitr; · iexact HW
    isplitl [Hd] <;> iassumption
  iintro ⟨Hd, HO⟩ %_
  rw [wp_bind]
  iapply (part11_wp X D K d0 i arg2 harg2 arg3 harg3 arg4 harg4 _ _ _ _ _ _ _ _ _) $$ [Hd HO]
  · isplitr; · iexact HW
    isplitl [Hd] <;> iassumption
  iintro ⟨Hd, HO⟩ %_
  rw [wp_bind]
  iapply (part12_wp X D K d0 i arg2 harg2 arg3 harg3 arg4 harg4 _ _ _ _ _ _ _ _ _ _ _ _ _) $$ [Hd HO]
  · isplitr; · iexact HW
    isplitl [Hd] <;> iassumption
  iintro ⟨Hd, HO⟩
  rw [wp_bind]
  iapply (part13_wp X D K d0 i arg2 harg2 arg3 harg3 arg4 harg4 _ _ _ _ _ _ _) $$ [Hd HO]
  · isplitr; · iexact HW
    isplitl [Hd] <;> iassumption
  iintro ⟨Hd, HO⟩
  rw [wp_bind]
  iapply (part14_wp X D K d0 i arg2 harg2 arg3 harg3 arg4 harg4 _ _ _ _ _ _ _ _ _ _) $$ [Hd HO]
  · isplitr; · iexact HW
    isplitl [Hd] <;> iassumption
  iintro ⟨Hd, HO⟩
  rw [wp_bind]
  iapply (part15_wp X D K d0 i arg2 harg2 arg3 harg3 arg4 harg4 _ _ _ _ _ _ _ _) $$ [Hd HO]
  · isplitr; · iexact HW
    isplitl [Hd] <;> iassumption
  iintro ⟨Hd, HO⟩
  rw [wp_bind]
  iapply (part16_wp X D K d0 i arg2 harg2 arg3 harg3 arg4 harg4 _ _ _ _ _ _ _ _ _) $$ [Hd HO]
  · isplitr; · iexact HW
    isplitl [Hd] <;> iassumption
  iintro ⟨Hd, HO⟩ %_
  rw [wp_bind]
  iapply (part17_wp X D K d0 i arg2 harg2 arg3 harg3 arg4 harg4 _ _ _ _ _ _ _ _ _ _ _ _) $$ [Hd HO]
  · isplitr; · iexact HW
    isplitl [Hd] <;> iassumption
  iintro ⟨Hd, HO⟩
  rw [wp_bind]
  iapply (part18_wp X D K d0 i arg2 harg2 arg3 harg3 arg4 harg4 _ _ _ _ _ _ _) $$ [Hd HO]
  · isplitr; · iexact HW
    isplitl [Hd] <;> iassumption
  iintro ⟨Hd, HO⟩
  rw [wp_bind]
  iapply (part19_wp X D K d0 i arg2 harg2 arg3 harg3 arg4 harg4 _ _ _ _ _ _ _ _ _ _ _ _) $$ [Hd HO]
  · isplitr; · iexact HW
    isplitl [Hd] <;> iassumption
  iintro ⟨Hd, HO⟩
  rw [wp_bind]
  iapply (part20_wp X D K d0 i arg2 harg2 arg3 harg3 arg4 harg4 _ _ _ _ _ _) $$ [Hd HO]
  · isplitr; · iexact HW
    isplitl [Hd] <;> iassumption
  iintro ⟨Hd, HO⟩
  rw [wp_bind]
  ihave HY := (takeY_end d0) $$ HY
  icases HY with ⟨⟨Ga, Gb⟩, ⟨Gc, Gd⟩, HY⟩
  iapply (part21_wp X D K d0 i arg2 harg2 arg3 harg3 arg4 harg4 _ _ _ _) $$ [Ga Gb Gc HO]
  · isplitr; · iexact HW
    isplitl [Ga]; · iexact Ga
    isplitl [Gb]; · iexact Gb
    isplitl [Gc] <;> iassumption
  iintro ⟨⟨Ga, Pa⟩, ⟨Gb, Pb⟩, ⟨Gc, Pc⟩, HO⟩
  iapply (wait_at X D K d0 (0, 1, 7) 8 8 (by decide) (by decide) _ (as_s 1 7 _ rfl _) (credit_vmem _)) $$ [Gd HO]
  · isplitr; · iexact HW
    isplitl [Gd] <;> iassumption
  iintro ⟨Gd, Pd, HO⟩
  rw [wp_ret]; imodintro
  iapply Hk
  isplitl [H2]; · iexact H2
  isplitl [H3]; · iexact H3
  isplitl [Ha]; · iexact Ha
  isplitl [H4]; · iexact H4
  isplitr [HO]
  · unfold ended
    isplitl [Hdn]; · iexact Hdn
    isplitl [Hd]; · iexact Hd
    isplitl [HY Ga Gb Gc Gd]
    · iapply HY $$ [Ga Gb]
      · isplitl [Ga] <;> iassumption
      isplitl [Gc] <;> iassumption
    isplitl [Pa]; · iexact Pa
    isplitl [Pb]; · iexact Pb
    isplitl [Pc] <;> iassumption
  iexact HO

end

end Cert.KernelIdeal.Own
-- ==== Proof.Finish.lean ====
/-
  What the last point of the kernel hands back.
-/
module

public import proofs.«01_k».proof.Proof.Body
public import Idealize.ShloMosaic.Lib.Ring
public import Idealize.ShloMosaic.Lib.Rounds.Family
public import proofs.«01_k».proof.Proof.Gen.KernelIdeal.Points

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (X : Dev nD → S4096x3072.Idx → F .bf16) (D : Dev nD → S4096x8192.Idx → F .bf16)
variable (K : Dev nD × CellId → ℕ)

/-! ## What the last point hands back

Every one of the device's own cells closes with its counter at zero; the receive buffer is whole again, holding all the blocks; the send buffer is
whole again. -/

/-- A sum over the cells of a device, band by band. -/
theorem by_band (Φ : CellId → sProp 𝕄) : bigSep Finset.univ Φ
    = bigSep Finset.univ fun b : Fin 8 => iprop((Φ (0, 0, b) ∗ Φ (0, 1, b)) ∗ (Φ (1, 0, b) ∗ Φ (1, 1, b)) ∗ (Φ (2, 0, b) ∗ Φ (2, 1, b)) ∗ (Φ (3, 0, b) ∗ Φ (3, 1, b))) := by
  simp only [bigSep_sep']
  rw [bigSep_univ_prod, bigSep_univ_eq_bigSepL [(0 : Fin 4), 1, 2, 3] (by decide) (by decide)]
  simp only [bigSepL_cons, bigSepL_nil, bigSep_univ_prod, bigSep_fin_two, sep_emp_eq]
  rfl

theorem close_all (c : Dev nD) : iprop(world X D K ∗ bigSep Finset.univ fun k : CellId => done c k)
    ⊢ (|={Set.univ}=> bigSep Finset.univ fun k : CellId => semVal (cell c k) 0 : sProp 𝕄) := by
  refine BIBase.Entails.trans ?_ (Rounds.cells_close ER (rd X D) Finset.univ (fun k : CellId => cell c k) (fun k => K (c, k)) (Es := Set.univ)
    (fun _ _ => Set.mem_univ _) (fun _ _ h => h) (fun _ => 1) (fun k _ => duties_later X D (cell c k)))
  have h : world X D K ⊢ (bigSep Finset.univ fun k : CellId => cellInv ER (rd X D) (K (c, k)) (cell c k) : sProp 𝕄) := by
    unfold world
    rw [bigSep_univ_prod]
    iintro ⟨H, -⟩
    have h' : (bigSep Finset.univ fun d : Dev nD => bigSep Finset.univ fun k : CellId => cellInv ER (rd X D) (K (d, k)) (cell d k) : sProp 𝕄)
        ⊢ bigSep Finset.univ fun k : CellId => cellInv ER (rd X D) (K (c, k)) (cell c k) := bigSep_elim (Finset.mem_univ c)
    iapply h'
    iexact H
  rw [bigSep_sep']
  iintro ⟨HW, H⟩
  isplitl [HW]; · iapply h; iexact HW
  iexact H

theorem recv_whole (c : Dev nD) (f : Buf (Elt F) ((c.tc : Thread nD τ).loc main_v1_1)) :
    (((c.tc : Thread nD τ).loc main_v1_1) ↦{fullShare} f : sProp 𝕄)
      = bigSep Finset.univ fun b : Fin 8 => iprop(vPts fullShare c (place c) b f ∗ vPts fullShare c (opp c) b f
          ∗ vPts fullShare c (place (lft c)) b f ∗ vPts fullShare c (place (rgt c)) b f) := by
  rw [Ring.pointsTo_blocks (ℓ := (c.tc : Thread nD τ).loc main_v1_1) (fun p : Fin 4 × Fin 8 => vSet p.1 p.2)
    (fun p p' h => vSet_disjoint p (Finset.mem_univ _) p' (Finset.mem_univ _) h) vSet_cover f,
    bigSep_univ_prod, bigSep_univ_equiv (Equiv.ofBijective _ (slotOf_bijective c)),
    bigSep_univ_eq_bigSepL [(0 : Fin 4), 1, 2, 3] (by decide) (by decide)]
  simp only [bigSepL_cons, bigSepL_nil, sep_emp_eq, bigSep_sep', Equiv.ofBijective_apply, slotOf2, slotOf3]
  rfl

theorem send_whole (c : Dev nD) : (bigSep Finset.univ fun p : Fin 2 × Fin 2 => iprop(∃ f, sPts (F := F) c p.1 p.2 f))
    ⊢ (iprop(∃ f, ((c.tc : Thread nD τ).loc cc0_scratch1) ↦{fullShare} f) : sProp 𝕄) := by
  unfold sPts
  exact Ring.pointsTo_blocks_join_exists (ℓ := (c.tc : Thread nD τ).loc cc0_scratch1) (fun p : Fin 2 × Fin 2 => sSet p.1 p.2)
    (fun p p' h => sSet_disjoint p (Finset.mem_univ _) p' (Finset.mem_univ _) h) sSet_cover (fun _ => FloatOps.ofBits .bf16 0)

/-- All of it. -/
def back (c : Dev nD) : sProp 𝕄 :=
  iprop((bigSep Finset.univ fun k : CellId => semVal (cell c k) 0) ∗ (((c.tc : Thread nD τ).loc main_v1_1) ↦{fullShare} (received X D c))
    ∗ (∃ f, ((c.tc : Thread nD τ).loc cc0_scratch1) ↦{fullShare} f))

theorem ended_split (c : Dev nD) : ended X D c ⊢ iprop((bigSep Finset.univ fun k : CellId => done c k)
    ∗ (bigSep Finset.univ fun b : Fin 8 => iprop(pay X D c (1, 1, b) ∗ pay X D c (3, 0, b) ∗ pay X D c (3, 1, b) ∗ pay X D c (2, 0, b) ∗ pay X D c (2, 1, b)))
    ∗ pay X D c (0, 0, 6) ∗ pay X D c (0, 1, 6) ∗ pay X D c (0, 0, 7) ∗ pay X D c (0, 1, 7)) := by
  unfold ended
  rw [by_band]
  have hd : dr X D c 40 ⊢ (iprop((bigSep Finset.univ fun b : Fin 8 => iprop(done c (1, 1, b) ∗ done c (3, 0, b) ∗ done c (3, 1, b) ∗ done c (2, 0, b) ∗ done c (2, 1, b)))
      ∗ (bigSep Finset.univ fun b : Fin 8 => iprop(pay X D c (1, 1, b) ∗ pay X D c (3, 0, b) ∗ pay X D c (3, 1, b) ∗ pay X D c (2, 0, b) ∗ pay X D c (2, 1, b)))) : sProp 𝕄) := by
    rw [← bigSep_sep']; exact dr_all X D c
  have h : iprop((bigSep Finset.univ fun b : Fin 8 => done c (1, 0, b)) ∗ (bigSep Finset.univ fun b : Fin 8 => iprop(done c (1, 1, b) ∗ done c (3, 0, b) ∗ done c (3, 1, b) ∗ done c (2, 0, b) ∗ done c (2, 1, b)))
      ∗ (bigSep Finset.univ fun b : Fin 8 => iprop(done c (0, 0, b) ∗ done c (0, 1, b))))
      ⊢ (bigSep Finset.univ fun b : Fin 8 => iprop((done c (0, 0, b) ∗ done c (0, 1, b)) ∗ (done c (1, 0, b) ∗ done c (1, 1, b)) ∗ (done c (2, 0, b) ∗ done c (2, 1, b)) ∗ (done c (3, 0, b) ∗ done c (3, 1, b))) : sProp 𝕄) := by
    rw [← bigSep_sep', ← bigSep_sep']
    refine bigSep_mono fun b _ => ?_
    show iprop(done c (1, 0, b) ∗ (done c (1, 1, b) ∗ done c (3, 0, b) ∗ done c (3, 1, b) ∗ done c (2, 0, b) ∗ done c (2, 1, b)) ∗ done c (0, 0, b) ∗ done c (0, 1, b)) ⊢ _
    iintro ⟨A, ⟨B, C, D', E, G⟩, H, I⟩
    isplitl [H I]; · isplitl [H] <;> iassumption
    isplitl [A B]; · isplitl [A] <;> iassumption
    isplitl [E G]; · isplitl [E] <;> iassumption
    isplitl [C] <;> iassumption
  iintro ⟨H1, Hd, H0, HP⟩
  ihave Hd := hd $$ Hd
  icases Hd with ⟨Hd, Hp⟩
  isplitl [H1 Hd H0]
  · iapply h
    isplitl [H1]; · iexact H1
    isplitl [Hd] <;> iassumption
  isplitl [Hp] <;> iassumption

theorem recv_of_pays (c : Dev nD) :
    (bigSep Finset.univ fun b : Fin 8 => iprop(pay X D c (1, 1, b) ∗ pay X D c (3, 0, b) ∗ pay X D c (3, 1, b) ∗ pay X D c (2, 0, b) ∗ pay X D c (2, 1, b)))
      ⊢ (((c.tc : Thread nD τ).loc main_v1_1) ↦{fullShare} (received X D c) : sProp 𝕄) := by
  rw [recv_whole]
  refine bigSep_mono fun b _ => ?_
  show iprop(vPts fullShare c (opp c) b (received X D c) ∗ vPts fullShare c (place (lft c)) b (received X D c) ∗ vPts fullShare c (place (rgt c)) b (received X D c)
    ∗ vPts (hs 0) c (place c) b (received X D c) ∗ vPts (hs 1) c (place c) b (received X D c)) ⊢ _
  iintro ⟨A, B, C, E, G⟩
  isplitl [E G]
  · iapply (halves c (place c) b (received X D c)).2
    isplitl [E] <;> iassumption
  isplitl [A]; · iexact A
  isplitl [B] <;> iassumption

theorem send_of_pays (c : Dev nD) :
    iprop(pay X D c (0, 0, 6) ∗ pay X D c (0, 1, 6) ∗ pay X D c (0, 0, 7) ∗ pay X D c (0, 1, 7))
      ⊢ (iprop(∃ f, ((c.tc : Thread nD τ).loc cc0_scratch1) ↦{fullShare} f) : sProp 𝕄) := by
  refine BIBase.Entails.trans ?_ (send_whole c)
  rw [bigSep_univ_prod, bigSep_fin_two, bigSep_fin_two, bigSep_fin_two]
  show iprop((∃ f, sPts c 0 0 f) ∗ (∃ f, sPts c 1 0 f) ∗ (∃ f, sPts c 0 1 f) ∗ (∃ f, sPts c 1 1 f))
    ⊢ iprop(((∃ f, sPts c 0 0 f) ∗ (∃ f, sPts c 0 1 f)) ∗ ((∃ f, sPts c 1 0 f) ∗ (∃ f, sPts c 1 1 f)))
  iintro ⟨A, B, C, E⟩
  isplitl [A C]; · isplitl [A] <;> iassumption
  isplitl [B] <;> iassumption

theorem finish (c : Dev nD) : iprop(world X D K ∗ ended X D c) ⊢ (|={Set.univ}=> back X D c : sProp 𝕄) := by
  iintro ⟨#HW, H⟩
  ihave H := (ended_split X D c) $$ H
  icases H with ⟨Hd, Hp, Hs⟩
  imod (close_all X D K c) $$ [Hd] with Hz
  · isplitr; · iexact HW
    iexact Hd
  imodintro
  unfold back
  isplitl [Hz]; · iexact Hz
  isplitl [Hp]; · iapply (recv_of_pays X D c); iexact Hp
  iapply (send_of_pays X D c); iexact Hs

end Cert.KernelIdeal.Own
-- ==== Proof.Region0.lean ====
/-
  The first call point by point: what its windows hold, what is held between two points, and each point's run.
-/
module

public import proofs.«01_k».proof.Proof.Finish
public import proofs.«01_k».proof.Proof.Gen.KernelIdeal.Points

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (X : Dev nD → S4096x3072.Idx → F .bf16) (D : Dev nD → S4096x8192.Idx → F .bf16)
variable (K : Dev nD × CellId → ℕ)
variable (V : Dev nD → S2048x8192.Idx → F .bf16)

/-! ## What is held between two points -/

/-- The band of a point. -/
def bnd (n : ℕ) : Fin 8 := Fin.ofNat 8 (n / 8)
/-- How many bands have been handed on before a point. -/
def fwdN (n : ℕ) : ℕ := if n < 64 then (n - 5) / 8 else 8
theorem bnd_val {n : ℕ} (h : n < 64) : (bnd n).val = n / 8 := by
  show (n / 8) % 8 = n / 8
  omega

def accAt (c : Dev nD) (n : ℕ) : sProp 𝕄 :=
  iprop(∃ f, ⌜n % 8 ≠ 0 → f = acc X D c (bnd n) (n % 8)⌝ ∗ owns (c.tc : Thread nD τ) (Memref.whole cc0_scratch0) fullShare f)

theorem accAt_open (c : Dev nD) (n : ℕ) : accAt X D c n ⊢ iprop(∃ f, ⌜n % 8 ≠ 0 → f = acc X D c (bnd n) (n % 8)⌝ ∗ owns (c.tc : Thread nD τ) (Memref.whole cc0_scratch0) fullShare f) :=
  BIBase.Entails.refl

/-- The staging buffers of the second call. -/
def spare (c : Dev nD) : sProp 𝕄 :=
  iprop((∃ f : Buf (Elt F) ((c.tc : Thread nD τ).loc cc1_stg0_0), ((c.tc : Thread nD τ).loc cc1_stg0_0) ↦{fullShare} f)
    ∗ (∃ f : Buf (Elt F) ((c.tc : Thread nD τ).loc cc1_stg0_1), ((c.tc : Thread nD τ).loc cc1_stg0_1) ↦{fullShare} f)
    ∗ (∃ f : Buf (Elt F) ((c.tc : Thread nD τ).loc cc1_stg1_0), ((c.tc : Thread nD τ).loc cc1_stg1_0) ↦{fullShare} f)
    ∗ (∃ f : Buf (Elt F) ((c.tc : Thread nD τ).loc cc1_stg1_1), ((c.tc : Thread nD τ).loc cc1_stg1_1) ↦{fullShare} f)
    ∗ (∃ f : Buf (Elt F) ((c.tc : Thread nD τ).loc cc1_stg2_0), ((c.tc : Thread nD τ).loc cc1_stg2_0) ↦{fullShare} f)
    ∗ (∃ f : Buf (Elt F) ((c.tc : Thread nD τ).loc cc1_stg2_1), ((c.tc : Thread nD τ).loc cc1_stg2_1) ↦{fullShare} f))

def inv (c : Dev nD) (n : ℕ) : sProp 𝕄 :=
  if n < 64 then iprop(world X D K ∗ bandsY c (n / 8) ∗ bandsF c (fwdN n) ∗ bandsR c ∗ accAt X D c n ∗ spare c)
  else iprop(back X D c ∗ (∃ f, owns (c.tc : Thread nD τ) (Memref.whole cc0_scratch0) fullShare f) ∗ spare c)

def dat0 (c : Dev nD) : Dat τ (Elt F) Unit ℕ UU ℕ cfg0 c where
  A := fun | 0 => X c | 1 => D c | 2 => V c
  after := fun
    | 0 => fun _ => X c
    | 1 => fun t => dBlk D c (Fin.ofNat 8 (t.val % 8)) (bnd t.val)
    | 2 => fun t => stays X D c (bnd t.val)
  Φ t := inv X D K c t.val
  q _ := fullShare
  owed t := owe c (t.val / 8) (fwdN t.val)

/-! ## What the body finds -/

theorem lt64 (t : Fin cfg0.N) : t.val < 64 := lt_of_lt_of_eq t.isLt N_0

theorem tr0 : ∀ (i : grid0.Coords), cc0_transform_0 i = ![0, 0] := by decide +kernel
theorem tr1 : ∀ (i : grid0.Coords), cc0_transform_1 i = ![(i 1).val, (i 0).val] := by decide +kernel
theorem tr2 : ∀ (i : grid0.Coords), cc0_transform_2 i = ![0, (i 0).val] := by decide +kernel

theorem block0 (c : Dev nD) (t : Fin cfg0.N) : (dat0 X D K V c).blockOf 0 t = X c := by
  funext y
  show X c ((win0_0.rect t).emb y) = X c y
  congr 1
  funext a
  apply Fin.ext
  rw [Pipeline.Window.rect_emb_val_off]
  have h := tr0 (grid0.coords t)
  match a with
  | 0 => show cc0_transform_0 (grid0.coords t) 0 * 4096 + (y 0).val = (y 0).val; rw [h]; show 0 * 4096 + _ = _; omega
  | 1 => show cc0_transform_0 (grid0.coords t) 1 * 3072 + (y 1).val = (y 1).val; rw [h]; show 0 * 3072 + _ = _; omega

theorem block1 (c : Dev nD) (t : Fin cfg0.N) : (dat0 X D K V c).blockOf 1 t = dBlk D c (Fin.ofNat 8 (t.val % 8)) (bnd t.val) := by
  funext y
  show D c ((win0_1.rect t).emb y) = D c ((dR (Fin.ofNat 8 (t.val % 8)) (bnd t.val)).emb y)
  congr 1
  funext a
  apply Fin.ext
  rw [Pipeline.Window.rect_emb_val_off, Rect.emb_apply]
  have h := tr1 (grid0.coords t)
  rw [coord0, coord1] at h
  have hk : (Fin.ofNat 8 (t.val % 8) : Fin 8).val = t.val % 8 := by show t.val % 8 % 8 = _; omega
  have hj := bnd_val (lt64 t)
  match a with
  | 0 => show cc0_transform_1 (grid0.coords t) 0 * 512 + (y 0).val = 512 * (Fin.ofNat 8 (t.val % 8) : Fin 8).val + 1 * (y 0).val; rw [h, hk]; show t.val % 8 * 512 + _ = _; omega
  | 1 => show cc0_transform_1 (grid0.coords t) 1 * 1024 + (y 1).val = 1024 * (bnd t.val).val + 1 * (y 1).val; rw [h, hj]; show t.val / 8 * 1024 + _ = _; omega

theorem before0 (c : Dev nD) (t : Fin cfg0.N) (d) : (dat0 X D K V c).before 0 t d = X c := by
  rw [Dat.before_in_eq_fetched (dat0 X D K V c) 0 rfl (fun _ => rfl) (fun _ _ _ => rfl) (fun t => (block0 X D K V c t).symm) t d]
  exact block0 X D K V c t
theorem before1 (c : Dev nD) (t : Fin cfg0.N) (d) : (dat0 X D K V c).before 1 t d = dBlk D c (Fin.ofNat 8 (t.val % 8)) (bnd t.val) := by
  rw [Dat.before_in_eq_fetched (dat0 X D K V c) 1 rfl (fun _ => rfl) (fun _ _ _ => rfl) (fun t => (block1 X D K V c t).symm) t d]
  exact block1 X D K V c t

theorem owesAt_to {cfg : Pipeline.Cfg sig Λ₀} {c : Dev nD} (dat : Dat τ (Elt F) Unit ℕ UU ℕ cfg c) (t : Fin (cfg.N + 1)) (a f : ℕ)
    (h0 : dat.owed t = owe c a f) (hr : dat.recorded t = Set.univ) : (owing c a f : sProp 𝕄) ⊢ (dat.owesAt () t : sProp 𝕄) := by
  unfold Dat.owesAt Pipeline.owesWithin Dat.bound owing; rw [h0, hr]
  iintro ⟨%W, HO⟩; iexists W; isplitr; · ipureintro; exact fun _ _ => Or.inl trivial
  iexact HO
theorem owesAt_from {cfg : Pipeline.Cfg sig Λ₀} {c : Dev nD} (dat : Dat τ (Elt F) Unit ℕ UU ℕ cfg c) (t : Fin (cfg.N + 1)) (a f : ℕ)
    (h0 : dat.owed t = owe c a f) : (dat.owesAt () t : sProp 𝕄) ⊢ owing c a f := by
  unfold Dat.owesAt Pipeline.owesWithin owing; rw [h0]
  iintro ⟨%W, -, HO⟩; iexists W; iexact HO

/-! ## A point -/

/-- What a point starts from and leaves, window 2 apart. -/
def pt (c : Dev nD) (n : ℕ) (m₀ : Memref sig .tc .vmem S4096x3072 .bf16) (m₁ : Memref sig .tc .vmem S512x1024 .bf16) (k j : Fin 8) : sProp 𝕄 :=
  iprop(inv X D K c n ∗ owing c (n / 8) (fwdN n) ∗ owns (c.tc : Thread nD τ) m₀ fullShare (X c) ∗ owns (c.tc : Thread nD τ) m₁ fullShare (dBlk D c k j))

section Point

variable (c : Dev nD) (n : ℕ) (hn : n < 64) (i : grid0.Coords) (h0 : (i 0).val = n / 8) (h1 : (i 1).val = n % 8)
  (arg2 : Memref sig .tc .vmem S4096x3072 .bf16) (harg2 : arg2.IsWhole) (arg3 : Memref sig .tc .vmem S512x1024 .bf16) (harg3 : arg3.IsWhole)
  (arg4 : Memref sig .tc .vmem S2048x1024 .bf16) (harg4 : arg4.IsWhole)
include hn h0 h1

/-- The accumulator after a point. -/
theorem acc_next (hne : (n + 1) % 8 ≠ 0) : bnd (n + 1) = bnd n ∧ (n + 1) % 8 = n % 8 + 1 := by
  refine ⟨Fin.ext ?_, by omega⟩
  rw [bnd_val (by omega), bnd_val hn]; omega

theorem accAt_next (f) (hf : f = acc X D c (bnd n) (n % 8 + 1)) :
    (owns (c.tc : Thread nD τ) (Memref.whole cc0_scratch0) fullShare f : sProp 𝕄) ⊢ accAt X D c (n + 1) := by
  unfold accAt
  iintro H
  iexists f
  isplitr
  · ipureintro
    intro hne
    obtain ⟨e1, e2⟩ := acc_next n hn i h0 h1 hne
    rw [e1, e2]; exact hf
  iexact H

theorem pt_quiet (h7 : n % 8 ≠ 7) (Q : PUnit → sProp 𝕄) :
    pt X D K c n arg2 arg3 (Fin.ofNat 8 (n % 8)) (bnd n)
      ⊢ iprop((pt X D K c (n + 1) arg2 arg3 (Fin.ofNat 8 (n % 8)) (bnd n) -∗ Q ⟨⟩)
          -∗ wp frame (wpE (defs₀ (F := F)) 𝒱₀ (c.tc : Thread nD τ) none) Set.univ (cc0__main_body i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5) Q) := by
  have hk : (Fin.ofNat 8 (n % 8) : Fin 8).val = n % 8 := by show n % 8 % 8 = _; omega
  have hj := bnd_val hn
  have e8 : (n + 1) / 8 = n / 8 := by omega
  have h2 : ¬ k0_cond2 i = 1#1 := fun h => h7 (by rw [← h1]; exact (cond2_iff i).1 h)
  have h5 : ¬ k0_cond5 i = 1#1 := fun h => h7 (by rw [← h1]; exact ((cond5_iff i).1 h).2)
  unfold pt inv
  rw [if_pos hn, if_pos (by omega), e8]
  iintro ⟨⟨#HW, HY, HF, HR, Ha, Hsp⟩, HO, H2, H3⟩ Hk
  icases (accAt_open X D c n) $$ Ha with ⟨%f, %hf, Ha⟩
  by_cases h4 : n % 8 = 4 ∧ 0 < n / 8
  · have h4' : k0_cond4 i = 1#1 := (cond4_iff i).2 ⟨by omega, by omega⟩
    obtain ⟨b, hb⟩ : ∃ b : Fin 8, b.val + 1 = (bnd n).val := ⟨⟨n / 8 - 1, by omega⟩, by rw [hj]; show n / 8 - 1 + 1 = n / 8; omega⟩
    have f1 : fwdN n = b.val := by unfold fwdN; rw [if_pos hn]; omega
    have f2 : fwdN (n + 1) = b.val + 1 := by unfold fwdN; rw [if_pos (by omega)]; omega
    rw [f1, f2, ← hj]
    iapply (body_fwd X D K c (bnd n) (Fin.ofNat 8 (n % 8)) i arg2 harg2 arg3 harg3 arg4 harg4 (by omega) (by omega) f (fun h => by rw [hk]; exact hf (by omega)) b hb h2 h4' h5 Q) $$ [HO H2 H3 Ha HF]
    · isplitr; · iexact HW
      isplitl [H2]; · iexact H2
      isplitl [H3]; · iexact H3
      isplitl [Ha]; · iexact Ha
      isplitl [HF] <;> iassumption
    iintro ⟨H2, H3, Ha, HF, HO⟩
    iapply Hk
    isplitr [HO H2 H3]
    · isplitr; · iexact HW
      isplitl [HY]; · iexact HY
      isplitl [HF]; · iexact HF
      isplitl [HR]; · iexact HR
      isplitl [Ha]; · iapply (accAt_next X D c n hn i h0 h1 (acc X D c (bnd n) ((Fin.ofNat 8 (n % 8) : Fin 8).val + 1)) (by rw [hk])); iexact Ha
      iexact Hsp
    isplitl [HO]; · iexact HO
    isplitl [H2] <;> iassumption
  · have h4' : ¬ k0_cond4 i = 1#1 := fun h => h4 (by have := (cond4_iff i).1 h; omega)
    have f2 : fwdN (n + 1) = fwdN n := by unfold fwdN; rw [if_pos (by omega), if_pos hn]; omega
    rw [f2]
    iapply (body_plain X D c (bnd n) (Fin.ofNat 8 (n % 8)) i arg2 harg2 arg3 harg3 arg4 harg4 (by omega) f (fun h => by rw [hk]; exact hf (by omega)) h2 h4' h5 Q) $$ [H2 H3 Ha]
    · isplitl [H2]; · iexact H2
      isplitl [H3] <;> iassumption
    iintro ⟨H2, H3, Ha⟩
    iapply Hk
    isplitr [HO H2 H3]
    · isplitr; · iexact HW
      isplitl [HY]; · iexact HY
      isplitl [HF]; · iexact HF
      isplitl [HR]; · iexact HR
      isplitl [Ha]; · iapply (accAt_next X D c n hn i h0 h1 (acc X D c (bnd n) ((Fin.ofNat 8 (n % 8) : Fin 8).val + 1)) (by rw [hk])); iexact Ha
      iexact Hsp
    isplitl [HO]; · iexact HO
    isplitl [H2] <;> iassumption

theorem pt_send (h7 : n % 8 = 7) (Q : PUnit → sProp 𝕄) :
    iprop(pt X D K c n arg2 arg3 (Fin.ofNat 8 (n % 8)) (bnd n) ∗ ∃ d, owns (c.tc : Thread nD τ) arg4 fullShare d)
      ⊢ iprop(((pt X D K c (n + 1) arg2 arg3 (Fin.ofNat 8 (n % 8)) (bnd n) ∗ owns (c.tc : Thread nD τ) arg4 fullShare (stays X D c (bnd n))) -∗ Q ⟨⟩)
          -∗ wp frame (wpE (defs₀ (F := F)) 𝒱₀ (c.tc : Thread nD τ) none) Set.univ (cc0__main_body i arg2 harg2 arg3 harg3 arg4 harg4 (Memref.whole main_v1_1) (Memref.isWhole_whole _) (Memref.whole cc0_scratch0) (Memref.isWhole_whole _) (Memref.whole cc0_scratch1) (Memref.isWhole_whole _) cc0_scratch2 cc0_scratch3 cc0_scratch4 cc0_scratch5) Q) := by
  have hk : (Fin.ofNat 8 (n % 8) : Fin 8).val = n % 8 := by show n % 8 % 8 = _; omega
  have hj := bnd_val hn
  have e8 : (n + 1) / 8 = n / 8 + 1 := by omega
  have h2 : k0_cond2 i = 1#1 := (cond2_iff i).2 (by omega)
  have h4 : ¬ k0_cond4 i = 1#1 := fun h => by have := (cond4_iff i).1 h; omega
  unfold pt inv
  rw [if_pos hn, e8]
  iintro ⟨⟨⟨#HW, HY, HF, HR, Ha, Hsp⟩, HO, H2, H3⟩, H4⟩ Hk
  icases (accAt_open X D c n) $$ Ha with ⟨%f, %hf, Ha⟩
  by_cases hl : n = 63
  · subst hl
    have h5 : k0_cond5 i = 1#1 := (cond5_iff i).2 ⟨by omega, by omega⟩
    rw [if_neg (by decide)]
    iapply (wp_fupd frame (wpE (defs₀ (F := F)) 𝒱₀ (c.tc : Thread nD τ) none) Set.univ _ _)
    iapply (body_last X D K c (bnd 63) (Fin.ofNat 8 (63 % 8)) i arg2 harg2 arg3 harg3 arg4 harg4 (by omega) (by omega) f (fun h => by rw [hk]; exact hf (by omega)) rfl rfl h2 h4 h5 (fun r => iprop(|={Set.univ}=> Q r))) $$ [HO H2 H3 Ha H4 HY HF HR]
    · isplitr; · iexact HW
      isplitl [H2]; · iexact H2
      isplitl [H3]; · iexact H3
      isplitl [Ha]; · iexact Ha
      isplitl [H4]; · iexact H4
      isplitl [HY]; · iexact HY
      isplitl [HF]; · iexact HF
      isplitl [HR]; · iexact HR
      iexact HO
    iintro ⟨H2, H3, Ha, H4, He, HO⟩
    imod (finish X D K c) $$ [He] with Hb
    · isplitr; · iexact HW
      iexact He
    imodintro
    iapply Hk
    isplitr [H4]
    · isplitr [HO H2 H3]
      · isplitl [Hb]; · iexact Hb
        isplitl [Ha]; · iexists _; iexact Ha
        iexact Hsp
      isplitl [HO]; · iexact HO
      isplitl [H2] <;> iassumption
    iexact H4
  · have h5 : ¬ k0_cond5 i = 1#1 := fun h => hl (by have := (cond5_iff i).1 h; omega)
    have f2 : fwdN (n + 1) = fwdN n := by unfold fwdN; rw [if_pos (by omega), if_pos hn]; omega
    rw [if_pos (by omega), f2, ← hj]
    iapply (body_send X D K c (bnd n) (Fin.ofNat 8 (n % 8)) i arg2 harg2 arg3 harg3 arg4 harg4 (by omega) (by omega) f (fun h => by rw [hk]; exact hf (by omega)) (fwdN n) (by omega) h2 h4 h5 Q) $$ [HO H2 H3 Ha H4 HY]
    · isplitr; · iexact HW
      isplitl [H2]; · iexact H2
      isplitl [H3]; · iexact H3
      isplitl [Ha]; · iexact Ha
      isplitl [H4]; · iexact H4
      isplitl [HY] <;> iassumption
    iintro ⟨H2, H3, Ha, H4, HY, HO⟩
    iapply Hk
    isplitr [H4]
    · isplitr [HO H2 H3]
      · isplitr; · iexact HW
        isplitl [HY]; · iexact HY
        isplitl [HF]; · iexact HF
        isplitl [HR]; · iexact HR
        isplitl [Ha]; · iapply (accAt_next X D c n hn i h0 h1 (acc X D c (bnd n) ((Fin.ofNat 8 (n % 8) : Fin 8).val + 1)) (by rw [hk])); iexact Ha
        iexact Hsp
      isplitl [HO]; · iexact HO
      isplitl [H2] <;> iassumption
    iexact H4

end Point

/-! ## The body obligation -/

theorem leaves2_idle (c : Dev nD) (t : Fin cfg0.N) (h : t.val % 8 ≠ 7) :
    (dat0 X D K V c).leavesExact 2 t = iprop(∃ d, owns (c.tc : Thread nD τ) (st0_2 t) fullShare ((dat0 X D K V c).before 2 t d)) := by
  refine Dat.leavesExact_idle _ 2 t ?_ ?_
  · have : ¬ k0_cond2 (grid0.coords t) = 1#1 := fun e => h (by rw [← coord1 t]; exact (cond2_iff _).1 e)
    show (!(k0_cond2 (grid0.coords t) == 1#1)) = true
    rw [beq_eq_false_iff_ne.2 this]; rfl
  · exact Bool.eq_false_iff.2 fun e => h ((flush0_2 t).1 e)

theorem leaves2_live (c : Dev nD) (t : Fin cfg0.N) (h : t.val % 8 = 7) :
    (dat0 X D K V c).leavesExact 2 t = owns (c.tc : Thread nD τ) (st0_2 t) fullShare (stays X D c (bnd t.val)) := by
  have hi : cfg0.idle 2 (cfg0.grid.coords t) = false := by
    have : k0_cond2 (grid0.coords t) = 1#1 := (cond2_iff _).2 (by rw [coord1 t]; exact h)
    show (!(k0_cond2 (grid0.coords t) == 1#1)) = false
    rw [this]; rfl
  unfold Dat.leavesExact; rw [hi]; rfl

theorem body0 (c : Dev nD) : BodyObligation (dat0 X D K V c) (defs₀ (F := F)) 𝒱₀ () Set.univ := fun t => by
  have hn := lt64 t
  rw [bigSep_W0, bigSep_W0]
  show iprop(inv X D K c t.val ∗ (dat0 X D K V c).owesAt () t.castSucc
      ∗ (∃ d, owns (c.tc : Thread nD τ) (st0_0 t) fullShare ((dat0 X D K V c).before 0 t d))
      ∗ (∃ d, owns (c.tc : Thread nD τ) (st0_1 t) fullShare ((dat0 X D K V c).before 1 t d))
      ∗ (∃ d, owns (c.tc : Thread nD τ) (st0_2 t) fullShare ((dat0 X D K V c).before 2 t d)))
    ⊢ wp frame (wpE (defs₀ (F := F)) 𝒱₀ (c.tc : Thread nD τ) none) Set.univ (bodyAt0 t) fun _ =>
      iprop(inv X D K c (t.val + 1) ∗ (dat0 X D K V c).owesAt () t.succ
        ∗ owns (c.tc : Thread nD τ) (st0_0 t) fullShare (X c)
        ∗ owns (c.tc : Thread nD τ) (st0_1 t) fullShare (dBlk D c (Fin.ofNat 8 (t.val % 8)) (bnd t.val))
        ∗ (dat0 X D K V c).leavesExact 2 t)
  have hO := owesAt_from (dat0 X D K V c) t.castSucc (t.val / 8) (fwdN t.val) rfl
  have hO' := owesAt_to (dat0 X D K V c) t.succ ((t.val + 1) / 8) (fwdN (t.val + 1)) rfl rfl
  iintro ⟨HI, HO, ⟨%d0, H0⟩, ⟨%d1, H1⟩, H2⟩
  rw [before0, before1]
  ihave HO := hO $$ HO
  by_cases h7 : t.val % 8 = 7
  · rw [leaves2_live X D K V c t h7]
    iapply (pt_send X D K c t.val hn (grid0.coords t) (coord0 t) (coord1 t) (st0_0 t) (hstage0_0 ((cfg0.slots t 0).cast nbuf0_0)) (st0_1 t) (hstage0_1 ((cfg0.slots t 1).cast nbuf0_1)) (st0_2 t) (hstage0_2 ((cfg0.slots t 2).cast nbuf0_2)) h7 _) $$ [HI HO H0 H1 H2]
    · unfold pt
      isplitr [H2]
      · isplitl [HI]; · iexact HI
        isplitl [HO]; · iexact HO
        isplitl [H0] <;> iassumption
      icases H2 with ⟨%d, H2⟩
      iexists _
      iexact H2
    unfold pt
    iintro ⟨⟨HI, HO, H0, H1⟩, H2⟩
    isplitl [HI]; · iexact HI
    isplitl [HO]; · iapply hO'; iexact HO
    isplitl [H0]; · iexact H0
    isplitl [H1] <;> iassumption
  · rw [leaves2_idle X D K V c t h7]
    iapply (pt_quiet X D K c t.val hn (grid0.coords t) (coord0 t) (coord1 t) (st0_0 t) (hstage0_0 ((cfg0.slots t 0).cast nbuf0_0)) (st0_1 t) (hstage0_1 ((cfg0.slots t 1).cast nbuf0_1)) (st0_2 t) (hstage0_2 ((cfg0.slots t 2).cast nbuf0_2)) h7 _) $$ [HI HO H0 H1]
    · unfold pt
      isplitl [HI]; · iexact HI
      isplitl [HO]; · iexact HO
      isplitl [H0] <;> iassumption
    unfold pt
    iintro ⟨HI, HO, H0, H1⟩
    isplitl [HI]; · iexact HI
    isplitl [HO]; · iapply hO'; iexact HO
    isplitl [H0]; · iexact H0
    isplitl [H1] <;> iassumption

end Cert.KernelIdeal.Own
-- ==== Proof.Region1.lean ====
/-
  The second call: a block of rows of what stayed and of what arrived, added in f32.
-/
module

public import proofs.«01_k».proof.Proof.Region0
public import Idealize.ShloMosaic.Lib.Pipeline.Value

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (X : Dev nD → S4096x3072.Idx → F .bf16) (D : Dev nD → S4096x8192.Idx → F .bf16)

/-! ## What is held between two points -/
variable (K : Dev nD × CellId → ℕ) (V : Dev nD → S2048x8192.Idx → F .bf16) (Z : Dev nD → S2048x8192.Idx → F .f32)

/-! ## What the first call leaves in its arrays -/

theorem kept0_0 (c : Dev nD) : (dat0 X D K V c).arrAt 0 cfg0.N = X c := Dat.arrAt_in _ 0 rfl _
theorem kept0_1 (c : Dev nD) : (dat0 X D K V c).arrAt 1 cfg0.N = D c := Dat.arrAt_in _ 1 rfl _

theorem emb0_2 (t : Fin grid0.N) (y : S2048x1024.Idx) :
    ((win0_2.rect t).emb y 0).val = (y 0).val ∧ ((win0_2.rect t).emb y 1).val = 1024 * (t.val / 8) + (y 1).val := by
  have h := tr2 (grid0.coords t)
  rw [coord0] at h
  constructor
  · rw [Pipeline.Window.rect_emb_val_off]
    show cc0_transform_2 (grid0.coords t) 0 * 2048 + (y 0).val = (y 0).val
    rw [h]; show 0 * 2048 + _ = _; omega
  · rw [Pipeline.Window.rect_emb_val_off]
    show cc0_transform_2 (grid0.coords t) 1 * 1024 + (y 1).val = _
    rw [h]; show t.val / 8 * 1024 + _ = _; omega

theorem left0_2 (c : Dev nD) : (dat0 X D K V c).arrAt 2 cfg0.N = mine X D c := by
  refine Dat.arrAt_eq_of_cover (dat0 X D K V c) 2 (mine X D c) (fun t ht => ?_) (fun i => ?_)
  · funext y
    show stays X D c (bnd t.val) y = mine X D c ((win0_2.rect t).emb y)
    obtain ⟨e0, e1⟩ := emb0_2 t y
    have y1 : (y 1).val < 1024 := (y 1).isLt
    have hb : bandOf ((win0_2.rect t).emb y) = bnd t.val := by
      apply Fin.ext
      rw [bnd_val (lt64 t)]
      show ((win0_2.rect t).emb y 1).val / 1024 = _
      rw [e1]; omega
    have hi : inBand ((win0_2.rect t).emb y) = y := by
      funext a
      match a with
      | 0 => exact Fin.ext e0
      | 1 =>
        apply Fin.ext
        show ((win0_2.rect t).emb y 1).val % 1024 = _
        rw [e1]; omega
    unfold mine
    rw [hb, hi]
  · have h1 : (i 1).val < 8192 := (i 1).isLt
    let t : Fin cfg0.N := ⟨8 * ((i 1).val / 1024) + 7, by show _ < grid0.N; rw [N_0]; omega⟩
    have ht : t.val = 8 * ((i 1).val / 1024) + 7 := rfl
    refine ⟨t, (flush0_2 t).2 (by rw [ht]; omega), ?_⟩
    have : i = ((cfg0.win 2).blk t).view.emb (inBand i) := by
      obtain ⟨e0, e1⟩ := emb0_2 t (inBand i)
      funext a
      match a with
      | 0 => exact Fin.ext e0.symm
      | 1 =>
        apply Fin.ext
        refine Eq.trans ?_ e1.symm
        rw [ht]; show (i 1).val = _ + (i 1).val % 1024; omega
    rw [this]
    exact Finset.mem_map_of_mem _ (Finset.mem_univ _)

/-! ## The sum -/

/-- The sum of two arrays in f32. -/
def total (A B : S2048x8192.Idx → F .bf16) : S2048x8192.Idx → F .f32 :=
  addf (extf .f32 A bitsLt_bf16_f32) (extf .f32 B bitsLt_bf16_f32)

theorem tr1_2 : ∀ (i : grid1.Coords), cc1_transform_2 i = ![(i 0).val, 0] := by decide +kernel
theorem coord1_0 : ∀ t : Fin grid1.N, ((grid1.coords t) 0).val = t.val := by decide +kernel

theorem emb1 (t : Fin grid1.N) (y : S128x8192.Idx) :
    (win1_1.rect t).emb y = (win1_0.rect t).emb y ∧ (win1_2.rect t).emb y = (win1_0.rect t).emb y := ⟨rfl, rfl⟩

def dat1 (c : Dev nD) : Dat τ (Elt F) Unit ℕ UU ℕ cfg1 c where
  A := fun | 0 => mine X D c | 1 => received X D c | 2 => Z c
  after := fun
    | 0 => fun t y => mine X D c ((win1_0.rect t).emb y)
    | 1 => fun t y => received X D c ((win1_1.rect t).emb y)
    | 2 => fun t y => total (mine X D c) (received X D c) ((win1_2.rect t).emb y)
  Φ _ := scopedRest spec1 c
  q _ := fullShare
  owed _ := 0

theorem found1_0 (c : Dev nD) (t : Fin cfg1.N) (d) : (dat1 X D Z c).before 0 t d = fun y => mine X D c ((win1_0.rect t).emb y) := by
  rw [Dat.before_in_eq_fetched (dat1 X D Z c) 0 rfl (fun _ => rfl) (fun _ _ _ => rfl) (fun _ => rfl) t d]; rfl
theorem found1_1 (c : Dev nD) (t : Fin cfg1.N) (d) : (dat1 X D Z c).before 1 t d = fun y => received X D c ((win1_1.rect t).emb y) := by
  rw [Dat.before_in_eq_fetched (dat1 X D Z c) 1 rfl (fun _ => rfl) (fun _ _ _ => rfl) (fun _ => rfl) t d]; rfl

theorem emb_rows (t : S128x8192.Idx) : (Rect.unit (s := S128x8192) ![0, 0] S128x8192.size inb_S128x8192_S128x8192_0_0).emb t = t := by
  funext a
  apply Fin.ext
  match a with
  | 0 => show 0 + 1 * (t 0).val = (t 0).val; omega
  | 1 => show 0 + 1 * (t 1).val = (t 1).val; omega

theorem sum_block (A B : S2048x8192.Idx → F .bf16) (t : Fin grid1.N) :
    k1_pay1 (F := F) (fun y => A ((win1_0.rect t).emb ((Rect.unit (s := S128x8192) ![0, 0] S128x8192.size inb_S128x8192_S128x8192_0_0).emb y)))
        (fun y => B ((win1_1.rect t).emb ((Rect.unit (s := S128x8192) ![0, 0] S128x8192.size inb_S128x8192_S128x8192_0_0).emb y)))
      = fun y => total A B ((win1_2.rect t).emb y) := by
  have e (C : S2048x8192.Idx → F .bf16) : (fun y => C ((win1_0.rect t).emb ((Rect.unit (s := S128x8192) ![0, 0] S128x8192.size inb_S128x8192_S128x8192_0_0).emb y)))
      = fun y => C ((win1_0.rect t).emb y) := funext fun y => by rw [emb_rows]
  unfold k1_pay1
  dsimp only
  rw [shapeCast_self, shapeCast_self]
  exact (congrArg₂ (fun P Q : S128x8192.Idx → F .bf16 => addf (extf .f32 P bitsLt_bf16_f32) (extf .f32 Q bitsLt_bf16_f32)) (e A) (e B)).trans rfl

theorem body1 (c : Dev nD) : BodyObligation (dat1 X D Z c) (defs₀ (F := F)) 𝒱₀ () Set.univ := fun t => by
  rw [bigSep_W1, bigSep_W1]
  show iprop((scopedRest spec1 c : sProp 𝕄) ∗ (dat1 X D Z c).owesAt () t.castSucc
      ∗ (∃ d, owns (c.tc : Thread nD τ) (st1_0 t) fullShare ((dat1 X D Z c).before 0 t d))
      ∗ (∃ d, owns (c.tc : Thread nD τ) (st1_1 t) fullShare ((dat1 X D Z c).before 1 t d))
      ∗ (∃ d, owns (c.tc : Thread nD τ) (st1_2 t) fullShare ((dat1 X D Z c).before 2 t d)))
    ⊢ wp frame (wpE (defs₀ (F := F)) 𝒱₀ (c.tc : Thread nD τ) none) Set.univ (bodyAt1 t) fun _ =>
      iprop((scopedRest spec1 c : sProp 𝕄) ∗ (dat1 X D Z c).owesAt () t.succ
        ∗ owns (c.tc : Thread nD τ) (st1_0 t) fullShare (fun y => mine X D c ((win1_0.rect t).emb y))
        ∗ owns (c.tc : Thread nD τ) (st1_1 t) fullShare (fun y => received X D c ((win1_1.rect t).emb y))
        ∗ owns (c.tc : Thread nD τ) (st1_2 t) fullShare (fun y => total (mine X D c) (received X D c) ((win1_2.rect t).emb y)))
  unfold bodyAt1
  rw [cc1__add_body_eq_skeleton]; unfold cc1__add_body_skel
  simp only [Prog.lift, Prog.bind_op, Prog.bind_ret, Prog.pure_eq_ret, Prog.bind_assoc]
  iintro ⟨HR, HO, ⟨%d0, H0⟩, ⟨%d1, H1⟩, ⟨%d2, H2⟩⟩
  rw [found1_0, found1_1]
  iapply (own_load c (st1_0 t) _ fullShare _) $$ H0
  iintro H0
  iapply (own_load c (st1_1 t) _ fullShare _) $$ H1
  iintro H1
  iapply (own_load c (st1_2 t) _ fullShare _) $$ H2
  iintro H2
  iapply (own_store c (st1_2 t) _ _ _ _) $$ H2
  iintro H2
  rw [wp_ret]
  imodintro
  isplitl [HR]; · iexact HR
  isplitl [HO]; · iexact HO
  isplitl [H0]; · iexact H0
  isplitl [H1]; · iexact H1
  have hs := congrArg (fun w => (owns (c.tc : Thread nD τ) (st1_2 t) fullShare w : sProp 𝕄)) (sum_block (mine X D c) (received X D c) t)
  iapply (Entails.of_eq hs)
  iexact H2

theorem left1 (c : Dev nD) : (dat1 X D Z c).arrAt 2 cfg1.N = total (mine X D c) (received X D c) := by
  refine Dat.arrAt_eq_of_cover (dat1 X D Z c) 2 _ (fun t ht => rfl) (fun i => ?_)
  have h0 : (i 0).val < 2048 := (i 0).isLt
  let t : Fin cfg1.N := ⟨(i 0).val / 128, by show _ < grid1.N; rw [N_1]; omega⟩
  let y : S128x8192.Idx := fun | 0 => ⟨(i 0).val % 128, Nat.mod_lt _ (by decide)⟩ | 1 => i 1
  refine ⟨t, flush1_2 t, ?_⟩
  have : i = ((cfg1.win 2).blk t).view.emb y := by
    have h := tr1_2 (grid1.coords t)
    rw [coord1_0] at h
    funext a
    apply Fin.ext
    refine Eq.trans ?_ (Pipeline.Window.rect_emb_val_off win1_2 t y a).symm
    match a with
    | 0 => show (i 0).val = cc1_transform_2 (grid1.coords t) 0 * 128 + (i 0).val % 128; rw [h]; show _ = (i 0).val / 128 * 128 + _; omega
    | 1 => show (i 1).val = cc1_transform_2 (grid1.coords t) 1 * 8192 + (i 1).val; rw [h]; show _ = 0 * 8192 + _; omega
  rw [this]
  exact Finset.mem_map_of_mem _ (Finset.mem_univ _)

end Cert.KernelIdeal.Own

end
-- ==== Proof.Calls.lean ====
/-
  The two calls of a device, one after the other.
-/
module

public import proofs.«01_k».proof.Proof.Region1
public import proofs.«01_k».proof.Proof.Gen.KernelIdeal.Launch
public import proofs.«01_k».proof.Proof.Gen.KernelIdeal.Regions
public import Idealize.ShloMosaic.Lib.Pipeline.RegionArrays

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (X : Dev nD → S4096x3072.Idx → F .bf16) (D : Dev nD → S4096x8192.Idx → F .bf16)

/-! ## What is held between two points -/
variable (K : Dev nD × CellId → ℕ) (V : Dev nD → S2048x8192.Idx → F .bf16) (Z : Dev nD → S2048x8192.Idx → F .f32)

def pdats : (p : Fin 2) → (c : Dev nD) → Dat τ (Elt F) Unit ℕ UU ℕ (Pipeline.pin (pcfgs (F := F)) adm p) c
  | 0 => fun c => dat0 X D K V c
  | 1 => fun c => dat1 X D Z c
  | ⟨_ + 2, h⟩ => absurd h (Nat.not_lt.2 (Nat.le_add_left _ _))

theorem lv_stage (p : Fin 2) (w : Fin (cfgs p).W) (s : Fin ((cfgs p).win w).nbuf) (c : Dev nD) :
    lv ((c.tc : Thread nD τ), .dma (((cfgs p).win w).sem s)) () = 0 := by
  have h : ∀ (p : Fin 2) (w : Fin (cfgs p).W) (s : Fin ((cfgs p).win w).nbuf), idOf (.dma (((cfgs p).win w).sem s)) = none := by decide
  unfold lv
  rw [h]

theorem own_sems : OwnSemFacts (cfgs 0).spec osem := by decide

/-! ## The second call -/

def R1 : RegionSeg (pcfgs (F := F)) adm (pdats X D K V Z) () defs₀ 𝒱₀ L lv 1 :=
  RegionSeg.ofArrays (pcfgs (F := F)) adm (pdats X D K V Z) () defs₀ 𝒱₀ L lv 1 (fun _ => 0) (fun _ => iprop(emp)) (fun _ => iprop(emp)) launch1.toP.to₀ rfl
    (fun c => (body1 X D Z c).loose) (fun _ _ => rfl) (fun _ => rfl)
    (fun c => by
      show iprop(scopedRest spec1 c ∗ emp) ⊢ (scopedRest spec1 c : sProp 𝕄)
      iintro ⟨H, -⟩
      iexact H)
    (fun c => by
      show (scopedRest spec1 c : sProp 𝕄) ⊢ iprop(scopedRest spec1 c ∗ emp)
      iintro H
      isplitl [H]; · iexact H
      iempintro)
    (fun _ => 0)
    { hι := fun c w s => by rw [L_tc]; exact Finset.mem_singleton_self _
      hιb := fun c w s => (lv_stage 1 w s c).le
      hD := fun c g i h => absurd h (lt_irrefl _) }
    (fun _ => iprop(emp))

theorem arrays1 (c : Dev nD) (n : ℕ) : ((pdats X D K V Z 1 c).arrays ((pdats X D K V Z 1 c).arrAt · n) : sProp 𝕄)
    = iprop((((c.tc : Thread nD τ).loc main_v1_0) ↦{fullShare} (dat1 X D Z c).arrAt 0 n) ∗ (((c.tc : Thread nD τ).loc main_v1_1) ↦{fullShare} (dat1 X D Z c).arrAt 1 n)
      ∗ (((c.tc : Thread nD τ).loc main_v2) ↦{fullShare} (dat1 X D Z c).arrAt 2 n)) := by
  rw [arrays_eq (Pipeline.pin (pcfgs (F := F)) adm) (pdats X D K V Z) 1 c arr_whole1 (fun w => by fin_cases w <;> rfl)]
  exact bigSep_W1 _

theorem arrays0 (c : Dev nD) (n : ℕ) : ((pdats X D K V Z 0 c).arrays ((pdats X D K V Z 0 c).arrAt · n) : sProp 𝕄)
    = iprop((((c.tc : Thread nD τ).loc main_arg0) ↦{fullShare} (dat0 X D K V c).arrAt 0 n) ∗ (((c.tc : Thread nD τ).loc main_arg1) ↦{fullShare} (dat0 X D K V c).arrAt 1 n)
      ∗ (((c.tc : Thread nD τ).loc main_v1_0) ↦{fullShare} (dat0 X D K V c).arrAt 2 n)) := by
  rw [arrays_eq (Pipeline.pin (pcfgs (F := F)) adm) (pdats X D K V Z) 0 c arr_whole0 (fun w => by fin_cases w <;> rfl)]
  exact bigSep_W0 _

include K V in
/-- The second call: the two arrays it adds are kept, their sum is left in the result. -/
theorem call1 (c : Dev nD) (k : PUnit → Prog (TpuEff nD τ sig (Elt F) (Sig Λ₀ (Fin 2) fun p => (pcfgs (F := F) p).Adm) .tc) PUnit) (Q : PUnit → sProp 𝕄) :
    iprop((iprop(boundary (c.tc : Thread nD τ) ∗ (((c.tc : Thread nD τ).loc main_v2) ↦{fullShare} total (mine X D c) (received X D c)) ∗ (∃ W, owes (c.tc : Thread nD τ) 0 W))
          -∗ wp frame (wpE (defs (F := F)) (Variants.lift 𝒱₀) (c.tc : Thread nD τ) none) Set.univ (k ⟨⟩) Q)
        ∗ boundary (c.tc : Thread nD τ) ∗ (((c.tc : Thread nD τ).loc main_v1_0) ↦{fullShare} mine X D c) ∗ (((c.tc : Thread nD τ).loc main_v1_1) ↦{fullShare} received X D c)
        ∗ (((c.tc : Thread nD τ).loc main_v2) ↦{fullShare} Z c) ∗ (∃ W, owes (c.tc : Thread nD τ) 0 W)
        ∗ levAts L lv ∗ cellsGhost cfgs EP 1 c ∗ toksInit cfgs EP 1 c)
      ⊢ wp frame (wpE (defs (F := F)) (Variants.lift 𝒱₀) (c.tc : Thread nD τ) none) Set.univ (.op (.customCall (entry 1) ()) k) Q := by
  have h := RegionSeg.wp (pcfgs (F := F)) adm (pdats X D K V Z) () cellOf_inj EP defs₀ 𝒱₀ L lv (R1 X D K V Z) c none (fun u hu => nomatch hu) k Q
  have hpre : iprop((((c.tc : Thread nD τ).loc main_v1_0) ↦{fullShare} mine X D c) ∗ (((c.tc : Thread nD τ).loc main_v1_1) ↦{fullShare} received X D c)
      ∗ (((c.tc : Thread nD τ).loc main_v2) ↦{fullShare} Z c) ∗ (∃ W, owes (c.tc : Thread nD τ) 0 W)) ⊢ (R1 X D K V Z).pre c := by
    show _ ⊢ iprop((pdats X D K V Z 1 c).arrays ((pdats X D K V Z 1 c).arrAt · 0) ∗ emp ∗ emp ∗ ∃ W, owes (c.tc : Thread nD τ) 0 W)
    rw [arrays1]
    iintro ⟨A, B, C, HO⟩
    isplitl [A B C]
    · isplitl [A]; · iexact A
      isplitl [B]; · iexact B
      iexact C
    isplitr; · iempintro
    isplitr; · iempintro
    iexact HO
  have hpost : (R1 X D K V Z).post c ⊢ iprop((((c.tc : Thread nD τ).loc main_v2) ↦{fullShare} total (mine X D c) (received X D c)) ∗ (∃ W, owes (c.tc : Thread nD τ) 0 W)) := by
    show iprop((pdats X D K V Z 1 c).arrays ((pdats X D K V Z 1 c).arrAt · cfg1.N) ∗ emp ∗ emp ∗ ∃ W, owes (c.tc : Thread nD τ) 0 W) ⊢ _
    rw [arrays1, left1]
    iintro ⟨⟨-, -, C⟩, -, -, HO⟩
    isplitl [C]; · iexact C
    iexact HO
  refine BIBase.Entails.trans ?_ h
  iintro ⟨Hk, Hb, A, B, C, HO, HL, Hg, Ht⟩
  isplitl [Hk]
  · iintro ⟨Hb, Hp⟩
    ihave Hp := hpost $$ Hp
    icases Hp with ⟨C, HO⟩
    iapply Hk
    isplitl [Hb]; · iexact Hb
    isplitl [C]; · iexact C
    iexact HO
  isplitl [Hb]; · iexact Hb
  isplitl [A B C HO]
  · iapply hpre
    isplitl [A]; · iexact A
    isplitl [B]; · iexact B
    isplitl [C]; · iexact C
    iexact HO
  isplitl [HL]; · iexact HL
  isplitl [Hg]; · iexact Hg
  iexact Ht

/-! ## The first call -/

/-- What a device brings to the first call besides its arrays: its rights towards the other ring and towards its neighbours, band by band. -/
def dealt (c : Dev nD) : sProp 𝕄 :=
  iprop((bigSep Finset.univ fun b : Fin 8 => iprop(yB c 0 b ∗ yB c 1 b)) ∗ (bigSep Finset.univ fun b : Fin 8 => iprop(armed c (1, 0, b) ∗ fB c 0 b ∗ fB c 1 b)) ∗ bandsR c)

theorem send_split (c : Dev nD) (f : Buf (Elt F) ((c.tc : Thread nD τ).loc cc0_scratch1)) : (((c.tc : Thread nD τ).loc cc0_scratch1) ↦{fullShare} f : sProp 𝕄)
    = iprop((sPts c 0 0 f ∗ sPts c 0 1 f) ∗ (sPts c 1 0 f ∗ sPts c 1 1 f)) := by
  rw [Ring.pointsTo_blocks (ℓ := (c.tc : Thread nD τ).loc cc0_scratch1) (fun p : Fin 2 × Fin 2 => sSet p.1 p.2)
    (fun p p' h => sSet_disjoint p (Finset.mem_univ _) p' (Finset.mem_univ _) h) sSet_cover f,
    bigSep_univ_prod, bigSep_fin_two, bigSep_fin_two, bigSep_fin_two]
  rfl

/-- The first two bands get the four slots of the send buffer. -/
theorem slots_all (c : Dev nD) : iprop(∃ f : Buf (Elt F) ((c.tc : Thread nD τ).loc cc0_scratch1), ((c.tc : Thread nD τ).loc cc0_scratch1) ↦{fullShare} f)
    ⊢ (bigSep Finset.univ fun b : Fin 8 => slots c b : sProp 𝕄) := by
  rw [bigSep_univ_eq_bigSepL [(0 : Fin 8), 1, 2, 3, 4, 5, 6, 7] (by decide) (by decide)]
  simp only [bigSepL_cons, bigSepL_nil]
  show _ ⊢ iprop(((∃ f, sPts c 0 0 f) ∗ (∃ f, sPts c 1 0 f)) ∗ ((∃ f, sPts c 0 1 f) ∗ (∃ f, sPts c 1 1 f)) ∗ emp ∗ emp ∗ emp ∗ emp ∗ emp ∗ emp ∗ emp)
  iintro ⟨%f, H⟩
  ihave H := (Entails.of_eq (send_split c f)) $$ H
  icases H with ⟨⟨A, B⟩, C, E⟩
  isplitl [A C]; · isplitl [A]; · iexists f; iexact A
                   iexists f; iexact C
  isplitl [B E]; · isplitl [B]; · iexists f; iexact B
                   iexists f; iexact E
  repeat (isplitr; iempintro)
  iempintro

theorem inv_zero (c : Dev nD) : iprop((world X D K ∗ dealt c) ∗ scopedRest spec0 c) ⊢ (inv X D K c 0 : sProp 𝕄) := by
  unfold inv
  rw [if_pos (by decide), scopedRest0_eq]
  have hY : iprop((bigSep Finset.univ fun b : Fin 8 => iprop(yB c 0 b ∗ yB c 1 b)) ∗ bigSep Finset.univ fun b : Fin 8 => slots c b) ⊢ (bandsY c (0 / 8) : sProp 𝕄) := by
    unfold bandsY
    rw [← bigSep_sep']
    refine bigSep_mono fun b _ => ?_
    unfold bandY
    rw [if_pos (Nat.zero_le _)]
    show iprop((yB c 0 b ∗ yB c 1 b) ∗ slots c b) ⊢ iprop(yB c 0 b ∗ yB c 1 b ∗ slots c b)
    iintro ⟨⟨A, B⟩, C⟩
    isplitl [A]; · iexact A
    isplitl [B]; · iexact B
    iexact C
  have hF : (bigSep Finset.univ fun b : Fin 8 => iprop(armed c (1, 0, b) ∗ fB c 0 b ∗ fB c 1 b)) ⊢ (bandsF c (fwdN 0) : sProp 𝕄) := by
    unfold bandsF
    refine bigSep_mono fun b _ => ?_
    unfold bandF
    rw [if_pos (show fwdN 0 ≤ b.val from Nat.zero_le _)]
    exact BI.Entails.refl _
  have hA : iprop(∃ f : Buf (Elt F) ((c.tc : Thread nD τ).loc cc0_scratch0), ((c.tc : Thread nD τ).loc cc0_scratch0) ↦{fullShare} f) ⊢ accAt X D c 0 := by
    unfold accAt
    iintro ⟨%f, H⟩
    iexists f
    isplitr; · ipureintro; exact fun h => absurd rfl h
    iapply (Entails.of_eq (owns_whole_eq (c.tc : Thread nD τ) cc0_scratch0 fullShare f).symm)
    iexists f
    isplitr; · ipureintro; rfl
    iexact H
  show iprop((world X D K ∗ dealt c) ∗ (∃ f, ((c.tc : Thread nD τ).loc cc0_scratch0) ↦{fullShare} f) ∗ (∃ f, ((c.tc : Thread nD τ).loc cc0_scratch1) ↦{fullShare} f) ∗ spare c) ⊢ _
  unfold dealt
  iintro ⟨⟨HW, HY, HF, HR⟩, H0, H1, HS⟩
  isplitl [HW]; · iexact HW
  isplitl [HY H1]
  · iapply hY
    isplitl [HY]; · iexact HY
    iapply (slots_all c); iexact H1
  isplitl [HF]; · iapply hF; iexact HF
  isplitl [HR]; · iexact HR
  isplitl [H0]; · iapply hA; iexact H0
  iexact HS

theorem inv_last (c : Dev nD) : (inv X D K c 64 : sProp 𝕄)
    ⊢ iprop((((c.tc : Thread nD τ).loc main_v1_1) ↦{fullShare} received X D c) ∗ ownSems0 osem c ∗ scopedRest spec0 c) := by
  have e : (inv X D K c 64 : sProp 𝕄) = iprop(((bigSep Finset.univ fun k : CellId => semVal (cell c k) 0) ∗ (((c.tc : Thread nD τ).loc main_v1_1) ↦{fullShare} received X D c)
      ∗ (∃ f, ((c.tc : Thread nD τ).loc cc0_scratch1) ↦{fullShare} f)) ∗ (∃ f, owns (c.tc : Thread nD τ) (Memref.whole cc0_scratch0) fullShare f) ∗ spare c) := by
    unfold inv back
    rw [if_neg (lt_irrefl _)]
  rw [e, scopedRest0_eq]
  iintro ⟨⟨Hz, HR, H1⟩, ⟨%f, H0⟩, HS⟩
  isplitl [HR]; · iexact HR
  isplitl [Hz]; · unfold ownSems0; iexact Hz
  isplitl [H0]
  · ihave H0 := (Entails.of_eq (owns_whole_eq (c.tc : Thread nD τ) cc0_scratch0 fullShare f)) $$ H0
    icases H0 with ⟨%f', -, H0⟩
    iexists f'; iexact H0
  isplitl [H1]; · iexact H1
  unfold spare
  iexact HS

/-- What is left of a device's boundary when its own cells are taken out of it. -/
def rim (c : Dev nD) : sProp 𝕄 :=
  iprop(scopedBufs (c.tc : Thread nD τ) ∗ cellsSems0 cfgs 0 c ∗ idleSems0 cfgs cellOf_inj 0 own_sems c ∗ opIdle (c.tc : Thread nD τ))

include Z in
/-- The first call: from the device's rights and the levels, its two arguments are kept, its own half of the products is left in the first
    array and everything received in the second. -/
theorem call0 (c : Dev nD) (k : PUnit → Prog (TpuEff nD τ sig (Elt F) (Sig Λ₀ (Fin 2) fun p => (pcfgs (F := F) p).Adm) .tc) PUnit) (Q : PUnit → sProp 𝕄) :
    iprop((iprop(boundary (c.tc : Thread nD τ) ∗ (((c.tc : Thread nD τ).loc main_arg0) ↦{fullShare} X c) ∗ (((c.tc : Thread nD τ).loc main_arg1) ↦{fullShare} D c)
            ∗ (((c.tc : Thread nD τ).loc main_v1_0) ↦{fullShare} mine X D c) ∗ (((c.tc : Thread nD τ).loc main_v1_1) ↦{fullShare} received X D c)
            ∗ (∃ W, owes (c.tc : Thread nD τ) 0 W))
          -∗ wp frame (wpE (defs (F := F)) (Variants.lift 𝒱₀) (c.tc : Thread nD τ) none) Set.univ (k ⟨⟩) Q)
        ∗ rim c ∗ (world X D K ∗ dealt c) ∗ (((c.tc : Thread nD τ).loc main_arg0) ↦{fullShare} X c) ∗ (((c.tc : Thread nD τ).loc main_arg1) ↦{fullShare} D c)
        ∗ (((c.tc : Thread nD τ).loc main_v1_0) ↦{fullShare} V c) ∗ owing c 0 0 ∗ levAts L lv ∗ cellsGhost cfgs EP 0 c ∗ toksInit cfgs EP 0 c)
      ⊢ wp frame (wpE (defs (F := F)) (Variants.lift 𝒱₀) (c.tc : Thread nD τ) none) Set.univ (.op (.customCall (entry 0) ()) k) Q := by
  have hss := scopedSems0_split cfgs cellOf_inj 0 winFacts0.to₀ own_sems (Ix := Unit) (Val := Elt F) (Name := ℕ) (U := UU) (Lvl := ℕ) c
  have hsb := scopedBufs_split cfgs 0 winFacts0.stage_scoped winFacts0.stage_inj stage_whole0 (nD := nD) (τ := τ) (Ix := Unit) (Val := Elt F) (Name := ℕ) (U := UU) (Lvl := ℕ) c
  have hw : levAts L lv ⊢ (cellsWaits (Pipeline.pin (pcfgs (F := F)) adm) (pdats X D K V Z) () 0 c : sProp 𝕄) :=
    cellsWaits_intro (Pipeline.pin (pcfgs (F := F)) adm) (pdats X D K V Z) () 0 c fun w s t =>
      mayWait c _ (t.val / 8) (fwdN t.val) 0 (lv_stage 0 w s c).le (Nat.succ_pos _) (Nat.succ_pos _)
  have hpf : (prefHeld (pcfgs (F := F) 0).pre c (fun _ => fullShare) (adm (F := F) 0).1 : sProp 𝕄) = iprop(emp) := prefHeld_of_none _ rfl c _ _
  have hin : iprop((world X D K ∗ dealt c) ∗ prefHeld (pcfgs (F := F) 0).pre c (fun _ => fullShare) (adm (F := F) 0).1 ∗ scopedRest spec0 c) ⊢ (pdats X D K V Z 0 c).Φ 0 := by
    show _ ⊢ inv X D K c 0
    iintro ⟨HX, -, HR⟩
    iapply (inv_zero X D K c)
    isplitl [HX] <;> iassumption
  have hΦ : (pdats X D K V Z 0 c).Φ (Fin.last (Pipeline.pin (pcfgs (F := F)) adm 0).N) = inv X D K c 64 :=
    congrArg (inv X D K c) (show (Pipeline.pin (pcfgs (F := F)) adm 0).N = 64 from N_0)
  have hout : iprop((pdats X D K V Z 0 c).Φ (Fin.last (Pipeline.pin (pcfgs (F := F)) adm 0).N) ∗ cellsSems0 (Pipeline.pin (pcfgs (F := F)) adm) 0 c
        ∗ Dat.staging (Pipeline.pin (pcfgs (F := F)) adm 0) c ∗ idleSems0 cfgs cellOf_inj 0 own_sems c)
      ⊢ iprop((((c.tc : Thread nD τ).loc main_v1_1) ↦{fullShare} received X D c) ∗ scopedSems0 (c.tc : Thread nD τ) ∗ scopedBufs (c.tc : Thread nD τ)) := by
    rw [hΦ, hss, hsb]
    iintro ⟨HΦ, Hcells, Hst, Hidle⟩
    ihave H := (inv_last X D K c) $$ HΦ
    icases H with ⟨HY, Hos, Hrest⟩
    isplitl [HY]; · iexact HY
    isplitl [Hcells Hos Hidle]
    · isplitl [Hcells Hos]
      · isplitl [Hcells]; · iexact Hcells
        iexact Hos
      iexact Hidle
    isplitl [Hst]; · iexact Hst
    iexact Hrest
  have hlast : (pdats X D K V Z 0 c).owesAt () (Fin.last (Pipeline.pin (pcfgs (F := F)) adm 0).N) ⊢ (iprop(∃ W, owes (c.tc : Thread nD τ) 0 W) : sProp 𝕄) := by
    have h0 : (dat0 X D K V c).owed (Fin.last cfg0.N) = owe c 8 8 := by
      show owe c (cfg0.N / 8) (fwdN cfg0.N) = owe c 8 8
      rw [show cfg0.N = 64 from N_0]; rfl
    refine (owesAt_from (dat0 X D K V c) (Fin.last cfg0.N) 8 8 h0).trans ?_
    unfold owing owe
    rw [oweA_last, oweF_last, add_zero]
  unfold rim
  iintro ⟨Hk, ⟨Hsc, Hcells, Hidle, Hop⟩, HX, A, B, C, HO, #HL, Hg, Ht⟩
  iapply (fupd_wp frame (wpE (defs (F := F)) (Variants.lift 𝒱₀) (c.tc : Thread nD τ) none) Set.univ _ _)
  imod (cellsInit_alloc (Pipeline.pin (pcfgs (F := F)) adm) (pdats X D K V Z) EP cellOf_inj 0 c) $$ [Hcells Hg] with ⟨%κ, -, Hinit⟩
  · isplitl [Hcells]; · iexact Hcells
    iexact Hg
  imodintro
  iapply (wp_customCall_entry_frame (pcfgs (F := F)) adm (pdats X D K V Z) () EP κ cellOf_inj 0 defs₀ 𝒱₀ (fun _ => fullShare) c Set.univ (fun _ _ => Set.mem_univ _)
      ((body0 X D K V c).loose) block_pos0 none (fun u hu => nomatch hu) (X := iprop(world X D K ∗ dealt c))
      (Y := (((c.tc : Thread nD τ).loc main_v1_1) ↦{fullShare} received X D c)) (R := scopedRest spec0 c)
      (I := idleSems0 cfgs cellOf_inj 0 own_sems c) (Entails.of_eq hsb) hin hout (k := k) (Q := Q)) $$ [A B C HO Hinit Ht HX Hidle Hsc]
  · isplitl [A B C HO Hinit Ht]
    · unfold EntryPre PerCore.EntryPre
      isplitl [A B C]
      · iapply (Entails.of_eq (arrays0 X D K V Z c 0).symm)
        isplitl [A]; · iexact A
        isplitl [B]; · iexact B
        iexact C
      isplitl [HO]
      · iapply (owesAt_to (dat0 X D K V c) 0 0 0 rfl rfl); iexact HO
      isplitr; · iapply hw; iexact HL
      isplitl [Hinit]; · iexact Hinit
      iexact Ht
    isplitr; · iapply (Entails.of_eq hpf.symm); iempintro
    isplitl [HX]; · iexact HX
    isplitl [Hidle]; · iexact Hidle
    iexact Hsc
  iintro ⟨Hpost, HY, Hss2, Hsc2⟩
  unfold EntryPost PerCore.EntryPost
  icases Hpost with ⟨Ha, HO⟩
  ihave Ha := (Entails.of_eq (arrays0 X D K V Z c cfg0.N)) $$ Ha
  icases Ha with ⟨A, B, C⟩
  ihave HO := hlast $$ HO
  iapply Hk
  isplitl [Hsc2 Hss2 Hop]
  · iapply (show iprop(scopedBufs (c.tc : Thread nD τ) ∗ scopedSems0 (c.tc : Thread nD τ) ∗ opIdle (c.tc : Thread nD τ))
      ⊢ (boundary (c.tc : Thread nD τ) : sProp 𝕄) from BIBase.Entails.refl)
    isplitl [Hsc2]; · iexact Hsc2
    isplitl [Hss2]; · iexact Hss2
    iexact Hop
  isplitl [A]
  · iapply (Entails.of_eq (congrArg (fun f => (((c.tc : Thread nD τ).loc main_arg0) ↦{fullShare} f : sProp 𝕄)) (kept0_0 X D K V c))); iexact A
  isplitl [B]
  · iapply (Entails.of_eq (congrArg (fun f => (((c.tc : Thread nD τ).loc main_arg1) ↦{fullShare} f : sProp 𝕄)) (kept0_1 X D K V c))); iexact B
  isplitl [C]
  · iapply (Entails.of_eq (congrArg (fun f => (((c.tc : Thread nD τ).loc main_v1_0) ↦{fullShare} f : sProp 𝕄)) (left0_2 X D K V c))); iexact C
  isplitl [HY]; · iexact HY
  iexact HO

end Cert.KernelIdeal.Own

end
-- ==== Proof.Start.lean ====
/-
  The start of the whole machine for `@main`, a program whose first kernel call already takes part in an exchange: credit
  may reach a device's own semaphores before that device has entered the call. So the counters of those semaphores are
  handed out once for all devices together, before any device runs (`hinit`), and each device's run of `@main` is a
  hypothesis (`hrun`) that gives every scoped counter back at zero with the region boundary.
-/
module

public import proofs.«01_k».proof.Proof.Gen.KernelIdeal.Regions
public import Idealize.ShloMosaic.Lib.Pipeline.RegionArrays
public import Idealize.ShloMosaic.Adequacy
public import Idealize.ShloMosaic.Init

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]
variable {Ix : Type} [DecidableEq Ix] {U : Type} [URA U] {Lvl : Type} [Preorder Lvl]

local notation "𝕄" => MT nD τ sig Ix (Elt F) ℕ U Lvl

/-- What one device has at the start: its region boundary with every scoped counter at zero, its arrays, what it owes, the
    credit owed to it, and its share `G c` of the launch's ghost resources. -/
def started (m : (ℓ : Loc nD τ sig) → Buf (Elt F) ℓ) (ρ : Dev nD → PrngReg) (O₀ : Dev nD → CellTallies nD τ sig Ix)
    (G : Dev nD → sProp 𝕄) (c : Dev nD) : sProp 𝕄 :=
  iprop(boundary (c.tc : Thread nD τ) ∗ unscopedBufs c (fun b => m ((c.tc : Thread nD τ).loc b))
    ∗ owes (c.tc : Thread nD τ) (O₀ c) ∅ ∗ launchCred O₀ c ∗ G c)

/-- The ghost state of both calls' staging cells on one device. -/
def stagingGhost (EP : Emb (URounds (GSem nD τ sig) Unit) 𝕄) (c : Dev nD) : sProp 𝕄 :=
  bigSep Finset.univ fun p : Fin 2 => iprop(cellsGhost cfgs EP p c ∗ toksInit cfgs EP p c)

/-- The levels of the machine's cells, fixed once, out of every device's. -/
theorem levels_fixed (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Elt F) (Name := ℕ) (U := U) (Lvl := Lvl) (τ := τ) (sig := sig) c)
      ⊢ (|==> levAts L lv : sProp 𝕄) := by
  classical
  refine (bigSep_mono fun c _ => lev_assign_cells (c.tc : Thread nD τ) L lv).trans <| (BI.bigSep_bupd _ _).trans <| BI.bupd_mono ?_
  have hnone : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => by
        unfold coreLevAts
        rw [bigSep_congr (Ψ := fun _ : SemLoc sig => (BI.emp : sProp 𝕄)) fun sm _ => by
          rw [hL (((d, p) : Thread nD τ), sm) (Finset.ne_of_mem_erase hp), BI.bigSep_empty], BI.bigSep_emp_const]).trans
      (BI.bigSep_emp_const _), BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv)]
  show (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun p => (coreLevAts ((d, p) : Thread nD τ) L lv : sProp 𝕄))
  rw [hnone, bigSep_sep']
  iintro ⟨-, H⟩
  isplitl [H]; · iexact H
  iempintro

/-- `@main` from memory `m` with every counter at zero. -/
theorem run_of_start (EP : Emb (URounds (GSem nD τ sig) Unit) 𝕄) [EP.LandsIn (upEmb : UEmb _ 𝕄)]
    (𝒱₀ : Variants) (L : GSem nD τ sig → Finset Ix) (lv : GSem nD τ sig → Ix → Lvl) (hL : ∀ g : GSem nD τ sig, g.1.2 ≠ .tc → L g = ∅)
    (m : (ℓ : Loc nD τ sig) → Buf (Elt F) ℓ) (ρ : Dev nD → PrngReg)
    (O₀ : Dev nD → CellTallies nD τ sig Ix) (G : Dev nD → sProp 𝕄) (u₀ : U)
    (hu₀ : (ownU u₀ : sProp 𝕄)
      ⊢ |={Set.univ}=> iprop(BI.own (EP (initOf (Pipeline.cells cfgs cellOf_inj) (Pipeline.launchToks cfgs cellOf_inj))) ∗ bigSep Finset.univ G))
    (T₀ Tₙ : Dev nD → sProp 𝕄)
    (hinit : iprop((bigSep Finset.univ fun c : Dev nD => started m ρ O₀ G c) ∗ levAts L lv) ⊢ |={Set.univ}=> bigSep Finset.univ T₀)
    (hrun : ∀ c, iprop(T₀ c ∗ levAts L lv ∗ stagingGhost EP c)
      ⊢ wp frame (wpE (defs (F := F)) (Variants.lift 𝒱₀) (c.tc : Thread nD τ) none) Set.univ (main (F := F) c)
          fun _ => iprop(Tₙ c ∗ boundary (c.tc : Thread nD τ) ∗ ∃ W, owes (c.tc : Thread nD τ) (0 : CellTallies nD τ sig Ix) W))
    (QY : Dev nD → MemSt nD τ sig (Elt F) → Prop)
    (hfin : ∀ c (s' : Phys nD τ sig (Elt F)), iprop(Tₙ c ∗ SI s') ⊢ |={Set.univ}=> iprop(⌜QY c s'.mem⌝ ∗ SI s')) :
    θ_run defs (onTc (τ := τ) (main (F := F))) ⟨m, fun _ => 0, ρ⟩ (fun r => (∀ c, QY c r.2) ∧ r.2.sem = fun _ => 0) := by
  classical
  let pre : Dev nD → sProp 𝕄 := fun c => iprop(T₀ c ∗ levAts L lv ∗ stagingGhost EP c)
  let fin : Dev nD → sProp 𝕄 := fun c => iprop(Tₙ c ∗ boundary (c.tc : Thread nD τ))
  refine (θ_run _ _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, funext fun g => sems_of_reads (fun c => (hr.1 c).2) hr.2 g (.inr (regions_no_unscoped g.2))⟩)
    (adequate_tpu _ _ _ _
    (reflect_intro_fupd_tc_sems (X := Unit) (Variants.lift 𝒱₀) (owing O₀) 0 (noBookings fun _ => le_rfl) (owing_of_ne O₀) u₀ (fun _ => pre) (fun _ => fin)
      (fun _ => iprop(emp)) Set.univ ?_ (fun _ c => ?_) fun _ => ?_))
  · -- what the devices hold at launch, together
    have hcore (c : Dev nD) :
        coreInit (Ix := Ix) (Name := ℕ) (U := U) (Lvl := Lvl) (owing O₀) 0 (⟨m, fun _ => 0, ρ⟩ : MemSt nD τ sig (Elt F)) (c.tc : Thread nD τ)
          ⊢ iprop(started m ρ O₀ (fun _ => iprop(emp)) c ∗ levels0 c) :=
      (coreInit_boundary_owing O₀ m ρ c).trans (by
        unfold started
        iintro ⟨Hb, Hub, -, HL, Hlv, -, Hcr⟩
        isplitr [Hlv]
        · isplitl [Hb]; · iexact Hb
          isplitl [Hub]; · iexact Hub
          isplitl [HL]; · iexact HL
          isplitl [Hcr]; · iexact Hcr
          iempintro
        · iexact Hlv)
    have hjoin : iprop((bigSep Finset.univ fun c : Dev nD => started m ρ O₀ (fun _ => iprop(emp)) c) ∗ bigSep Finset.univ G)
        ⊢ (bigSep Finset.univ fun c : Dev nD => started m ρ O₀ G c : sProp 𝕄) := by
      rw [← bigSep_sep']
      refine bigSep_mono fun c _ => ?_
      show iprop(started m ρ O₀ (fun _ => iprop(emp)) c ∗ G c) ⊢ started m ρ O₀ G c
      unfold started
      iintro ⟨⟨Hb, Hub, HL, Hcr, -⟩, HG⟩
      isplitl [Hb]; · iexact Hb
      isplitl [Hub]; · iexact Hub
      isplitl [HL]; · iexact HL
      isplitl [Hcr] <;> iassumption
    have hghost : iprop((bigSep Finset.univ fun c : Dev nD => bigSep Finset.univ fun p => cellsGhost cfgs EP p c)
          ∗ (bigSep Finset.univ fun c : Dev nD => bigSep Finset.univ fun p => (toksInit cfgs EP p c : sProp 𝕄)))
        ⊢ bigSep Finset.univ fun c : Dev nD => stagingGhost EP c := by
      rw [← bigSep_sep']
      refine bigSep_mono fun c _ => ?_
      unfold stagingGhost
      rw [bigSep_sep']
      exact BI.Entails.refl _
    have hcores : (bigSep Finset.univ fun c : Dev nD =>
          coreInit (Ix := Ix) (Name := ℕ) (U := U) (Lvl := Lvl) (owing O₀) 0 (⟨m, fun _ => 0, ρ⟩ : MemSt nD τ sig (Elt F)) (c.tc : Thread nD τ))
        ⊢ iprop((bigSep Finset.univ fun c : Dev nD => started m ρ O₀ (fun _ => iprop(emp)) c) ∗ (bigSep Finset.univ fun c : Dev nD => levels0 c)) := by
      rw [← bigSep_sep']
      exact bigSep_mono fun c _ => hcore c
    iintro ⟨Hcores, Hu⟩
    ihave Hc := hcores $$ Hcores
    icases Hc with ⟨Hst, Hlv⟩
    imod (levels_fixed L lv hL) $$ Hlv with #Hla
    imod hu₀ $$ Hu with ⟨HP, HG⟩
    imod (fund_ghost cfgs EP cellOf_inj) $$ HP with ⟨Hg, Ht⟩
    imod hinit $$ [Hst HG] with HT
    · isplitr [Hla]
      · iapply hjoin
        isplitl [Hst] <;> iassumption
      · iexact Hla
    imodintro
    iexists ()
    isplitr []
    · simp only [pre, bigSep_sep']
      isplitl [HT]; · iexact HT
      isplitr; · iapply (BI.bigSep_intro_persistent (S := Finset.univ) fun (c : Dev nD) _ => (BI.Entails.refl (levAts L lv : sProp 𝕄))); iexact Hla
      iapply hghost
      isplitl [Hg] <;> iassumption
    · iempintro
  · -- a device's run, its post regrouped
    refine (hrun c).trans ?_
    refine Idealize.SL.Sem.wp_mono frame _ _ (fun _ => ?_)
    iintro ⟨HT, Hb, HW⟩
    unfold post; simp only [liftTc_tc, fin]
    isplitl [HT Hb]
    · isplitl [HT] <;> iassumption
    · iexact HW
  · -- what a final state shows
    iintro ⟨H, -, Hsc⟩ %s' HSI
    ihave %hsc := (scSems_read_zero m ρ s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.KernelIdeal.Own

end
-- ==== Proof.Deal.lean ====
/-
  The launch: the cells' ghost state, and every right dealt to the device that uses it.
-/
module

public import proofs.«01_k».proof.Proof.Calls
public import proofs.«01_k».proof.Proof.Start

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (X : Dev nD → S4096x3072.Idx → F .bf16) (D : Dev nD → S4096x8192.Idx → F .bf16)

/-! ## The cells and their tokens -/

def ownCells : Finset (GSem nD τ sig) := Finset.univ.map ⟨fun p : Dev nD × CellId => cell p.1 p.2, cell_injective⟩
def ownToks : Finset (GSem nD τ sig × ℕ × Unit) :=
  Finset.univ.map ⟨fun p : Dev nD × CellId => (cell p.1 p.2, 0, ()), fun _ _ h => cell_injective (congrArg Prod.fst h)⟩
def u₀ : UU := (initOf (Pipeline.cells cfgs cellOf_inj) (Pipeline.launchToks cfgs cellOf_inj), initOf ownCells ownToks)

/-- A device's share of it: the state of its own cells, and their tokens. -/
def share (c : Dev nD) : sProp 𝕄 :=
  iprop((bigSep Finset.univ fun k : CellId => roundState ER (rd X D) (cell c k) 0) ∗ (bigSep Finset.univ fun k : CellId => reached ER (cell c k) 0)
    ∗ (bigSep Finset.univ fun k : CellId => idle c k) ∗ (bigSep Finset.univ fun k : CellId => tok c k))

theorem over_cells (Φ : GSem nD τ sig → sProp 𝕄) :
    bigSep ownCells Φ = bigSep Finset.univ fun c : Dev nD => bigSep Finset.univ fun k : CellId => Φ (cell c k) := by
  unfold ownCells; rw [bigSep_map, bigSep_univ_prod]; rfl

theorem fund_own : (BI.own (ER (initOf ownCells ownToks)) : sProp 𝕄) ⊢ |==> bigSep Finset.univ (share X D) := by
  have hT : bigSep ownToks (fun x => (dutyTok ER x.1 x.2.1 x.2.2 : sProp 𝕄)) = bigSep Finset.univ fun c : Dev nD => bigSep Finset.univ fun k : CellId => tok c k := by
    unfold ownToks; rw [bigSep_map, bigSep_univ_prod]; rfl
  iintro H
  imod (Rounds.fund ER (rd X D) ownCells ownToks) $$ H with ⟨Hst, Hr, Hat, Htok⟩
  imodintro
  ihave Hst := (Entails.of_eq (over_cells fun g => roundState ER (rd X D) g 0)) $$ Hst
  ihave Hat := (Entails.of_eq (over_cells fun g => atPos ER g 0 ∅ 0)) $$ Hat
  ihave Hr := (Entails.of_eq (over_cells fun g => reached ER g 0)) $$ Hr
  ihave Htok := (Entails.of_eq hT) $$ Htok
  unfold share; simp only [bigSep_sep']
  isplitl [Hst]; · iexact Hst
  isplitl [Hr]; · iexact Hr
  isplitl [Hat]; · unfold idle; iexact Hat
  iexact Htok

theorem launch_ghost : (ownU u₀ : sProp 𝕄)
    ⊢ |={Set.univ}=> iprop(BI.own (EP (initOf (Pipeline.cells cfgs cellOf_inj) (Pipeline.launchToks cfgs cellOf_inj))) ∗ bigSep Finset.univ (share X D)) := by
  unfold u₀
  iintro H
  ihave H := (ownU_pair _ _) $$ H
  icases H with ⟨HP, HR⟩
  imod (fund_own X D) $$ HR with HR
  imodintro
  isplitl [HP]; · iexact HP
  iexact HR

/-! ## The credits -/

def crd (c : Dev nD) (k : CellId) : sProp 𝕄 := cred (tallyAt (cell c k) () N)

/-- A device's credits for what the others send it. -/
def creds (c : Dev nD) : sProp 𝕄 :=
  bigSep Finset.univ fun b : Fin 8 => iprop((crd c (1, 0, b) ∗ crd c (1, 1, b)) ∗ (crd c (3, 0, b) ∗ crd c (3, 1, b)))

theorem credits (c : Dev nD) : (launchCred (fun d => owe d 0 0) c : sProp 𝕄)
    ⊢ creds c := by
  have e : (fun d : Dev nD => owe d 0 0) = fun d => (∑ b : Fin 8, (dueA d 0 b + dueA d 1 b)) + ∑ b : Fin 8, (dueF d 0 b + dueF d 1 b) := by
    funext d
    unfold owe oweA oweF
    congr 1 <;> exact Finset.sum_congr rfl fun b _ => if_pos (Nat.zero_le _)
  unfold creds
  rw [e, launchCred_add, launchCred_sum, launchCred_sum, ← bigSep_sep']
  refine bigSep_mono fun b _ => ?_
  rw [launchCred_add, launchCred_add]
  have hA (q : Fin 2) : (launchCred (fun d => dueA d q b) c : sProp 𝕄) ⊢ crd c (1, q, b) :=
    launchCred_tallyAt (osem (1, q, b)) ynb ynb ynb_ynb ynb_ynb () N c
  have h0 : (launchCred (fun d => dueF d 0 b) c : sProp 𝕄) ⊢ crd c (3, 0, b) :=
    launchCred_tallyAt (osem (3, 0, b)) rgt lft rgt_lft lft_rgt () N c
  have h1 : (launchCred (fun d => dueF d 1 b) c : sProp 𝕄) ⊢ crd c (3, 1, b) :=
    launchCred_tallyAt (osem (3, 1, b)) lft rgt lft_rgt rgt_lft () N c
  show iprop((launchCred (fun d => dueA d 0 b) c ∗ launchCred (fun d => dueA d 1 b) c) ∗ (launchCred (fun d => dueF d 0 b) c ∗ launchCred (fun d => dueF d 1 b) c)) ⊢ _
  iintro ⟨⟨A, B⟩, C, E⟩
  isplitl [A B]
  · isplitl [A]; · iapply (hA 0); iexact A
    iapply (hA 1); iexact B
  isplitl [C]; · iapply h0; iexact C
  iapply h1; iexact E

/-! ## Every right to its user -/

/-- A resource of each device and band, held by the device a permutation names. -/
theorem redeal (f g : Dev nD → Dev nD) (h1 : ∀ c, g (f c) = c) (h2 : ∀ c, f (g c) = c) (Φ Ψ : Dev nD → Fin 8 → sProp 𝕄) (h : ∀ c b, Φ (f c) b ⊢ Ψ c b) :
    (bigSep Finset.univ fun c : Dev nD => bigSep Finset.univ fun b : Fin 8 => Φ c b) ⊢ bigSep Finset.univ fun c : Dev nD => bigSep Finset.univ fun b : Fin 8 => Ψ c b := by
  rw [bigSep_univ_equiv (⟨f, g, h1, h2⟩ : Dev nD ≃ Dev nD)]
  exact bigSep_mono fun c _ => bigSep_mono fun b _ => h c b

theorem deal (R : (c : Dev nD) → Buf (Elt F) ((c.tc : Thread nD τ).loc main_v1_1)) :
    iprop((bigSep Finset.univ fun c : Dev nD => bigSep Finset.univ fun k : CellId => idle c k)
      ∗ (bigSep Finset.univ fun c : Dev nD => bigSep Finset.univ fun k : CellId => tok c k)
      ∗ (bigSep Finset.univ fun c : Dev nD => creds c)
      ∗ (bigSep Finset.univ fun c : Dev nD => (((c.tc : Thread nD τ).loc main_v1_1) ↦{fullShare} R c)))
    ⊢ (bigSep Finset.univ fun c : Dev nD => dealt c : sProp 𝕄) := by
  unfold dealt bandsR bandR yB fB armed creds
  simp only [by_band, recv_whole, bigSep_sep']
  show iprop(_ ∗ _ ∗ _ ∗ _) ⊢ _
  iintro ⟨⟨⟨I00, I01⟩, ⟨I10, I11⟩, ⟨I20, I21⟩, ⟨I30, I31⟩⟩, ⟨⟨T00, T01⟩, ⟨T10, T11⟩, ⟨T20, T21⟩, ⟨T30, T31⟩⟩, ⟨⟨C10, C11⟩, ⟨C30, C31⟩⟩, ⟨RP, RO, RL, RR⟩⟩
  -- to the other ring
  isplitl [T00 T10 RP I00 T01 T11 RO I01]
  · isplitl [T00 T10 RP I00]
    · isplitl [T00]; · iexact T00
      isplitl [T10]; · iapply (redeal ynb ynb ynb_ynb ynb_ynb (fun c b => tok c (1, 0, b)) (fun c b => tok (ynb c) (1, 0, b)) fun c b => BIBase.Entails.refl); iexact T10
      isplitl [RP]
      · iapply (redeal ynb ynb ynb_ynb ynb_ynb (fun c b => vPts fullShare c (place c) b (R c)) (fun c b => iprop(∃ f, vPts fullShare (ynb c) (place c) b f)) fun c b => by
          rw [place_ynb]; iintro H; iexists R (ynb c); iexact H)
        iexact RP
      iexact I00
    isplitl [T01]; · iexact T01
    isplitl [T11]; · iapply (redeal ynb ynb ynb_ynb ynb_ynb (fun c b => tok c (1, 1, b)) (fun c b => tok (ynb c) (1, 1, b)) fun c b => BIBase.Entails.refl); iexact T11
    isplitl [RO]
    · iapply (redeal ynb ynb ynb_ynb ynb_ynb (fun c b => vPts fullShare c (opp c) b (R c)) (fun c b => iprop(∃ f, vPts fullShare (ynb c) (opp c) b f)) fun c b => by
        rw [opp_ynb]; iintro H; iexists R (ynb c); iexact H)
      iexact RO
    iexact I01
  -- to the neighbours
  isplitl [I10 C10 T20 T30 RL I20 T21 T31 RR I21]
  · isplitl [I10 C10]
    · isplitl [I10]; · unfold idle; iexact I10
      unfold crd; iexact C10
    isplitl [T20 T30 RL I20]
    · isplitl [T20]; · iexact T20
      isplitl [T30]; · iapply (redeal rgt lft lft_rgt rgt_lft (fun c b => tok c (3, 0, b)) (fun c b => tok (nbr c 0) (3, 0, b)) fun c b => BIBase.Entails.refl); iexact T30
      isplitl [RL]
      · iapply (redeal rgt lft lft_rgt rgt_lft (fun c b => vPts fullShare c (place (lft c)) b (R c)) (fun c b => iprop(∃ f, vPts fullShare (nbr c 0) (place c) b f)) fun c b => by
          rw [lft_rgt]; iintro H; iexists R (rgt c); iexact H)
        iexact RL
      iexact I20
    isplitl [T21]; · iexact T21
    isplitl [T31]; · iapply (redeal lft rgt rgt_lft lft_rgt (fun c b => tok c (3, 1, b)) (fun c b => tok (nbr c 1) (3, 1, b)) fun c b => BIBase.Entails.refl); iexact T31
    isplitl [RR]
    · iapply (redeal lft rgt rgt_lft lft_rgt (fun c b => vPts fullShare c (place (rgt c)) b (R c)) (fun c b => iprop(∃ f, vPts fullShare (nbr c 1) (place c) b f)) fun c b => by
        rw [rgt_lft]; iintro H; iexists R (lft c); iexact H)
      iexact RR
    iexact I21
  -- waited for at the end
  unfold idle crd
  isplitl [I11 C11]
  · isplitl [I11]; · iexact I11
    iexact C11
  isplitl [I30 C30]
  · isplitl [I30]; · iexact I30
    iexact C30
  isplitl [I31]; · iexact I31
  iexact C31

/-! ## The launch -/

section Launch

variable (V : Dev nD → S2048x8192.Idx → F .bf16) (R : (c : Dev nD) → Buf (Elt F) ((c.tc : Thread nD τ).loc main_v1_1)) (Z : Dev nD → S2048x8192.Idx → F .f32)

/-- A device's arrays but the receive buffer. -/
def arrs (c : Dev nD) : sProp 𝕄 :=
  iprop((((c.tc : Thread nD τ).loc main_arg0) ↦{fullShare} X c) ∗ (((c.tc : Thread nD τ).loc main_arg1) ↦{fullShare} D c)
    ∗ (((c.tc : Thread nD τ).loc main_v1_0) ↦{fullShare} V c) ∗ (((c.tc : Thread nD τ).loc main_v2) ↦{fullShare} Z c))

/-- What a device runs @main from. -/
def ready (c : Dev nD) : sProp 𝕄 := iprop((∃ K, world X D K) ∗ dealt c ∗ rim c ∗ arrs X D V Z c ∗ owing c 0 0)

theorem boundary_split (c : Dev nD) : (boundary (c.tc : Thread nD τ) : sProp 𝕄) ⊢ iprop(rim c ∗ bigSep Finset.univ fun k : CellId => semVal (cell c k) 0) := by
  have hss := scopedSems0_split cfgs cellOf_inj 0 winFacts0.to₀ own_sems (Ix := Unit) (Val := Elt F) (Name := ℕ) (U := UU) (Lvl := ℕ) c
  unfold boundary rim
  rw [hss]
  show iprop(scopedBufs (c.tc : Thread nD τ) ∗ ((cellsSems0 cfgs 0 c ∗ ownSems0 osem c) ∗ idleSems0 cfgs cellOf_inj 0 own_sems c) ∗ opIdle (c.tc : Thread nD τ)) ⊢ _
  unfold ownSems0
  iintro ⟨A, ⟨⟨B, C⟩, E⟩, G⟩
  isplitr [C]
  · isplitl [A]; · iexact A
    isplitl [B]; · iexact B
    isplitl [E] <;> iassumption
  iexact C

theorem arrays_split (m : (ℓ : Loc nD τ sig) → Buf (Elt F) ℓ) (c : Dev nD) : (unscopedBufs c (fun b => m ((c.tc : Thread nD τ).loc b)) : sProp 𝕄)
    ⊢ iprop(arrs (fun c => m ((c.tc : Thread nD τ).loc main_arg0)) (fun c => m ((c.tc : Thread nD τ).loc main_arg1)) (fun c => m ((c.tc : Thread nD τ).loc main_v1_0))
        (fun c => m ((c.tc : Thread nD τ).loc main_v2)) c ∗ (((c.tc : Thread nD τ).loc main_v1_1) ↦{fullShare} m ((c.tc : Thread nD τ).loc main_v1_1))) := by
  rw [unscopedBufs_split cfgs 0 winFacts0.arr_unscoped winFacts0.arr_inj c (fun b => m ((c.tc : Thread nD τ).loc b)), show (cfgs 0).spec = spec0 from rfl, unscopedRest0_eq]
  have e := bigSep_W0 (fun w : Fin 3 => (((c.tc : Thread nD τ).loc (arrRef spec0 w)) ↦{fullShare} m ((c.tc : Thread nD τ).loc (arrRef spec0 w)) : sProp 𝕄))
  refine BIBase.Entails.trans (BI.sep_mono (Entails.of_eq e) (BI.Entails.refl _)) ?_
  unfold arrs
  show iprop(((((c.tc : Thread nD τ).loc main_arg0) ↦{fullShare} m ((c.tc : Thread nD τ).loc main_arg0)) ∗ (((c.tc : Thread nD τ).loc main_arg1) ↦{fullShare} m ((c.tc : Thread nD τ).loc main_arg1))
      ∗ (((c.tc : Thread nD τ).loc main_v1_0) ↦{fullShare} m ((c.tc : Thread nD τ).loc main_v1_0)))
    ∗ (((c.tc : Thread nD τ).loc main_v1_1) ↦{fullShare} m ((c.tc : Thread nD τ).loc main_v1_1)) ∗ (((c.tc : Thread nD τ).loc main_v2) ↦{fullShare} m ((c.tc : Thread nD τ).loc main_v2))) ⊢ _
  iintro ⟨⟨A, B, C⟩, E, G⟩
  isplitl [A B C G]
  · isplitl [A]; · iexact A
    isplitl [B]; · iexact B
    isplitl [C]; · iexact C
    iexact G
  iexact E

theorem start_split (m : (ℓ : Loc nD τ sig) → Buf (Elt F) ℓ) (ρ : Dev nD → PrngReg) (c : Dev nD) :
    (started m ρ (fun c => owe c 0 0) (share X D) c : sProp 𝕄)
    ⊢ iprop((rim c ∗ arrs (fun c => m ((c.tc : Thread nD τ).loc main_arg0)) (fun c => m ((c.tc : Thread nD τ).loc main_arg1)) (fun c => m ((c.tc : Thread nD τ).loc main_v1_0))
          (fun c => m ((c.tc : Thread nD τ).loc main_v2)) c ∗ owing c 0 0)
        ∗ (bigSep Finset.univ fun k : CellId => iprop(semVal (cell c k) 0 ∗ roundState ER (rd X D) (cell c k) 0))
        ∗ (bigSep Finset.univ fun k : CellId => reached ER (cell c k) 0)
        ∗ (bigSep Finset.univ fun k : CellId => idle c k) ∗ (bigSep Finset.univ fun k : CellId => tok c k)
        ∗ creds c
        ∗ (((c.tc : Thread nD τ).loc main_v1_1) ↦{fullShare} m ((c.tc : Thread nD τ).loc main_v1_1))) := by
  unfold started share
  iintro ⟨Hb, Hu, HO, HC, Hst, Hr, Hi, Ht⟩
  ihave Hb := (boundary_split c) $$ Hb
  icases Hb with ⟨Hb, Hz⟩
  ihave Hu := (arrays_split m c) $$ Hu
  icases Hu with ⟨Ha, HR⟩
  isplitl [Hb Ha HO]
  · isplitl [Hb]; · iexact Hb
    isplitl [Ha]; · iexact Ha
    unfold owing; iexists ∅; iexact HO
  isplitl [Hz Hst]
  · iapply (Entails.of_eq (bigSep_sep' Finset.univ (fun k : CellId => semVal (cell c k) 0) (fun k : CellId => roundState ER (rd X D) (cell c k) 0)).symm)
    isplitl [Hz]; · iexact Hz
    iexact Hst
  isplitl [Hr]; · iexact Hr
  isplitl [Hi]; · iexact Hi
  isplitl [Ht]; · iexact Ht
  isplitl [HC]; · iapply (credits c); iexact HC
  iexact HR

theorem world_alloc : iprop((bigSep Finset.univ fun c : Dev nD => bigSep Finset.univ fun k : CellId => iprop(semVal (cell c k) 0 ∗ roundState ER (rd X D) (cell c k) 0))
      ∗ (bigSep Finset.univ fun c : Dev nD => bigSep Finset.univ fun k : CellId => reached ER (cell c k) 0) ∗ levAts L lv)
    ⊢ (|={Set.univ}=> ∃ K, world X D K : sProp 𝕄) := by
  have hb : (bigSep Finset.univ fun c : Dev nD => bigSep Finset.univ fun k : CellId => iprop(semVal (cell c k) 0 ∗ roundState ER (rd X D) (cell c k) 0))
      ⊢ (bigSep Finset.univ fun p : Dev nD × CellId => body ER (rd X D) (cell p.1 p.2) : sProp 𝕄) := by
    rw [bigSep_univ_prod]
    exact bigSep_mono fun c _ => bigSep_mono fun k _ => body_intro ER (rd X D) (cell c k)
  have hr : (bigSep Finset.univ fun c : Dev nD => bigSep Finset.univ fun k : CellId => reached ER (cell c k) 0)
      ⊢ (bigSep Finset.univ fun p : Dev nD × CellId => reached ER (cell p.1 p.2) 0 : sProp 𝕄) := by
    rw [bigSep_univ_prod]
  iintro ⟨Hb, Hr, HL⟩
  ihave Hb := hb $$ Hb
  ihave Hr := hr $$ Hr
  imod (inv_alloc_family Finset.univ (fun p : Dev nD × CellId => body ER (rd X D) (cell p.1 p.2)) ∅) $$ Hb with ⟨%K, -, HI⟩
  imodintro
  iexists K
  unfold world
  isplitl [HI]; · iexact HI
  isplitl [Hr]; · iexact Hr
  iexact HL

theorem start_ready (m : (ℓ : Loc nD τ sig) → Buf (Elt F) ℓ) (ρ : Dev nD → PrngReg) :
    iprop((bigSep Finset.univ fun c : Dev nD => started m ρ (fun c => owe c 0 0) (share X D) c) ∗ levAts L lv)
      ⊢ (|={Set.univ}=> bigSep Finset.univ fun c : Dev nD => iprop((∃ K, world X D K) ∗ dealt c ∗ rim c
          ∗ arrs (fun c => m ((c.tc : Thread nD τ).loc main_arg0)) (fun c => m ((c.tc : Thread nD τ).loc main_arg1)) (fun c => m ((c.tc : Thread nD τ).loc main_v1_0))
            (fun c => m ((c.tc : Thread nD τ).loc main_v2)) c ∗ owing c 0 0) : sProp 𝕄) := by
  have hs := bigSep_mono (s := Finset.univ) fun (c : Dev nD) _ => start_split X D m ρ c
  simp only [bigSep_sep' Finset.univ (I := Dev nD)] at hs
  replace hs := show BIBase.Entails (PROP := sProp 𝕄) _ _ from hs
  have hw (K) : world X D K ⊢ (bigSep Finset.univ fun c : Dev nD => iprop(∃ K, world X D K) : sProp 𝕄) :=
    bigSep_intro_persistent fun c _ => by iintro H; iexists K; iexact H
  simp only [bigSep_sep' Finset.univ (I := Dev nD)]
  iintro ⟨H, HL⟩
  ihave H := hs $$ H
  icases H with ⟨Hk, Hb, Hr, Hi, Ht, HC, HR⟩
  imod (world_alloc X D) $$ [Hb Hr HL] with ⟨%K, HW⟩
  · isplitl [Hb]; · iexact Hb
    isplitl [Hr]; · iexact Hr
    iexact HL
  imodintro
  isplitl [HW]; · iapply (hw K); iexact HW
  isplitl [Hi Ht HC HR]
  · iapply (deal fun c => m ((c.tc : Thread nD τ).loc main_v1_1))
    isplitl [Hi]; · iexact Hi
    isplitl [Ht]; · iexact Ht
    isplitl [HC]; · iexact HC
    iexact HR
  iexact Hk

end Launch

end Cert.KernelIdeal.Own

end
-- ==== Proof.Run.lean ====
/-
  The kernel's run: what every device's result holds when all have finished.
-/
module

public import proofs.«01_k».proof.Proof.Deal

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (X : Dev nD → S4096x3072.Idx → F .bf16) (D : Dev nD → S4096x8192.Idx → F .bf16)
variable (V : Dev nD → S2048x8192.Idx → F .bf16) (Z : Dev nD → S2048x8192.Idx → F .f32)

/-- What a device ends with: its arguments, and the sum of its own half of the products and everything received. -/
def ended_with (c : Dev nD) : sProp 𝕄 :=
  iprop((((c.tc : Thread nD τ).loc main_arg0) ↦{fullShare} X c) ∗ (((c.tc : Thread nD τ).loc main_arg1) ↦{fullShare} D c)
    ∗ (((c.tc : Thread nD τ).loc main_v2) ↦{fullShare} total (mine X D c) (received X D c)))

theorem main_ops (c : Dev nD) : main (F := F) c = .op (.customCall (entry 0) ()) fun _ => .op (.customCall (entry 1) ()) fun _ => .ret ⟨⟩ :=
  (main_chain c).trans rfl

theorem device_run (c : Dev nD) :
    iprop(((∃ K, world X D K) ∗ dealt c ∗ rim c ∗ arrs X D V Z c ∗ owing c 0 0) ∗ levAts L lv ∗ stagingGhost EP c)
      ⊢ wp frame (wpE (defs (F := F)) (Variants.lift 𝒱₀) (c.tc : Thread nD τ) none) Set.univ (main (F := F) c)
          fun _ => iprop(ended_with X D c ∗ boundary (c.tc : Thread nD τ) ∗ ∃ W, owes (c.tc : Thread nD τ) 0 W) := by
  rw [main_ops]
  unfold stagingGhost arrs ended_with
  rw [bigSep_fin_two]
  show iprop(((∃ K, world X D K) ∗ dealt c ∗ rim c ∗ ((((c.tc : Thread nD τ).loc main_arg0) ↦{fullShare} X c) ∗ (((c.tc : Thread nD τ).loc main_arg1) ↦{fullShare} D c)
    ∗ (((c.tc : Thread nD τ).loc main_v1_0) ↦{fullShare} V c) ∗ (((c.tc : Thread nD τ).loc main_v2) ↦{fullShare} Z c)) ∗ owing c 0 0) ∗ levAts L lv
      ∗ (cellsGhost cfgs EP 0 c ∗ toksInit cfgs EP 0 c) ∗ (cellsGhost cfgs EP 1 c ∗ toksInit cfgs EP 1 c)) ⊢ _
  iintro ⟨⟨⟨%K, HW⟩, Hd, Hb, ⟨A, B, C, E⟩, HO⟩, #HL, ⟨G0, T0⟩, ⟨G1, T1⟩⟩
  iapply (call0 X D K V Z c)
  isplitl [E G1 T1]
  · iintro ⟨Hb, A, B, C, R, HO⟩
    iapply (call1 X D K V Z c)
    isplitl [A B]
    · iintro ⟨Hb, E, HO⟩
      rw [wp_ret]
      imodintro
      isplitl [A B E]
      · isplitl [A]; · iexact A
        isplitl [B]; · iexact B
        iexact E
      isplitl [Hb]; · iexact Hb
      iexact HO
    isplitl [Hb]; · iexact Hb
    isplitl [C]; · iexact C
    isplitl [R]; · iexact R
    isplitl [E]; · iexact E
    isplitl [HO]; · iexact HO
    isplitr; · iexact HL
    isplitl [G1]; · iexact G1
    iexact T1
  isplitl [Hb]; · iexact Hb
  isplitl [HW Hd]
  · isplitl [HW]; · iexact HW
    iexact Hd
  isplitl [A]; · iexact A
  isplitl [B]; · iexact B
  isplitl [C]; · iexact C
  isplitl [HO]; · iexact HO
  isplitr; · iexact HL
  isplitl [G0]; · iexact G0
  iexact T0

theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Val := Elt F) (Name := ℕ) (U := UU) (Lvl := ℕ) {()} (fun _ : Unit => ℓ) (fun _ => f) s'
  rw [bigSep_singleton] at h
  iintro H
  ihave H := h $$ H
  icases H with ⟨%hf, H⟩
  isplitr; · ipureintro; exact hf () (Finset.mem_singleton_self _)
  iexact H

theorem device_end (c : Dev nD) (s' : Phys nD τ sig (Elt F)) : iprop(ended_with X D c ∗ SI s')
    ⊢ (|={Set.univ}=> iprop(⌜s'.mem.mem ((c.tc : Thread nD τ).loc main_v2) = total (mine X D c) (received X D c)
        ∧ s'.mem.mem ((c.tc : Thread nD τ).loc main_arg0) = X c ∧ s'.mem.mem ((c.tc : Thread nD τ).loc main_arg1) = D c⌝ ∗ SI s') : sProp 𝕄) := by
  unfold ended_with
  iintro ⟨⟨A, B, E⟩, HS⟩
  ihave H := (read_one _ _ s') $$ [A HS]
  · isplitl [A]; · iexact A
    iexact HS
  icases H with ⟨%hA, HS⟩
  ihave H := (read_one _ _ s') $$ [B HS]
  · isplitl [B]; · iexact B
    iexact HS
  icases H with ⟨%hB, HS⟩
  ihave H := (read_one _ _ s') $$ [E HS]
  · isplitl [E]; · iexact E
    iexact HS
  icases H with ⟨%hE, HS⟩
  imodintro
  isplitr; · ipureintro; exact ⟨hE, hA, hB⟩
  iexact HS

/-- Every execution of the kernel ends, with every counter back at zero, each device's arguments as they were and its result the sum of its own
    half of its products and what it received. -/
theorem run_main (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_v2)
            = total (mine (fun c => m ((c.tc : Thread nD τ).loc main_arg0)) (fun c => m ((c.tc : Thread nD τ).loc main_arg1)) c)
                (received (fun c => m ((c.tc : Thread nD τ).loc main_arg0)) (fun c => m ((c.tc : Thread nD τ).loc main_arg1)) c)
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ r.2.sem = fun _ => 0) := by
  have hT := start_ready (fun c => m ((c.tc : Thread nD τ).loc main_arg0)) (fun c => m ((c.tc : Thread nD τ).loc main_arg1)) m ρ
  have hG := launch_ghost (fun c => m ((c.tc : Thread nD τ).loc main_arg0)) (fun c => m ((c.tc : Thread nD τ).loc main_arg1))
  have hrun := device_run (fun c => m ((c.tc : Thread nD τ).loc main_arg0)) (fun c => m ((c.tc : Thread nD τ).loc main_arg1))
    (fun c => m ((c.tc : Thread nD τ).loc main_v1_0)) (fun c => m ((c.tc : Thread nD τ).loc main_v2))
  have hend := device_end (fun c => m ((c.tc : Thread nD τ).loc main_arg0)) (fun c => m ((c.tc : Thread nD τ).loc main_arg1))
  exact run_of_start (Ix := Unit) (U := UU) (Lvl := ℕ) EP 𝒱₀ L lv L_of_ne m ρ (fun c => owe c 0 0) _ u₀ hG _ _ hT hrun
    (fun c s => s.mem ((c.tc : Thread nD τ).loc main_v2)
            = total (mine (fun c => m ((c.tc : Thread nD τ).loc main_arg0)) (fun c => m ((c.tc : Thread nD τ).loc main_arg1)) c)
                (received (fun c => m ((c.tc : Thread nD τ).loc main_arg0)) (fun c => m ((c.tc : Thread nD τ).loc main_arg1)) c)
          ∧ s.mem ((c.tc : Thread nD τ).loc main_arg0) = m ((c.tc : Thread nD τ).loc main_arg0)
          ∧ s.mem ((c.tc : Thread nD τ).loc main_arg1) = m ((c.tc : Thread nD τ).loc main_arg1)) hend

end Cert.KernelIdeal.Own

end
-- ==== Proof.Dots.lean ====
/-
  What the kernel's products are over the extended reals: the accumulator of a band after its eight blocks is the whole
  contraction, so the rows that stay and the rows received are rows of the devices' products.
-/
module

public import proofs.«01_k».proof.Proof.Vals
public import Idealize.ShloMosaic.Lib.Pointwise
public import Idealize.ShloMosaic.Lib.Pipeline.ValueKit.Acc

@[expose] public section

noncomputable section

namespace Cert.KernelIdeal.Own

open Idealize.ShloMosaic Idealize.ShloMosaic.TcCoe
open Cert.KernelIdeal Cert.KernelIdeal.Gen

/-- One term of a device's product at row `r` and column `l`, by the place in the contraction; the entry of the product. -/
def term (x : S4096x3072.Idx → EReal) (d : S4096x8192.Idx → EReal) (r l t : ℕ) : EReal :=
  x (ix2 (Fin.ofNat 4096 t) (Fin.ofNat 3072 r)) * d (ix2 (Fin.ofNat 4096 t) (Fin.ofNat 8192 l))
def entry (x : S4096x3072.Idx → EReal) (d : S4096x8192.Idx → EReal) (r l : ℕ) : EReal :=
  ∑ t ∈ Finset.range 4096, term x d r l t

theorem pay_step (v : Vec Ideal S3072x1024 .f32) (x : Vec Ideal S512x3072 .bf16) (d : Vec Ideal S512x1024 .bf16) (i : S3072x1024.Idx) :
    k0_pay1 v x d i = v i + ∑ k : Fin 512, x (ix2 k (i 0)) * d (ix2 k (i 1)) := by
  pointwise [k0_pay1]
theorem pay_zero (i : S3072x1024.Idx) : (k0_pay6 (F := Ideal)) i = 0 := by
  pointwise [k0_pay6]

variable (X : Dev nD → S4096x3072.Idx → Ideal .bf16) (D : Dev nD → S4096x8192.Idx → Ideal .bf16)

theorem acc_apply (c : Dev nD) (j : Fin 8) (i : S3072x1024.Idx) : ∀ n : ℕ,
    acc X D c j n i = ∑ p ∈ Finset.range n, ∑ k ∈ Finset.range 512, term (X c) (D c) (i 0).val (1024 * j.val + (i 1).val) (p * 512 + k)
  | 0 => pay_zero i
  | n + 1 => by
    have h0 : (i 0).val < 3072 := (i 0).isLt
    have h1 : (i 1).val < 1024 := (i 1).isLt
    rw [Finset.sum_range_succ, ← acc_apply c j i n]
    show k0_pay1 _ _ _ i = _
    rw [pay_step, ← Fin.sum_univ_eq_sum_range (fun k => term (X c) (D c) (i 0).val (1024 * j.val + (i 1).val) (n * 512 + k))]
    refine congrArg (acc X D c j n i + ·) (Finset.sum_congr rfl fun k _ => ?_)
    have hk : k.val < 512 := k.isLt
    have hx : (xR (Fin.ofNat 8 n)).emb (ix2 k (i 0)) = ix2 (Fin.ofNat 4096 (n * 512 + k.val)) (Fin.ofNat 3072 (i 0).val) := by
      funext a
      match a with
      | 0 => exact Fin.ext (show 512 * (n % 8) + 1 * k.val = (n * 512 + k.val) % 4096 by omega)
      | 1 => exact Fin.ext (show 0 + 1 * (i 0).val = (i 0).val % 3072 by omega)
    have hd : (dR (Fin.ofNat 8 n) j).emb (ix2 k (i 1))
        = ix2 (Fin.ofNat 4096 (n * 512 + k.val)) (Fin.ofNat 8192 (1024 * j.val + (i 1).val)) := by
      have hj : j.val < 8 := j.isLt
      funext a
      match a with
      | 0 => exact Fin.ext (show 512 * (n % 8) + 1 * k.val = (n * 512 + k.val) % 4096 by omega)
      | 1 => exact Fin.ext (show 1024 * j.val + 1 * (i 1).val = (1024 * j.val + (i 1).val) % 8192 by omega)
    show X c ((xR (Fin.ofNat 8 n)).emb (ix2 k (i 0))) * D c ((dR (Fin.ofNat 8 n) j).emb (ix2 k (i 1))) = _
    rw [hx, hd]; rfl

/-- The whole contraction. -/
theorem acc_eq (c : Dev nD) (j : Fin 8) (i : S3072x1024.Idx) :
    acc X D c j 8 i = entry (X c) (D c) (i 0).val (1024 * j.val + (i 1).val) := by
  rw [acc_apply X D c j i 8]
  exact Finset.sum_range_range_mul_add 8 512 _

theorem mine_eq (c : Dev nD) (i : S2048x8192.Idx) : mine X D c i = entry (X c) (D c) (1024 + (i 0).val) (i 1).val := by
  have h1 : (i 1).val < 8192 := (i 1).isLt
  show acc X D c (bandOf i) 8 (restR.emb (inBand i)) = _
  rw [acc_eq]
  have e0 : ((restR.emb (inBand i)) 0).val = 1024 + (i 0).val := by show 1024 + 1 * (i 0).val = _; omega
  have e1 : 1024 * (bandOf i).val + ((restR.emb (inBand i)) 1).val = (i 1).val := by
    show 1024 * ((i 1).val / 1024) + (0 + 1 * ((i 1).val % 1024)) = _; omega
  rw [e0, e1]

theorem received_eq (c : Dev nD) (i : S2048x8192.Idx) :
    received X D c i = entry (X (srcOf c (rowOf i))) (D (srcOf c (rowOf i))) (512 * (qOf c (rowOf i)).val + (i 0).val % 512) (i 1).val := by
  have h1 : (i 1).val < 8192 := (i 1).isLt
  show acc X D (srcOf c (rowOf i)) (bandOf i) 8 ((qR ⟨(qOf c (rowOf i)).val, by omega⟩).emb (inBlk i)) = _
  rw [acc_eq]
  have e0 : (((qR ⟨(qOf c (rowOf i)).val, by omega⟩).emb (inBlk i)) 0).val = 512 * (qOf c (rowOf i)).val + (i 0).val % 512 := by
    show 512 * (qOf c (rowOf i)).val + 1 * ((i 0).val % 512) = _; omega
  have e1 : 1024 * (bandOf i).val + (((qR ⟨(qOf c (rowOf i)).val, by omega⟩).emb (inBlk i)) 1).val = (i 1).val := by
    show 1024 * ((i 1).val / 1024) + (0 + 1 * ((i 1).val % 1024)) = _; omega
  rw [e0, e1]

end Cert.KernelIdeal.Own

end
-- ==== Proof.Match.lean ====
/-
  The reference's result, read at an index: the rows that a device multiplied for itself plus the rows that the devices of
  the other half multiplied for it; and that each device of the kernel ends with its block of it.
-/
module

public import proofs.«01_k».proof.Proof.Dots
public import proofs.«01_k».proof.Proof.Region1
public import proofs.«01_k».proof.Proof.Gen.ReferenceIdeal
public import proofs.«01_k».proof.Proof.Gen.ReferenceIdeal.Run
public import Idealize.ShloMosaic.Lib.Layout
public import Idealize.ShloMosaic.Lib.Pipeline.Value

@[expose] public section

noncomputable section

namespace Cert.Match

open Idealize.ShloMosaic Idealize.ShloMosaic.TcCoe
open Cert.ReferenceIdeal Cert.ReferenceIdeal.Gen
open Cert.KernelIdeal.Own (entry term srcOf qOf rowOf half place devAt)

/-! ## The reference's parts -/

theorem sl_x (d : Fin 8) : S32768x3072.Slices ![4096 * d.val, 0] S4096x3072 := by revert d; decide +kernel
theorem sl_d (d : Fin 8) : S8192x8192.Slices ![4096 * ((d.val / 2) % 2), 0] S4096x8192 := by revert d; decide +kernel
theorem sl_q (q : Fin 2) : S3072x8192.Slices ![512 * q.val, 0] S512x8192 := by revert q; decide +kernel

variable (x : FVec Ideal S32768x3072 .bf16) (dy : FVec Ideal S8192x8192 .bf16)

/-- The product of device `d`. -/
def prod (d : Fin 8) : FVec Ideal S3072x8192 .f32 :=
  Host.dotGeneral dot_S4096x3072_S4096x8192_S3072x8192_0_0_1_1_n_n none
    (extractStridedSlice S4096x3072 ![4096 * d.val, 0] (extf .f32 x bitsLt_bf16_f32) (sl_x d))
    (extractStridedSlice S4096x8192 ![4096 * ((d.val / 2) % 2), 0] (extf .f32 dy bitsLt_bf16_f32) (sl_d d))
/-- The rows of it that the device keeps; the quarter that place `n % 4` of device `n / 4` receives. -/
def kept (d : Fin 8) : FVec Ideal S2048x8192 .f32 := extractStridedSlice S2048x8192 ![1024, 0] (prod x dy d) slices_S3072x8192_S2048x8192_1024_0
def devOf (n : Fin 32) : Fin 8 := ⟨n.val / 4, by omega⟩
def plcOf (n : Fin 32) : Fin 4 := ⟨n.val % 4, by omega⟩
def sent (d : Fin 8) (q : Fin 2) : FVec Ideal S512x8192 .f32 := extractStridedSlice S512x8192 ![512 * q.val, 0] (prod x dy d) (sl_q q)
def gets (n : Fin 32) : FVec Ideal S512x8192 .f32 := sent x dy (srcOf (devOf n) (plcOf n)) (qOf (devOf n) (plcOf n))

def lowHalf (n : Fin 16) : Fin 32 := ⟨n.val, by omega⟩
def highHalf (n : Fin 16) : Fin 32 := ⟨16 + n.val, by omega⟩

abbrev cat8 : FVec Ideal S16384x8192 .f32 := concatenate S16384x8192 0
  (List.ofFn fun d : Fin 8 => (⟨S2048x8192, kept x dy d⟩ : (s : Shape) × (s.Idx → EReal)))
  concatenates_S2048x8192_S2048x8192_S2048x8192_S2048x8192_S2048x8192_S2048x8192_S2048x8192_S2048x8192_S16384x8192_d0
abbrev cat16 (e : Fin 16 → Fin 32) : FVec Ideal S8192x8192 .f32 := concatenate S8192x8192 0
  (List.ofFn fun n : Fin 16 => (⟨S512x8192, gets x dy (e n)⟩ : (s : Shape) × (s.Idx → EReal)))
  concatenates_S512x8192_S512x8192_S512x8192_S512x8192_S512x8192_S512x8192_S512x8192_S512x8192_S512x8192_S512x8192_S512x8192_S512x8192_S512x8192_S512x8192_S512x8192_S512x8192_S8192x8192_d0

def refOut : FVec Ideal S16384x8192 .f32 :=
  addf (cat8 x dy) (concatenate S16384x8192 0 [⟨S8192x8192, cat16 x dy lowHalf⟩, ⟨S8192x8192, cat16 x dy highHalf⟩]
    concatenates_S8192x8192_S8192x8192_S16384x8192_d0)

/-- The reference's value is made of these parts. -/
theorem ref_eq (m : (ℓ : Loc nD τ sig) → Buf (Elt Ideal) ℓ) (c : Dev nD) :
    Cert.ReferenceIdeal.Value.res_main_v48 m c = refOut (m (c.tc.loc main_arg0)) (m (c.tc.loc main_arg1)) := rfl

/-! ## The parts at an index -/

theorem dot_apply (A : FVec Ideal S4096x3072 .f32) (B : FVec Ideal S4096x8192 .f32) (i : S3072x8192.Idx) :
    Host.dotGeneral (F := Ideal) dot_S4096x3072_S4096x8192_S3072x8192_0_0_1_1_n_n none A B i
      = ∑ k : Fin 4096, A (ix2 k (i 0)) * B (ix2 k (i 1)) := by
  pointwise []

/-- What a device holds of the two arguments. -/
def xBlk (c : Fin 8) : S4096x3072.Idx → EReal := Layout.block ⟨2, ![4096, 3072]⟩ ⟨2, ![32768, 3072]⟩ 0 8 c x
def dBlk (c : Fin 8) : S4096x8192.Idx → EReal :=
  Layout.blockN ⟨2, ![4096, 8192]⟩ ⟨2, ![8192, 8192]⟩ (Layout.meshBlock [2, 2, 2] ![[1], []] c) dy

theorem meshRow (c : Fin 8) : Layout.meshLin [2, 2, 2] c.val [1] = (c.val / 2) % 2 := by revert c; decide

theorem prod_eq (d : Fin 8) (i : S3072x8192.Idx) : prod x dy d i = entry (xBlk x d) (dBlk dy d) (i 0).val (i 1).val := by
  have h0 : (i 0).val < 3072 := (i 0).isLt
  have h1 : (i 1).val < 8192 := (i 1).isLt
  unfold prod entry
  rw [dot_apply, ← Fin.sum_univ_eq_sum_range (fun t => term (xBlk x d) (dBlk dy d) (i 0).val (i 1).val t)]
  refine Finset.sum_congr rfl fun k _ => ?_
  have hk : k.val < 4096 := k.isLt
  have hx : extractStridedSlice S4096x3072 ![4096 * d.val, 0] (extf (F := Ideal) .f32 x bitsLt_bf16_f32) (sl_x d) (ix2 k (i 0))
      = xBlk x d (ix2 (Fin.ofNat 4096 k.val) (Fin.ofNat 3072 (i 0).val)) := by
    refine congrArg x (funext fun a => ?_)
    match a with
    | 0 => exact Fin.ext (show 4096 * d.val + k.val = d.val * 4096 + k.val % 4096 by omega)
    | 1 => exact Fin.ext (show 0 + (i 0).val = (i 0).val % 3072 by omega)
  have hd : extractStridedSlice S4096x8192 ![4096 * ((d.val / 2) % 2), 0] (extf (F := Ideal) .f32 dy bitsLt_bf16_f32) (sl_d d) (ix2 k (i 1))
      = dBlk dy d (ix2 (Fin.ofNat 4096 k.val) (Fin.ofNat 8192 (i 1).val)) := by
    refine congrArg dy (funext fun a => ?_)
    match a with
    | 0 => exact Fin.ext (show 4096 * ((d.val / 2) % 2) + k.val = Layout.meshLin [2, 2, 2] d.val [1] * 4096 + k.val % 4096 by
        rw [meshRow]; omega)
    | 1 => exact Fin.ext (show 0 + (i 1).val = 0 * 8192 + (i 1).val % 8192 by omega)
  rw [hx, hd]; rfl

theorem kept_eq (d : Fin 8) (i : S2048x8192.Idx) : kept x dy d i = entry (xBlk x d) (dBlk dy d) (1024 + (i 0).val) (i 1).val := by
  show prod x dy d _ = _
  rw [prod_eq]
  exact congrArg (entry _ _ _) (Nat.zero_add _)

theorem sent_eq (d : Fin 8) (q : Fin 2) (i : S512x8192.Idx) :
    sent x dy d q i = entry (xBlk x d) (dBlk dy d) (512 * q.val + (i 0).val) (i 1).val := by
  show prod x dy d _ = _
  rw [prod_eq]
  exact congrArg (entry _ _ _) (Nat.zero_add _)

/-! ## The result at an index -/

/-- Device `c`'s block of the result. -/
abbrev blk (c : Fin 8) (v : S16384x8192.Idx → EReal) : S2048x8192.Idx → EReal :=
  Layout.block ⟨2, ![2048, 8192]⟩ ⟨2, ![16384, 8192]⟩ 0 8 c v

/-- The place among the 32 quarters of row block `s` of device `c`, and the row within it. -/
def qtr (i : S2048x8192.Idx) : S512x8192.Idx := fun | 0 => ⟨(i 0).val % 512, Nat.mod_lt _ (by decide)⟩ | 1 => i 1

theorem cat16_apply (e : Fin 16 → Fin 32) (j : S8192x8192.Idx) (n : Fin 16) (k : S512x8192.Idx) (hn : (j 0).val / 512 = n.val)
    (h0 : (k 0).val = (j 0).val % 512) (h1 : (k 1).val = (j 1).val) : cat16 x dy e j = gets x dy (e n) k :=
  concatenate_ofFn_apply (s₁ := S512x8192) (t := S8192x8192) 0 (fun n => gets x dy (e n)) _ rfl 512 rfl j n hn k h0
    (fun b hb => by match b with | 0 => exact absurd rfl hb | 1 => exact h1)
theorem low_apply (A B : S8192x8192.Idx → EReal) (j : S16384x8192.Idx) (k : S8192x8192.Idx)
    (h0 : (k 0).val = (j 0).val) (h1 : (k 1).val = (j 1).val) :
    concatenate S16384x8192 0 [⟨S8192x8192, A⟩, ⟨S8192x8192, B⟩] concatenates_S8192x8192_S8192x8192_S16384x8192_d0 j = A k :=
  concatenate_pair_apply_left (t := S16384x8192) (s₁ := S8192x8192) (s₂ := S8192x8192) 0 A B _ j rfl k
    (fun b => by match b with | 0 => exact h0 | 1 => exact h1)
theorem high_apply (A B : S8192x8192.Idx → EReal) (j : S16384x8192.Idx) (k : S8192x8192.Idx)
    (h0 : (k 0).val + 8192 = (j 0).val) (h1 : (k 1).val = (j 1).val) :
    concatenate S16384x8192 0 [⟨S8192x8192, A⟩, ⟨S8192x8192, B⟩] concatenates_S8192x8192_S8192x8192_S16384x8192_d0 j = B k :=
  concatenate_pair_apply_right (t := S16384x8192) (s₁ := S8192x8192) (s₂ := S8192x8192) 0 A B _ j rfl rfl k
    (fun b hb => by match b with | 0 => exact absurd rfl hb | 1 => exact h1) h0

theorem quarters_eq (c : Fin 8) (i : S2048x8192.Idx) :
    blk c
        (concatenate S16384x8192 0 [⟨S8192x8192, cat16 x dy lowHalf⟩, ⟨S8192x8192, cat16 x dy highHalf⟩]
          concatenates_S8192x8192_S8192x8192_S16384x8192_d0) i
      = sent x dy (srcOf c (rowOf i)) (qOf c (rowOf i)) (qtr i) := by
  have h0 : (i 0).val < 2048 := (i 0).isLt
  have h1 : (i 1).val < 8192 := (i 1).isLt
  have hc : c.val < 8 := c.isLt
  have hget : ∀ n : Fin 32, n.val = 4 * c.val + (i 0).val / 512 →
      gets x dy n (qtr i) = sent x dy (srcOf c (rowOf i)) (qOf c (rowOf i)) (qtr i) := fun n hn => by
    have e1 : devOf n = c := Fin.ext (show n.val / 4 = c.val by omega)
    have e2 : plcOf n = rowOf i := Fin.ext (show n.val % 4 = (i 0).val / 512 by omega)
    unfold gets; rw [e1, e2]
  unfold blk
  rw [Layout.block_apply]
  have j0 : (((by decide : Layout.Tiles ⟨2, ![2048, 8192]⟩ ⟨2, ![16384, 8192]⟩ 0 8).idx c i) 0).val = c.val * 2048 + (i 0).val := rfl
  by_cases hlow : c.val < 4
  · have hr : c.val * 2048 + (i 0).val < 8192 := by omega
    have hq : (c.val * 2048 + (i 0).val) / 512 = 4 * c.val + (i 0).val / 512 := by omega
    have hm : (i 0).val % 512 = (c.val * 2048 + (i 0).val) % 512 := by omega
    have hn : 4 * c.val + (i 0).val / 512 < 16 := by omega
    rw [low_apply _ _ _ (ix2 ⟨c.val * 2048 + (i 0).val, hr⟩ (i 1)) j0.symm rfl,
      cat16_apply x dy lowHalf (ix2 ⟨c.val * 2048 + (i 0).val, hr⟩ (i 1)) ⟨4 * c.val + (i 0).val / 512, hn⟩ (qtr i) hq hm rfl]
    exact hget _ rfl
  · obtain ⟨r, hr, hs⟩ : ∃ r, r < 8192 ∧ r + 8192 = c.val * 2048 + (i 0).val := ⟨c.val * 2048 + (i 0).val - 8192, by omega, by omega⟩
    obtain ⟨n, hn, hv⟩ : ∃ n, n < 16 ∧ 16 + n = 4 * c.val + (i 0).val / 512 := ⟨4 * c.val + (i 0).val / 512 - 16, by omega, by omega⟩
    have hq : r / 512 = n := by omega
    have hm : (i 0).val % 512 = r % 512 := by omega
    rw [high_apply _ _ _ (ix2 ⟨r, hr⟩ (i 1)) (hs.trans j0.symm) rfl,
      cat16_apply x dy highHalf (ix2 ⟨r, hr⟩ (i 1)) ⟨n, hn⟩ (qtr i) hq hm rfl]
    exact hget _ hv

theorem kept_block (c : Fin 8) :
    blk c (cat8 x dy) = kept x dy c :=
  Layout.block_concatenate_ofFn (s₁ := S2048x8192) (t := S16384x8192) 0 (kept x dy) _ _ c

/-- Each device ends with its block of the reference's result. -/
theorem total_eq (c : Fin 8) :
    Cert.KernelIdeal.Own.total (F := Ideal) (Cert.KernelIdeal.Own.mine (F := Ideal) (xBlk x) (dBlk dy) c)
        (Cert.KernelIdeal.Own.received (F := Ideal) (xBlk x) (dBlk dy) c)
      = Layout.block ⟨2, ![2048, 8192]⟩ ⟨2, ![16384, 8192]⟩ 0 8 c (refOut x dy) := by
  funext i
  show (Cert.KernelIdeal.Own.mine (F := Ideal) (xBlk x) (dBlk dy) c i : EReal) + Cert.KernelIdeal.Own.received (F := Ideal) (xBlk x) (dBlk dy) c i
    = blk c (cat8 x dy) i
      + blk c
          (concatenate S16384x8192 0 [⟨S8192x8192, cat16 x dy lowHalf⟩, ⟨S8192x8192, cat16 x dy highHalf⟩]
            concatenates_S8192x8192_S8192x8192_S16384x8192_d0) i
  rw [kept_block, quarters_eq, kept_eq, sent_eq, Cert.KernelIdeal.Own.mine_eq, Cert.KernelIdeal.Own.received_eq]
  rfl

end Cert.Match

end
-- ==== Proof.Table.lean ====
/-
  The columns that a device gathers: each device reckons from its place in the mesh which six of the eight blocks of
  columns of its part of `x` it takes, and this module says which these are.
-/
module

public import proofs.«01_k».proof.Proof.Gen.GatherIdeal.Regions
public import Idealize.ShloMosaic.Lib.StableHlo.RunClose

@[expose] public section

noncomputable section

namespace Cert.GatherIdeal.Own

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.GatherIdeal Cert.GatherIdeal.Gen

variable {F : FTy → Type} [FloatOps F]

variable (m : (ℓ : Loc nD τ sig) → Buf (Elt F) ℓ)

/-- The place of device `c` in its ring. -/
def ringNo (c : Dev nD) : BitVec 32 := ![0, 1, 0, 1, 3, 2, 3, 2] c
/-- The half of the columns that device `c` keeps. -/
def halfNo (c : Dev nD) : BitVec 32 := ![0, 0, 1, 1, 0, 0, 1, 1] c
/-- The other half. -/
def otherNo (c : Dev nD) : BitVec 32 := ![1, 1, 0, 0, 1, 1, 0, 0] c
/-- The place two further round the ring. -/
def oppoNo (c : Dev nD) : BitVec 32 := ![2, 3, 2, 3, 1, 0, 1, 0] c

/-- The three coordinates of device `c`, as the program reckons them. -/
def wordX (c : Dev nD) : BitVec 32 := IntOp.remui .host (IntOp.divui .host (Dev.word c) 4#32) 2#32
def wordY (c : Dev nD) : BitVec 32 := IntOp.remui .host (IntOp.divui .host (Dev.word c) 2#32) 2#32
def wordZ (c : Dev nD) : BitVec 32 := IntOp.remui .host (IntOp.divui .host (Dev.word c) 1#32) 2#32

theorem wordY_half : ∀ c : Dev nD, wordY c = halfNo c := by decide
theorem wordY_other : ∀ c : Dev nD, IntOp.subi 1#32 (wordY c) = otherNo c := by decide
theorem word_ring : ∀ c : Dev nD,
    IntOp.addi (IntOp.muli 2#32 (wordX c)) (IntOp.xori (wordZ c) (wordX c)) = ringNo c := by decide
theorem word_ring_two : ∀ c : Dev nD,
    IntOp.addi (IntOp.addi (IntOp.muli 2#32 (wordX c)) (IntOp.xori (wordZ c) (wordX c))) 2#32 = ringNo c + 2#32 := by
  decide

theorem V1_main_v8 (c : Dev nD) : V1 m c main_v8 = fun _ => halfNo c := by
  after_results_simp
  funext i
  exact wordY_half c

theorem V1_main_v13 (c : Dev nD) : V1 m c main_v13 = fun _ => otherNo c := by
  after_results_simp
  funext i
  exact wordY_other c

theorem V1_main_v16 (c : Dev nD) : V1 m c main_v16 = fun _ => ringNo c := by
  after_results_simp
  funext i
  exact word_ring c

theorem V1_main_v17 (c : Dev nD) : V1 m c main_v17 = fun _ => ringNo c + 2#32 := by
  after_results_simp
  funext i
  exact word_ring_two c

theorem V1_main_c_8 (c : Dev nD) : V1 m c main_c_8 = fun _ => 4#32 := by
  after_results_simp
  rfl

/-- The remainder by four, as the program reckons it: with the sign of the divisor. -/
def remFour (w : BitVec 32) : BitVec 32 :=
  Scalar.select
    (IntOp.andi
      (IntOp.cmpi .ne
        (IntOp.cmpi .slt (IntOp.remsi .host w (Scalar.select (IntOp.cmpi .eq 4#32 0#32) 1#32 4#32)) 0#32)
        (IntOp.cmpi .slt (Scalar.select (IntOp.cmpi .eq 4#32 0#32) 1#32 4#32) 0#32))
      (IntOp.cmpi .ne (IntOp.remsi .host w (Scalar.select (IntOp.cmpi .eq 4#32 0#32) 1#32 4#32)) 0#32))
    (IntOp.addi (IntOp.remsi .host w (Scalar.select (IntOp.cmpi .eq 4#32 0#32) 1#32 4#32))
      (Scalar.select (IntOp.cmpi .eq 4#32 0#32) 1#32 4#32))
    (IntOp.remsi .host w (Scalar.select (IntOp.cmpi .eq 4#32 0#32) 1#32 4#32))

theorem remFour_ring : ∀ c : Dev nD, remFour (ringNo c + 2#32) = oppoNo c := by decide

theorem V2_main_v18 (c : Dev nD) : V2 m c main_v18 = fun _ => oppoNo c := by
  have h1 := V1_main_v17 m c
  have h2 := V1_main_c_8 m c
  unfold V2
  revert h1 h2
  generalize V1 m c = V
  intro h1 h2
  after_results_simp
  simp -implicitDefEqProofs only [h1, h2, TRef.toBuf, TRef.ofBuf, cast_cast, cast_eq]
  funext i
  exact remFour_ring c

theorem V16_of_V2 (c : Dev nD) (r : Ref sig .tc) (h : r ∈ [main_v8, main_v13, main_v16, main_v18]) :
    V16 m c r = V2 m c r := by
  simp only [List.mem_cons, List.not_mem_nil, or_false] at h
  rw [V16_of m c r (by rcases h with h | h | h | h <;> subst h <;> decide),
    V15_of m c r (by rcases h with h | h | h | h <;> subst h <;> decide),
    V14_of m c r (by rcases h with h | h | h | h <;> subst h <;> decide),
    V13_of m c r (by rcases h with h | h | h | h <;> subst h <;> decide),
    V12_of m c r (by rcases h with h | h | h | h <;> subst h <;> decide),
    V11_of m c r (by rcases h with h | h | h | h <;> subst h <;> decide),
    V10_of m c r (by rcases h with h | h | h | h <;> subst h <;> decide),
    V9_of m c r (by rcases h with h | h | h | h <;> subst h <;> decide),
    V8_of m c r (by rcases h with h | h | h | h <;> subst h <;> decide),
    V7_of m c r (by rcases h with h | h | h | h <;> subst h <;> decide),
    V6_of m c r (by rcases h with h | h | h | h <;> subst h <;> decide),
    V5_of m c r (by rcases h with h | h | h | h <;> subst h <;> decide),
    V4_of m c r (by rcases h with h | h | h | h <;> subst h <;> decide),
    V3_of m c r (by rcases h with h | h | h | h <;> subst h <;> decide)]

/-- The number of the block that device `c` takes as its `j`-th. -/
def colNo (c : Dev nD) (j : Fin 6) : Fin 8 :=
  ![![4, 6, 0, 1, 2, 3], ![5, 7, 0, 1, 2, 3], ![0, 2, 4, 5, 6, 7], ![1, 3, 4, 5, 6, 7],
    ![7, 5, 0, 1, 2, 3], ![6, 4, 0, 1, 2, 3], ![3, 1, 4, 5, 6, 7], ![2, 0, 4, 5, 6, 7]] c j

/-- The same as a word. -/
def colWord (c : Dev nD) (j : Fin 6) : BitVec 32 := BitVec.ofNat 32 (colNo c j).val

/-- The table of these numbers. -/
def table (c : Dev nD) : S6.Idx → Elt F .i32 := fun i => colWord c (i 0)

/-- The six entries, each as an array of one entry, before they are put together. -/
theorem V17_parts (V : Valuation τ sig (Elt F)) (c : Dev nD)
    (h1 : V main_v8 = fun _ => halfNo c) (h2 : V main_v13 = fun _ => otherNo c)
    (h3 : V main_v16 = fun _ => ringNo c) (h4 : V main_v18 = fun _ => oppoNo c) :
    StableHlo.after (hostOps0_16.take 28) V main_v45 = (fun _ => colWord c 0)
      ∧ StableHlo.after (hostOps0_16.take 28) V main_v46 = (fun _ => colWord c 1)
      ∧ StableHlo.after (hostOps0_16.take 28) V main_v47 = (fun _ => colWord c 2)
      ∧ StableHlo.after (hostOps0_16.take 28) V main_v48 = (fun _ => colWord c 3)
      ∧ StableHlo.after (hostOps0_16.take 28) V main_v49 = (fun _ => colWord c 4)
      ∧ StableHlo.after (hostOps0_16.take 28) V main_v50 = (fun _ => colWord c 5) := by
  simp only [hostOps0_16, List.take_succ_cons, List.take_zero]
  refine ⟨?_, ?_, ?_, ?_, ?_, ?_⟩ <;> after_results_simp <;> (try rw [h1]) <;> (try rw [h2]) <;> (try rw [h3]) <;>
    (try rw [h4]) <;> funext i <;> fin_cases c <;> rfl

theorem V17_table (c : Dev nD) : V17 m c main_v51 = table c := by
  have h1 := (V16_of_V2 m c main_v8 (by simp)).trans ((V2_of m c main_v8 (by decide)).trans (V1_main_v8 m c))
  have h2 := (V16_of_V2 m c main_v13 (by simp)).trans ((V2_of m c main_v13 (by decide)).trans (V1_main_v13 m c))
  have h3 := (V16_of_V2 m c main_v16 (by simp)).trans ((V2_of m c main_v16 (by decide)).trans (V1_main_v16 m c))
  have h4 := (V16_of_V2 m c main_v18 (by simp)).trans (V2_main_v18 m c)
  obtain ⟨p0, p1, p2, p3, p4, p5⟩ := V17_parts (V16 m c) c h1 h2 h3 h4
  have e : StableHlo.after hostOps0_16 (V16 m c) main_v51 = concatenate S6 0 [
      ⟨S1, (StableHlo.after (hostOps0_16.take 28) (V16 m c) main_v45 : (⟨S1, .i32⟩ : BufTy).Contents (Elt F))⟩,
      ⟨S1, (StableHlo.after (hostOps0_16.take 28) (V16 m c) main_v46 : (⟨S1, .i32⟩ : BufTy).Contents (Elt F))⟩,
      ⟨S1, (StableHlo.after (hostOps0_16.take 28) (V16 m c) main_v47 : (⟨S1, .i32⟩ : BufTy).Contents (Elt F))⟩,
      ⟨S1, (StableHlo.after (hostOps0_16.take 28) (V16 m c) main_v48 : (⟨S1, .i32⟩ : BufTy).Contents (Elt F))⟩,
      ⟨S1, (StableHlo.after (hostOps0_16.take 28) (V16 m c) main_v49 : (⟨S1, .i32⟩ : BufTy).Contents (Elt F))⟩,
      ⟨S1, (StableHlo.after (hostOps0_16.take 28) (V16 m c) main_v50 : (⟨S1, .i32⟩ : BufTy).Contents (Elt F))⟩]
      concatenates_S1_S1_S1_S1_S1_S1_S6_d0 := by
    generalize V16 m c = U
    simp only [hostOps0_16, List.take_succ_cons, List.take_zero, after_cons, after_nil]
    refine (nary_result _ _ _ _ _ _).trans ?_
    rfl
  refine e.trans ?_
  clear e
  generalize StableHlo.after (hostOps0_16.take 28) (V16 m c) main_v45 = w0 at p0
  subst p0
  generalize StableHlo.after (hostOps0_16.take 28) (V16 m c) main_v46 = w1 at p1
  subst p1
  generalize StableHlo.after (hostOps0_16.take 28) (V16 m c) main_v47 = w2 at p2
  subst p2
  generalize StableHlo.after (hostOps0_16.take 28) (V16 m c) main_v48 = w3 at p3
  subst p3
  generalize StableHlo.after (hostOps0_16.take 28) (V16 m c) main_v49 = w4 at p4
  subst p4
  generalize StableHlo.after (hostOps0_16.take 28) (V16 m c) main_v50 = w5 at p5
  subst p5
  funext i
  obtain ⟨j, rfl⟩ : ∃ j : Fin 6, i = (fun k => (Fin.cast (by fin_cases k; rfl) j : Fin (S6.size k))) :=
    ⟨i 0, by funext k; fin_cases k; rfl⟩
  fin_cases j <;> rfl

end Cert.GatherIdeal.Own
-- ==== Proof.Copy.lean ====
/-
  The gathering call: at each point of its grid a device copies one block of its part of `x`, of the columns that its
  table names, into the block of the gathered array that the point names.
-/
module

public import proofs.«01_k».proof.Proof.Table
public import proofs.«01_k».proof.Proof.Gen.GatherIdeal.Skeleton
public import proofs.«01_k».proof.Proof.Gen.GatherIdeal.Launch
public import Idealize.ShloMosaic.Lib.Pipeline.Value

@[expose] public section

noncomputable section

namespace Cert.GatherIdeal.Own

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.GatherIdeal Cert.GatherIdeal.Gen

variable {F : FTy → Type} [FloatOps F]

local notation "𝕄" => MT nD τ sig Unit (Elt F) ℕ (UR sig nD τ) ℕ

/-! ## The table, and the blocks it names -/

/-- The table of device `c`, as the call reads it. -/
def tables (c : Dev nD) : pre0.Contents (Elt F) := fun | 0 => table c | ⟨_ + 1, h⟩ => absurd h (Nat.not_lt.2 (Nat.le_add_left _ _))

theorem colWord_nat : ∀ (c : Dev nD) (j : Fin 6), (colWord c j).toNat = (colNo c j).val := by decide

theorem place_table (i : grid0.Coords) : (![(Scalar.indexCast (BitVec.ofNat 32 (i 0).val)).toNat] : Fin 1 → ℕ) = ![(i 0).val] :=
  k0_off1_eq i

theorem tr0 (c : Dev nD) (i : grid0.Coords) :
    cc0_transform_0 (F := F) k0_off1_inb numel1_S1 (tables c) i = ![(i 1).val, (colNo c (i 0)).val] := by
  have h1 : (BitVec.ofNat 32 (i 1).val).toNat = (i 1).val := by
    have := (i 1).isLt
    rw [BitVec.toNat_ofNat, Nat.mod_eq_of_lt (Nat.lt_of_lt_of_le this (by decide))]
  have h0 : (Rect.unit (s := S6) (k0_off1 i) S1.size (k0_off1_inb i)).emb
      (Shape.Idx.first (by rw [show (Rect.unit (s := S6) (k0_off1 i) S1.size (k0_off1_inb i)).shape.numel = 1 from numel1_S1]; decide)) 0 = i 0 := by
    apply Fin.ext
    rw [Rect.emb_apply]
    show k0_off1 i 0 + 1 * 0 = (i 0).val
    rw [k0_off1_eq]; rfl
  have h2 : ((tables c : pre0.Contents (Elt F)).at 0 (Rect.unit (s := S6) (k0_off1 i) S1.size (k0_off1_inb i)) numel1_S1) = colWord c (i 0) :=
    congrArg (colWord c) h0
  unfold cc0_transform_0
  show ![(BitVec.ofNat 32 (i 1).val).toNat,
    BitVec.toNat ((tables c : pre0.Contents (Elt F)).at 0 (Rect.unit (s := S6) (k0_off1 i) S1.size (k0_off1_inb i)) numel1_S1)] = _
  rw [h1, h2]
  exact congrArg (fun n : ℕ => ![(i 1).val, n]) (colWord_nat c (i 0))

theorem tr1 (i : grid0.Coords) : cc0_transform_1 i = ![(i 1).val, (i 0).val] := by
  revert i; decide +kernel

theorem named_inb : ∀ (c : Dev nD) (i : grid0.Coords) (a : Fin 2),
    ((![(i 1).val, (colNo c (i 0)).val] : Fin 2 → ℕ) a + 1) * S512x512.size a ≤ S4096x4096.size a := by
  intro c i a
  have h1 : (i 1).val < 8 := (i 1).isLt
  have h2 := (colNo c (i 0)).isLt
  match a with
  | 0 => show ((i 1).val + 1) * 512 ≤ 4096; omega
  | 1 => show ((colNo c (i 0)).val + 1) * 512 ≤ 4096; omega

theorem ok_tables (c : Dev nD) : ok0 (F := F) (tables c) := fun i =>
  ⟨fun a => by rw [tr0]; exact named_inb c i a, .inr (Affine.block_words_dvd (of_decide_eq_true rfl) (by decide))⟩

/-- The tables of device `c`, the blocks that they name inside `x`. -/
def adm (c : Dev nD) : (pcfg0 (F := F)).Adm := ⟨tables c, ok_tables c⟩

/-! ## The gathered columns -/

/-- Where the entry `i` of the gathered array comes from. -/
def source (c : Dev nD) (i : S4096x3072.Idx) : S4096x4096.Idx := fun
  | 0 => i 0
  | 1 => ⟨512 * (colNo c ⟨(i 1).val / 512, by have : (i 1).val < 3072 := (i 1).isLt; show _ < 6; omega⟩).val + (i 1).val % 512, by
      have := (colNo c ⟨(i 1).val / 512, by have : (i 1).val < 3072 := (i 1).isLt; show _ < 6; omega⟩).isLt
      show _ < 4096
      omega⟩

/-- The columns that device `c` gathers. -/
def gathered (X : S4096x4096.Idx → F .bf16) (c : Dev nD) : S4096x3072.Idx → F .bf16 := fun i => X (source c i)

theorem emb_from (c : Dev nD) (t : Fin grid0.N) (y : S512x512.Idx) :
    (((win0 (adm (F := F) c) 0).rect t).emb y 0).val = 512 * (grid0.coords t 1).val + (y 0).val
      ∧ (((win0 (adm (F := F) c) 0).rect t).emb y 1).val = 512 * (colNo c (grid0.coords t 0)).val + (y 1).val := by
  have h := tr0 (F := F) c (grid0.coords t)
  constructor
  · rw [Pipeline.Window.rect_emb_val_off]
    show cc0_transform_0 (F := F) k0_off1_inb numel1_S1 (tables c) (grid0.coords t) 0 * 512 + (y 0).val = _
    rw [h]; show (grid0.coords t 1).val * 512 + _ = _; omega
  · rw [Pipeline.Window.rect_emb_val_off]
    show cc0_transform_0 (F := F) k0_off1_inb numel1_S1 (tables c) (grid0.coords t) 1 * 512 + (y 1).val = _
    rw [h]; show (colNo c (grid0.coords t 0)).val * 512 + _ = _; omega

theorem emb_to (c : Dev nD) (t : Fin grid0.N) (y : S512x512.Idx) :
    (((win0 (adm (F := F) c) 1).rect t).emb y 0).val = 512 * (grid0.coords t 1).val + (y 0).val
      ∧ (((win0 (adm (F := F) c) 1).rect t).emb y 1).val = 512 * (grid0.coords t 0).val + (y 1).val := by
  have h := tr1 (grid0.coords t)
  constructor
  · rw [Pipeline.Window.rect_emb_val_off]
    show cc0_transform_1 (grid0.coords t) 0 * 512 + (y 0).val = _
    rw [h]; show (grid0.coords t 1).val * 512 + _ = _; omega
  · rw [Pipeline.Window.rect_emb_val_off]
    show cc0_transform_1 (grid0.coords t) 1 * 512 + (y 1).val = _
    rw [h]; show (grid0.coords t 0).val * 512 + _ = _; omega

/-- The block that a point reads is the block of the gathered columns that it writes. -/
theorem source_to (c : Dev nD) (t : Fin grid0.N) (y : S512x512.Idx) :
    source c (((win0 (adm (F := F) c) 1).rect t).emb y) = ((win0 (adm (F := F) c) 0).rect t).emb y := by
  obtain ⟨f0, f1⟩ := emb_from (F := F) c t y
  obtain ⟨g0, g1⟩ := emb_to (F := F) c t y
  have y1 : (y 1).val < 512 := (y 1).isLt
  funext a
  match a with
  | 0 => exact Fin.ext (g0.trans f0.symm)
  | 1 =>
    apply Fin.ext
    refine Eq.trans ?_ f1.symm
    have e : (⟨(((win0 (adm (F := F) c) 1).rect t).emb y 1).val / 512, by
        have : (((win0 (adm (F := F) c) 1).rect t).emb y 1).val < 3072 := (((win0 (adm (F := F) c) 1).rect t).emb y 1).isLt
        show _ < 6; omega⟩ : Fin 6) = grid0.coords t 0 := by
      apply Fin.ext
      show (((win0 (adm (F := F) c) 1).rect t).emb y 1).val / 512 = _
      rw [g1]; omega
    show 512 * (colNo c ⟨(((win0 (adm (F := F) c) 1).rect t).emb y 1).val / 512, _⟩).val
      + (((win0 (adm (F := F) c) 1).rect t).emb y 1).val % 512 = _
    rw [e, g1]; omega

/-! ## Loads and stores -/

theorem own_load (c : Dev nD) {sp : CoreSpace} {s : Shape} {e : EltTy} (m : Memref sig .tc sp s e) (r : Rect s)
    {hl : m.view.LoadsAt r.toLoadRect} (q : PosShare TreeShare) (V : s.Idx → Elt F e)
    {α : Type} {Q : α → sProp 𝕄} {kt : (r.shape.Idx → Elt F e) → Prog (TpuEff nD τ sig (Elt F) Λ₀ .tc) α} :
    (owns (c.tc : Thread nD τ) m q V : sProp 𝕄)
      ⊢ iprop((owns (c.tc : Thread nD τ) m q V
            -∗ wp frame (wpE (defs₀ (F := F)) Variants.none (c.tc : Thread nD τ) none) Set.univ (kt fun i => V (r.emb i)) Q)
          -∗ wp frame (wpE (defs₀ (F := F)) Variants.none (c.tc : Thread nD τ) none) Set.univ (.op (.load m r.toLoadRect hl) kt) Q) := by
  unfold owns
  iintro ⟨%f, %hf, H⟩ Hk
  iapply (wp_load_rect Variants.none (c.tc : Thread nD τ) none Set.univ (m := m) (r := r) (View.set_slice_subset _ _)) $$ H
  iintro H
  have e : (m.access r).read (Elt F) f = fun i => V (r.emb i) := by subst hf; rfl
  rw [e]
  iapply Hk
  iexists f; isplitr; · ipureintro; exact hf
  iexact H

theorem own_store (c : Dev nD) {sp : CoreSpace} {s : Shape} {e : EltTy} (m : Memref sig .tc sp s e) (off : Fin s.rank → ℕ)
    (inb : ∀ a, off a + s.size a ≤ s.size a) (V : s.Idx → Elt F e) (w : s.Idx → Elt F e)
    {hx : (m.access (Rect.unit off s.size inb)).Stores Finset.univ} {hm}
    {α : Type} {Q : α → sProp 𝕄} {kt : PUnit → Prog (TpuEff nD τ sig (Elt F) Λ₀ .tc) α} :
    (owns (c.tc : Thread nD τ) m fullShare V : sProp 𝕄)
      ⊢ iprop((owns (c.tc : Thread nD τ) m fullShare w
            -∗ wp frame (wpE (defs₀ (F := F)) Variants.none (c.tc : Thread nD τ) none) Set.univ (kt ⟨⟩) Q)
          -∗ wp frame (wpE (defs₀ (F := F)) Variants.none (c.tc : Thread nD τ) none) Set.univ
              (.op (.store m (Rect.unit off s.size inb) w Finset.univ hx hm) kt) Q) := by
  unfold owns
  iintro ⟨%f, %hf, H⟩ Hk
  iapply (wp_store Variants.none (c.tc : Thread nD τ) none Set.univ (m := m) (r := Rect.unit off s.size inb) (Mk := Finset.univ) (View.set_slice_subset _ _)) $$ H
  iintro H
  iapply Hk
  iexists _; isplitr
  swap; · iexact H
  ipureintro
  funext i
  have hi : (Rect.unit off s.size inb).emb i = i := by
    funext a; apply Fin.ext
    show off a + 1 * (i a).val = (i a).val
    have := inb a; omega
  conv_lhs => rw [← hi]
  exact View.read_slice_write_emb _ _ _ (Finset.mem_univ i)

/-! ## The points of the call -/

variable (X : Dev nD → S4096x4096.Idx → F .bf16) (Z : Dev nD → S4096x3072.Idx → F .bf16)

def dat (c : Dev nD) : Dat τ (Elt F) Unit ℕ (UR sig nD τ) ℕ (cfg0 (adm (F := F) c)) c where
  A := fun | 0 => X c | 1 => Z c | ⟨_ + 2, h⟩ => absurd h (Nat.not_lt.2 (Nat.le_add_left _ _))
  after := fun
    | 0 => fun t y => X c (((win0 (adm (F := F) c) 0).rect t).emb y)
    | 1 => fun t y => gathered (X c) c (((win0 (adm (F := F) c) 1).rect t).emb y)
    | ⟨_ + 2, h⟩ => absurd h (Nat.not_lt.2 (Nat.le_add_left _ _))
  Φ _ := scopedRest spec0 c
  q _ := fullShare
  owed _ := 0

theorem found (c : Dev nD) (t : Fin (cfg0 (adm (F := F) c)).N) (d) :
    (dat X Z c).before 0 t d = fun y => X c (((win0 (adm (F := F) c) 0).rect t).emb y) := by
  rw [Dat.before_in_eq_fetched (dat X Z c) 0 rfl (fun _ => rfl) (fun _ _ _ => rfl) (fun _ => rfl) t d]; rfl

theorem emb_block (y : S512x512.Idx) :
    (Rect.unit (s := S512x512) ![0, 0] S512x512.size inb_S512x512_S512x512_0_0).emb y = y := by
  funext a
  apply Fin.ext
  match a with
  | 0 => show 0 + 1 * (y 0).val = (y 0).val; omega
  | 1 => show 0 + 1 * (y 1).val = (y 1).val; omega

theorem copied (c : Dev nD) (t : Fin grid0.N) :
    k0_pay1 (F := F) (fun y => X c (((win0 (adm (F := F) c) 0).rect t).emb
        ((Rect.unit (s := S512x512) ![0, 0] S512x512.size inb_S512x512_S512x512_0_0).emb y)))
      = fun y => gathered (X c) c (((win0 (adm (F := F) c) 1).rect t).emb y) := by
  unfold k0_pay1
  dsimp only
  rw [shapeCast_self]
  funext y
  show _ = X c (source c (((win0 (adm (F := F) c) 1).rect t).emb y))
  rw [source_to]
  exact congrArg (fun z => X c (((win0 (adm (F := F) c) 0).rect t).emb z)) (emb_block y)

/-- The staging buffers of a point. -/
abbrev stFrom (c : Dev nD) (t : Fin (cfg0 (adm (F := F) c)).N) : Memref sig .tc .vmem S512x512 .bf16 :=
  spec0_0.stage ((cfg0 (adm (F := F) c)).slots t 0)
abbrev stTo (c : Dev nD) (t : Fin (cfg0 (adm (F := F) c)).N) : Memref sig .tc .vmem S512x512 .bf16 :=
  spec0_1.stage ((cfg0 (adm (F := F) c)).slots t 1)

/-- The body of a point. -/
abbrev bodyAt (c : Dev nD) (t : Fin (cfg0 (adm (F := F) c)).N) : Prog (TpuEff nD τ sig (Elt F) Λ₀ .tc) PUnit :=
  cc0__prep_body (grid0.coords t) (Memref.whole main_v51) (Memref.isWhole_whole _)
    (spec0_0.stage ((cfg0 (adm (F := F) c)).slots t 0)) (hstage0_0 (((cfg0 (adm (F := F) c)).slots t 0).cast nbuf0_0))
    (spec0_1.stage ((cfg0 (adm (F := F) c)).slots t 1)) (hstage0_1 (((cfg0 (adm (F := F) c)).slots t 1).cast nbuf0_1))

theorem body (c : Dev nD) : BodyObligation (dat X Z c) (defs₀ (F := F)) Variants.none () Set.univ := fun t => by
  rw [bigSep_W0, bigSep_W0]
  show iprop((scopedRest spec0 c : sProp 𝕄) ∗ (dat X Z c).owesAt () t.castSucc
      ∗ (∃ d, owns (c.tc : Thread nD τ) (stFrom (F := F) c t) fullShare ((dat X Z c).before 0 t d))
      ∗ (∃ d, owns (c.tc : Thread nD τ) (stTo (F := F) c t) fullShare ((dat X Z c).before 1 t d)))
    ⊢ wp frame (wpE (defs₀ (F := F)) Variants.none (c.tc : Thread nD τ) none) Set.univ (bodyAt (F := F) c t) fun _ =>
      iprop((scopedRest spec0 c : sProp 𝕄) ∗ (dat X Z c).owesAt () t.succ
        ∗ owns (c.tc : Thread nD τ) (stFrom (F := F) c t) fullShare (fun y => X c (((win0 (adm (F := F) c) 0).rect t).emb y))
        ∗ owns (c.tc : Thread nD τ) (stTo (F := F) c t) fullShare (fun y => gathered (X c) c (((win0 (adm (F := F) c) 1).rect t).emb y)))
  unfold bodyAt
  rw [cc0__prep_body_eq_skeleton]; unfold cc0__prep_body_skel
  simp only [Prog.lift, Prog.bind_op, Prog.bind_ret, Prog.pure_eq_ret, Prog.bind_assoc]
  iintro ⟨HR, HO, ⟨%d0, H0⟩, ⟨%d1, H1⟩⟩
  rw [found]
  iapply (own_load c (stFrom (F := F) c t) _ fullShare _) $$ H0
  iintro H0
  iapply (own_load c (stTo (F := F) c t) _ fullShare (show S512x512.Idx → Elt F .bf16 from (dat X Z c).before 1 t d1)) $$ H1
  iintro H1
  iapply (own_store c (stTo (F := F) c t) _ _ _ _) $$ H1
  iintro H1
  rw [wp_ret]
  imodintro
  isplitl [HR]; · iexact HR
  isplitl [HO]; · iexact HO
  isplitl [H0]; · iexact H0
  have hs := congrArg (fun w => (owns (c.tc : Thread nD τ) (stTo (F := F) c t) fullShare w : sProp 𝕄)) (copied X c t)
  iapply (Entails.of_eq hs)
  iexact H1

/-! ## What the call leaves -/

theorem kept (c : Dev nD) : (dat X Z c).arrAt 0 (cfg0 (adm (F := F) c)).N = X c := Dat.arrAt_in _ 0 rfl _

theorem flush_to (c : Dev nD) (t : Fin grid0.N) : (win0 (adm (F := F) c) 1).flush t = true :=
  (Pipeline.Window.flush_reads (win0 (adm (F := F) c) 1) rfl 1 (by decide) (show grid0.fixedAfter reads0_1 1 = true by decide)
    (Pipeline.Window.sep_of_coord cc0_transform_1 1 0 (fun _ => rfl) (by decide)) (P := 1) (m := 0) (by decide) rfl t).mpr (Nat.mod_one _)

theorem coordOuter : ∀ t : Fin grid0.N, (grid0.coords t 0).val = t.val / 8 := by decide +kernel
theorem coordInner : ∀ t : Fin grid0.N, (grid0.coords t 1).val = t.val % 8 := by decide +kernel

theorem left (c : Dev nD) : (dat X Z c).arrAt 1 (cfg0 (adm (F := F) c)).N = gathered (X c) c := by
  refine Dat.arrAt_eq_of_cover (dat X Z c) 1 _ (fun t ht => rfl) (fun (i : S4096x3072.Idx) => ?_)
  have h0 : (i 0).val < 4096 := (i 0).isLt
  have h1 : (i 1).val < 3072 := (i 1).isLt
  let t : Fin grid0.N := ⟨8 * ((i 1).val / 512) + (i 0).val / 512, by rw [N_0]; omega⟩
  let y : S512x512.Idx := fun | 0 => ⟨(i 0).val % 512, Nat.mod_lt _ (by decide)⟩ | 1 => ⟨(i 1).val % 512, Nat.mod_lt _ (by decide)⟩
  refine ⟨t, flush_to (F := F) c t, ?_⟩
  have : i = ((win0 (adm (F := F) c) 1).blk t).view.emb y := by
    obtain ⟨g0, g1⟩ := emb_to (F := F) c t y
    rw [coordOuter] at g1
    rw [coordInner] at g0
    have ht : t.val = 8 * ((i 1).val / 512) + (i 0).val / 512 := rfl
    funext a
    match a with
    | 0 => apply Fin.ext; refine Eq.trans ?_ g0.symm; rw [ht]; show (i 0).val = _ + (i 0).val % 512; omega
    | 1 => apply Fin.ext; refine Eq.trans ?_ g1.symm; rw [ht]; show (i 1).val = _ + (i 1).val % 512; omega
  rw [this]
  exact Finset.mem_map_of_mem _ (Finset.mem_univ _)

end Cert.GatherIdeal.Own

end
-- ==== Proof.GatherRun.lean ====
/-
  The gathering program's run: the host reckons each device's table, and the call copies the blocks that it names.
-/
module

public import proofs.«01_k».proof.Proof.Copy
public import Idealize.ShloMosaic.Lib.Pipeline.FrameTail

@[expose] public section

noncomputable section

namespace Cert.GatherIdeal.Own

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.GatherIdeal Cert.GatherIdeal.Gen

variable {F : FTy → Type} [FloatOps F]

local notation "𝕄" => MT nD τ sig Unit (Elt F) ℕ (UR sig nD τ) ℕ

variable (m : (ℓ : Loc nD τ sig) → Buf (Elt F) ℓ)

/-- Each device's tables. -/
abbrev adms : Dev nD → (p : Fin 1) → (pcfgs (F := F) p).Adm := fun c _ => adm c

theorem cells_apart : Function.Injective (PerCore.cellOf (nD := nD) (τ := τ) (pinD (pcfgs (F := F)) adms)) :=
  PerCore.cellOf_injective _
    (fun _ p => Pipeline.specSemsDistinct_of_nodup _ (show (specSems spec0).Nodup from semsDistinct 0))
    (fun _ p p' h => absurd (Subsingleton.elim p p') h)

/-- `x` and the gathered array as the call finds them. -/
abbrev xIn (c : Dev nD) : S4096x4096.Idx → F .bf16 := V17 m c main_arg0
abbrev zIn (c : Dev nD) : S4096x3072.Idx → F .bf16 := V17 m c main_v52

abbrev dats (p : Fin 1) (c : Dev nD) : Dat τ (Elt F) Unit ℕ (UR sig nD τ) ℕ (pinD (pcfgs (F := F)) adms c p) c :=
  dat (xIn m) (zIn m) c

theorem xIn_eq (c : Dev nD) : xIn m c = m ((c.tc : Thread nD τ).loc main_arg0) := by
  have h := V18_main_arg0 m (fun _ r c => V17 m c r) c
  rw [V18_of m (fun _ r c => V17 m c r) c main_arg0 (by decide)] at h
  exact h

theorem whole_shares (c : Dev nD) (w : Fin 2) : (dats m 0 c).share w = fullShare := by fin_cases w <;> rfl

abbrev noL : GSem nD τ sig → Finset Unit := fun _ => ∅
abbrev nolv : GSem nD τ sig → Unit → ℕ := fun _ _ => 0

/-- What rides beside the buffers: the core owing nothing. -/
abbrev ride : Fin 2 → Dev nD → sProp 𝕄 := fun
  | 0 => fun c => owes (c.tc : Thread nD τ) (0 : CellTallies nD τ sig Unit) ∅
  | 1 => fun c => iprop(∃ W, owes (c.tc : Thread nD τ) (0 : CellTallies nD τ sig Unit) W)

/-- What a core holds in the end: `x` as it was, and the gathered columns. -/
abbrev ends (c : Dev nD) : sProp 𝕄 := (dats m 0 c).arrays ((dats m 0 c).arrAt · (pinD (pcfgs (F := F)) adms c 0).N)

set_option backward.isDefEq.respectTransparency.types false in
def region : PerCore.RegionSeg (pcfgs (F := F)) adms (dats m) () defs₀ Variants.none noL nolv 0 where
  win := winFacts0.to₀
  block_pos := block_pos0
  stage_whole := stage_whole0
  K := PEmpty
  osem := fun k => k.elim
  ho := OwnSemFacts.none _
  hbody := fun c => (body (xIn m) (zIn m) c).loose
  hwaits := PerCore.hwaits_of_owed_zero (pcfgs (F := F)) adms (dats m) () noL nolv 0 (fun _ _ => rfl)
  pre := fun c => iprop(StableHlo.held (c.tc : Thread nD τ) (Pipeline.ucRefs τ sig) (V17 m c) ∗ ride 0 c)
  post := fun c => iprop(ends m c ∗ ride 1 c)
  X := fun _ => iprop(emp)
  Y := fun _ => iprop(emp)
  Z := fun _ => iprop(emp)
  hentry := fun c => by
    rw [ownSems0_none,
      show StableHlo.held (c.tc : Thread nD τ) (ucRefs τ sig) (V17 m c) = unscopedBufs c (fun b => V17 m c (Proc.devRef .tc b))
        from (unscopedBufs_held (Ix := Unit) (Name := ℕ) (U := UR sig nD τ) (Lvl := ℕ) c (V17 m c)).symm]
    have hsplit := PerCore.arrays_of_unscopedBufs (p := 0) (pcfgs (F := F)) adms (dats m) winFacts0 arr_whole0 c (whole_shares m c)
      (fun b => V17 m c (Proc.devRef .tc b)) (fun w => by fin_cases w <;> rfl)
    have hpre := unscopedRest_split (Ix := Unit) (Name := ℕ) (U := UR sig nD τ) (Lvl := ℕ) preFacts0 c
      (fun b => V17 m c (Proc.devRef .tc b))
    have htab : (fun k => V17 m c (Proc.devRef .tc (pre0.ref k)) : pre0.Contents (Elt F)) = tables c := by
      funext k
      fin_cases k
      exact V17_table m c
    iintro ⟨⟨Hub, HO⟩, -, -⟩
    ihave H := hsplit $$ Hub
    icases H with ⟨Ha, Hrest⟩
    ihave Hrest := (Entails.of_eq hpre) $$ Hrest
    icases Hrest with ⟨Hp, -⟩
    imodintro
    isplitl [Ha]; · iexact Ha
    isplitl [Hp]
    · iapply (Entails.of_eq (congrArg (fun T => (prefHeld pre0 c (fun _ => fullShare) T : sProp 𝕄)) htab))
      iexact Hp
    isplitl [HO]
    · unfold Dat.owesAt owesWithin
      iexists ∅; isplitr; · ipureintro; simp
      iexact HO
    isplitr; · iempintro
    iempintro
  hin := fun c => by
    show _ ⊢ (scopedRest spec0 c : sProp 𝕄)
    iintro ⟨-, -, Hr⟩
    iexact Hr
  hout := fun c => by
    show (scopedRest spec0 c : sProp 𝕄) ⊢ _
    rw [ownSems0_none]
    iintro Hr
    isplitr; · iempintro
    isplitr; · iempintro
    iexact Hr
  hexit := fun c => by
    iintro ⟨Ha, HO, -, -⟩
    imodintro
    isplitl [Ha]; · iexact Ha
    unfold Dat.owesAt owesWithin
    icases HO with ⟨%W, -, HO⟩; iexists W; iexact HO

/-- The program of a core, stretch by stretch. -/
abbrev parts (c : Dev nD) : List (PerCore.Seg (pcfgs (F := F)) adms (dats m) () defs₀ Variants.none noL nolv) :=
  [.host (seg0 m Variants.none noL nolv ride c), .host (seg1 m Variants.none noL nolv ride), .host (seg2 m Variants.none noL nolv ride),
    .host (seg3 m Variants.none noL nolv ride), .host (seg4 m Variants.none noL nolv ride), .host (seg5 m Variants.none noL nolv ride),
    .host (seg6 m Variants.none noL nolv ride), .host (seg7 m Variants.none noL nolv ride), .host (seg8 m Variants.none noL nolv ride),
    .host (seg9 m Variants.none noL nolv ride), .host (seg10 m Variants.none noL nolv ride), .host (seg11 m Variants.none noL nolv ride),
    .host (seg12 m Variants.none noL nolv ride), .host (seg13 m Variants.none noL nolv ride), .host (seg14 m Variants.none noL nolv ride),
    .host (seg15 m Variants.none noL nolv ride), .host (seg16 m Variants.none noL nolv ride), .region (region m)]

set_option backward.isDefEq.respectTransparency.types false in
/-- Every run ends, every device's `x` as it was and its result the columns it gathers, every counter at zero. -/
theorem run_gather (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_v52) = gathered (m ((c.tc : Thread nD τ).loc main_arg0)) c)
      ∧ r.2.sem = fun _ => 0) := by
  refine PerCore.θ_run_regions_kit_sems (pcfgs (F := F)) adms (dats m) () cells_apart emb₁ defs₀ Variants.none noL nolv m ρ main
    (parts m)
    (fun c Q => by
      rewrite [main_chain c, PerCore.Seg.run_eq_chain,
        show (parts m c).map PerCore.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          Prog.lift (.customCall (Pipeline.entry 0) ()) ] from rfl]
      dsimp (config := { failIfUnchanged := false }) only
      exact .rfl)
    (fun c => by simp only [parts, PerCore.Seg.pipes_host, PerCore.Seg.pipes_region, PerCore.Seg.pipes_nil]; decide)
    (O₀ := 0) (hL := fun _ _ => rfl) (G := fun _ => iprop(emp))
    (u₀ := initOf (PerCore.cells (pinD (pcfgs (F := F)) adms) cells_apart) (PerCore.launchToks (pinD (pcfgs (F := F)) adms) cells_apart))
    (hu₀ := by
      iintro Hu; imodintro
      isplitl [Hu]
      · iapply (show (ownU _ : sProp 𝕄) ⊢ BI.own (emb₁ (initOf (PerCore.cells (pinD (pcfgs (F := F)) adms) cells_apart)
          (PerCore.launchToks (pinD (pcfgs (F := F)) adms) cells_apart))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ ride 0 c))
    (Tₙ := fun c => ends m c)
    (hch := fun c => ⟨.rfl, .rfl, .rfl, .rfl, .rfl, .rfl, .rfl, .rfl, .rfl, .rfl, .rfl, .rfl, .rfl, .rfl, .rfl, .rfl, .rfl, .rfl, .rfl⟩)
    (hinit := by
      refine initEach noL nolv fun c => ?_
      rw [show unscopedBufs c (fun b => m ((c.tc : Thread nD τ).loc b)) = StableHlo.held (c.tc : Thread nD τ) (ucRefs τ sig) (V0 m c)
          from unscopedBufs_held (Ix := Unit) (Name := ℕ) (U := UR sig nD τ) (Lvl := ℕ) c (V0 m c)]
      iintro ⟨⟨Hh, -, HO, -, -, -⟩, -⟩
      imodintro
      isplitl [Hh]; · iexact Hh
      iexact HO)
    (QY := fun c s => s.mem ((c.tc : Thread nD τ).loc main_arg0) = m ((c.tc : Thread nD τ).loc main_arg0)
      ∧ s.mem ((c.tc : Thread nD τ).loc main_v52) = gathered (m ((c.tc : Thread nD τ).loc main_arg0)) c)
    (hfin := fun c s' => by
      have hr := PerCore.arrays_read (p := 0) (pcfgs (F := F)) adms (dats m) arr_whole0 c (whole_shares m c)
        ((dats m 0 c).arrAt · (pinD (pcfgs (F := F)) adms c 0).N) s'
      iintro H
      ihave Hr := hr $$ H
      icases Hr with ⟨%h, HSI⟩
      imodintro
      isplitr
      · ipureintro
        exact ⟨(h 0).trans ((kept (xIn m) (zIn m) c).trans (xIn_eq m c)),
          (h 1).trans ((left (xIn m) (zIn m) c).trans (congrArg (fun X => gathered X c) (xIn_eq m c)))⟩
      · iexact HSI)
    (hQ := fun _ h hz => ⟨h, funext fun g => hz g (.inr (regions_no_unscoped g.2))⟩)

end Cert.GatherIdeal.Own

end
-- ==== Proof.GatherText.lean ====
/-
  The gathering program as printed and as idealized: one text. The records of the helper functions are types of their own in
  each of the two, so the helpers' calls are carried over one by one, and the rest of `@main` is compared as it stands.
-/
module

public import proofs.«01_k».proof.Defs
public import proofs.«01_k».proof.Proof.Gen.Gather
public import proofs.«01_k».proof.Proof.Gen.GatherIdeal

@[expose] public section

noncomputable section

namespace Cert.Proof

open Idealize.ShloMosaic Idealize.SL.Sem

/-- A call's record in the one program as a record of the other. -/
def whereBufs (φ : Cert.Gather.fn_where.Bufs) : Cert.GatherIdeal.fn_where.Bufs := ⟨φ.v0⟩
def remBufs (φ : Cert.Gather.fn_remainder.Bufs) : Cert.GatherIdeal.fn_remainder.Bufs :=
  ⟨φ.v0, φ.c, φ.v1, φ.c_0, whereBufs φ.call0, φ.v3, φ.c_1, φ.v4, φ.c_2, φ.v5, φ.c_3, φ.v6, φ.v7, φ.v8, φ.v9, φ.v10⟩

theorem where_eq (a b c) (φ : Cert.Gather.fn_where.Bufs) :
    Cert.Gather.fn_where.body (F := Bits) a b c φ = Cert.GatherIdeal.fn_where.body (F := Bits) a b c (whereBufs φ) := rfl
theorem remainder_eq (a b) (φ : Cert.Gather.fn_remainder.Bufs) :
    Cert.Gather.fn_remainder.body (F := Bits) a b φ = Cert.GatherIdeal.fn_remainder.body (F := Bits) a b (remBufs φ) := by
  unfold Cert.Gather.fn_remainder.body Cert.GatherIdeal.fn_remainder.body
  rw [where_eq]
  rfl

set_option maxHeartbeats 1000000 in
theorem part0_eq (d : Dev Cert.GatherIdeal.nD) :
    Cert.Gather.main_part0 (F := Bits) d = Cert.GatherIdeal.main_part0 (F := Bits) d := by
  unfold Cert.Gather.main_part0 Cert.GatherIdeal.main_part0
  simp only [remainder_eq, where_eq]
  rfl
set_option maxHeartbeats 1000000 in
theorem part1_eq (d : Dev Cert.GatherIdeal.nD) :
    Cert.Gather.main_part1 (F := Bits) d = Cert.GatherIdeal.main_part1 (F := Bits) d := rfl
theorem gather_main_eq : Cert.Gather.main (F := Bits) = Cert.GatherIdeal.main (F := Bits) := funext fun d => by
  unfold Cert.Gather.main Cert.GatherIdeal.main
  rw [part0_eq, part1_eq]
  rfl

/-- The body tables are compared at the one label. -/
theorem gather_bodies_eq : Cert.Gather.defs₀ (F := Bits) = Cert.GatherIdeal.defs₀ (F := Bits) := by
  unfold Cert.Gather.defs₀ Cert.GatherIdeal.defs₀
  refine congrArg Defs.onTc ?_
  funext l x
  match l, x with
  | 0, _ => rfl
theorem gather_defs_eq : Cert.Gather.defs (F := Bits) = Cert.GatherIdeal.defs (F := Bits) :=
  congrArg (Pipeline.defs (Cert.GatherIdeal.pcfgs (F := Bits))) gather_bodies_eq

end Cert.Proof

end
-- ==== Proof.MatchGather.lean ====
/-
  The gathering program against plain slices: each device's gathered columns are its block of the reference's result.
-/
module

public import proofs.«01_k».proof.Proof.Copy
public import proofs.«01_k».proof.Proof.Gen.ColumnsIdeal
public import proofs.«01_k».proof.Proof.Gen.ColumnsIdeal.Run
public import Idealize.ShloMosaic.PureOps.Ideal
public import Idealize.ShloMosaic.Lib.Layout
public import Idealize.ShloMosaic.Lib.Pipeline.Value

@[expose] public section

noncomputable section

namespace Cert.MatchGather

open Idealize.ShloMosaic Idealize.ShloMosaic.TcCoe
open Cert.ColumnsIdeal Cert.ColumnsIdeal.Gen
open Cert.GatherIdeal.Own (colNo source gathered)

theorem sl_half (d : Fin 8) : S8192x4096.Slices ![4096 * ((d.val / 2) % 2), 0] S4096x4096 := by revert d; decide +kernel
theorem sl_col (b : Fin 8) : S4096x4096.Slices ![0, 512 * b.val] S4096x512 := by revert b; decide +kernel

variable (x : FVec Ideal S8192x4096 .bf16)

/-- Column block `b` of the half of the rows that device `d` holds. -/
def part (d : Fin 8) (b : Fin 8) : FVec Ideal S4096x512 .bf16 :=
  extractStridedSlice S4096x512 ![0, 512 * b.val] (extractStridedSlice S4096x4096 ![4096 * ((d.val / 2) % 2), 0] x (sl_half d)) (sl_col b)
/-- The six blocks of device `d` side by side. -/
def six (d : Fin 8) : FVec Ideal S4096x3072 .bf16 := concatenate S4096x3072 1
  (List.ofFn fun j : Fin 6 => (⟨S4096x512, part x d (colNo d j)⟩ : (s : Shape) × (s.Idx → EReal)))
  concatenates_S4096x512_S4096x512_S4096x512_S4096x512_S4096x512_S4096x512_S4096x3072_d1
def refCols : FVec Ideal S32768x3072 .bf16 := concatenate S32768x3072 0
  (List.ofFn fun d : Fin 8 => (⟨S4096x3072, six x d⟩ : (s : Shape) × (s.Idx → EReal)))
  concatenates_S4096x3072_S4096x3072_S4096x3072_S4096x3072_S4096x3072_S4096x3072_S4096x3072_S4096x3072_S32768x3072_d0

/-- The reference's value is made of these parts. -/
theorem ref_eq (m : (ℓ : Loc nD τ sig) → Buf (Elt Ideal) ℓ) (c : Dev nD) :
    Cert.ColumnsIdeal.Value.res_main_v58 m c = refCols (m (c.tc.loc main_arg0)) := rfl

/-- What a device holds of the argument. -/
def held (c : Fin 8) : S4096x4096.Idx → EReal :=
  Layout.blockN ⟨2, ![4096, 4096]⟩ ⟨2, ![8192, 4096]⟩ (Layout.meshBlock [2, 2, 2] ![[1], []] c) x

theorem meshRow (c : Fin 8) : Layout.meshLin [2, 2, 2] c.val [1] = (c.val / 2) % 2 := by revert c; decide

theorem six_eq (d : Fin 8) : six x d = gathered (F := Ideal) (held x d) d := by
  funext i
  have h1 : (i 1).val < 3072 := (i 1).isLt
  refine (concatenate_ofFn_apply (s₁ := S4096x512) (t := S4096x3072) 1 (fun j => part x d (colNo d j)) _ rfl 512 rfl i
    ⟨(i 1).val / 512, by omega⟩ rfl (fun | 0 => i 0 | 1 => ⟨(i 1).val % 512, Nat.mod_lt _ (by decide)⟩) rfl
    (fun b hb => by match b with | 0 => rfl | 1 => exact absurd rfl hb)).trans ?_
  refine congrArg x (funext fun a => ?_)
  match a with
  | 0 => exact Fin.ext (show 4096 * ((d.val / 2) % 2) + (0 + (i 0).val) = Layout.meshLin [2, 2, 2] d.val [1] * 4096 + (i 0).val by
      rw [meshRow]; omega)
  | 1 =>
    refine Fin.ext ?_
    show 0 + (512 * (colNo d ⟨(i 1).val / 512, _⟩).val + (i 1).val % 512)
      = 0 * 4096 + (512 * (colNo d ⟨(i 1).val / 512, _⟩).val + (i 1).val % 512)
    omega

/-- Each device's gathered columns are its block of the reference's result. -/
theorem cols_eq (c : Fin 8) :
    gathered (F := Ideal) (held x c) c = Layout.block ⟨2, ![4096, 3072]⟩ ⟨2, ![32768, 3072]⟩ 0 8 c (refCols x) :=
  (six_eq x c).symm.trans
    (Layout.block_concatenate_ofFn (s₁ := S4096x3072) (t := S32768x3072) 0 (six x) _ _ c).symm

end Cert.MatchGather

end
-- ==== Proof.lean ====
/- The claims of the certificate: the frames of the kernel (as printed and idealized) and of the reference, and that the
   idealized kernel keeps the kernel's own text, and the value of its result against the reference's; and the same of the
   program that gathers the columns. Each run is proved once, over any float values (Proof/Run.lean, Proof/GatherRun.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Gather
public import proofs.«01_k».proof.Proof.Gen.GatherIdeal
public import proofs.«01_k».proof.Proof.Gen.ColumnsIdeal
public import proofs.«01_k».proof.Proof.Gen.ColumnsIdeal.Run
public import proofs.«01_k».proof.Proof.Run
public import proofs.«01_k».proof.Proof.Match
public import proofs.«01_k».proof.Proof.GatherRun
public import proofs.«01_k».proof.Proof.GatherText
public import proofs.«01_k».proof.Proof.MatchGather
public import Idealize.ShloMosaic.Adequacy
public import Idealize.ShloMosaic.Init

@[expose] public section

noncomputable section

namespace Cert.Proof

open Idealize.ShloMosaic Idealize.SL.Sem

/-- Over any float values the kernel runs, its arguments end unchanged and every counter is zero again. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Own.run_main m ρ)

/-- The two programs have the same text, call by call; their body tables are compared at each of the two labels. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | 0, _ => rfl
  | 1, _ => rfl
theorem defs_eq : Cert.Kernel.defs (F := Bits) = Cert.KernelIdeal.defs (F := Bits) :=
  congrArg (Pipeline.defs (Cert.KernelIdeal.pcfgs (F := Bits))) bodies_eq

/-- The kernel as printed runs as the idealized kernel does, at machine floats. -/
theorem frame_kernel : Cert.quiescent_Kernel := fun m ρ _ => by
  rw [defs_eq]
  exact frame_any (F := Bits) m ρ

theorem frame_ideal : Cert.quiescent_KernelIdeal := fun m ρ _ => frame_any (F := Ideal) m ρ

/-- The reference writes neither argument and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Each device of the kernel ends with its block of the reference's result. -/
theorem value : Cert.algebraic_KernelIdeal_ReferenceIdeal := fun m g m' g' _ hm => by
  have hx : (fun c : Dev Cert.KernelIdeal.nD => m (c.tc.loc Cert.KernelIdeal.main_arg0))
      = Cert.Match.xBlk (m' ((0 : Dev Cert.ReferenceIdeal.nD).tc.loc Cert.ReferenceIdeal.main_arg0)) := funext fun c => (hm c).1
  have hd : (fun c : Dev Cert.KernelIdeal.nD => m (c.tc.loc Cert.KernelIdeal.main_arg1))
      = Cert.Match.dBlk (m' ((0 : Dev Cert.ReferenceIdeal.nD).tc.loc Cert.ReferenceIdeal.main_arg1)) := funext fun c => (hm c).2
  have hk := Cert.KernelIdeal.Own.run_main (F := Ideal) m g
  rw [hx, hd] at hk
  refine ⟨Cert.ReferenceIdeal.Value.res_main_v48 m' 0, ?_, ?_⟩
  · refine (θ_run Cert.KernelIdeal.defs _ _).mono (fun r h c => ⟨?_, (h.1 c).2⟩) hk
    rw [Cert.Match.ref_eq]
    exact (h.1 c).1.trans (Cert.Match.total_eq _ _ c)
  · exact (θ_run Cert.ReferenceIdeal.defs _ _).mono (fun r h => h 0) (Cert.ReferenceIdeal.Value.run (F := Ideal) m' g')

/-! ## The gather of the columns -/

/-- Over any float values the gathering program runs, its argument ends unchanged and every counter is zero again. -/
theorem frame_gather_any {F : FTy → Type} [FloatOps F]
    (m : (ℓ : Loc Cert.GatherIdeal.nD Cert.GatherIdeal.τ Cert.GatherIdeal.sig) → Buf (Elt F) ℓ) (ρ : Dev Cert.GatherIdeal.nD → PrngReg) :
    θ_run (Cert.GatherIdeal.defs (F := F)) (onTc (τ := Cert.GatherIdeal.τ) (Cert.GatherIdeal.main (F := F))) ⟨m, fun _ => 0, ρ⟩ (fun r =>
      (∀ c : Dev Cert.GatherIdeal.nD,
        r.2.mem ((c.tc : Thread Cert.GatherIdeal.nD Cert.GatherIdeal.τ).loc Cert.GatherIdeal.main_arg0)
          = m ((c.tc : Thread Cert.GatherIdeal.nD Cert.GatherIdeal.τ).loc Cert.GatherIdeal.main_arg0))
      ∧ r.2.sem = fun _ => 0) :=
  (θ_run Cert.GatherIdeal.defs _ _).mono (fun _ h => ⟨fun c => (h.1 c).1, h.2⟩) (Cert.GatherIdeal.Own.run_gather m ρ)

/-- The gathering program as printed runs as the idealized one does, at machine floats. -/
theorem frame_gather : Cert.quiescent_Gather := fun m ρ _ => by
  rw [gather_defs_eq, gather_main_eq]
  exact frame_gather_any (F := Bits) m ρ

theorem frame_gather_ideal : Cert.quiescent_GatherIdeal := fun m ρ _ => frame_gather_any (F := Ideal) m ρ

/-- The slicing reference does not write its argument and declares no semaphore. -/
theorem frame_columns : Cert.quiescent_ColumnsIdeal := fun m ρ _ =>
  (θ_run Cert.ColumnsIdeal.defs _ _).mono
    (fun r h => ⟨fun c => (h c).2, sem_eq_zero_of_no_sems (by decide) r.2⟩) (Cert.ColumnsIdeal.Value.run (F := Ideal) m ρ)

/-- Each device gathers its block of the slicing reference's result. -/
theorem value_gather : Cert.algebraic_GatherIdeal_ColumnsIdeal := fun m g m' g' _ hm => by
  refine ⟨Cert.ColumnsIdeal.Value.res_main_v58 m' 0, ?_, ?_⟩
  · refine (θ_run Cert.GatherIdeal.defs _ _).mono (fun r h c => ⟨?_, (h.1 c).1⟩) (Cert.GatherIdeal.Own.run_gather (F := Ideal) m g)
    rw [Cert.MatchGather.ref_eq]
    exact (h.1 c).2.trans ((congrArg (Cert.GatherIdeal.Own.gathered (F := Ideal) · c) (hm c)).trans (Cert.MatchGather.cols_eq _ c))
  · exact (θ_run Cert.ColumnsIdeal.defs _ _).mono (fun r h => h 0) (Cert.ColumnsIdeal.Value.run (F := Ideal) m' g')

theorem claim : Cert.Claim :=
  ⟨Cert.Kernel.Gen.facts, Cert.KernelIdeal.Gen.facts, Cert.ReferenceIdeal.Gen.facts,
    Cert.Gather.Gen.facts, Cert.GatherIdeal.Gen.facts, Cert.ColumnsIdeal.Gen.facts,
    frame_kernel, frame_ideal, frame_reference, frame_gather, frame_gather_ideal, frame_columns,
    trivial, value, trivial, value_gather⟩

end Cert.Proof

end
